-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_penalty_at_least_one [hPre_penalty_at_least_one : Cert.Pre_penalty_at_least_one.Facts] (m : (ℓ : Loc Cert.KernelIdeal.nD Cert.KernelIdeal.τ Cert.KernelIdeal.sig) → Buf (Elt Ideal) ℓ) : Prop :=
  ∀ c : Dev Cert.KernelIdeal.nD,
    (Cert.Pre_penalty_at_least_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_penalty_at_least_one [hPre_penalty_at_least_one : Cert.Pre_penalty_at_least_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_penalty_at_least_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_penalty_at_least_one [hKernelIdeal : Cert.KernelIdeal.Facts] [hPre_penalty_at_least_one : Cert.Pre_penalty_at_least_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_penalty_at_least_one m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_penalty_at_least_one [hReferenceIdeal : Cert.ReferenceIdeal.Facts] [hPre_penalty_at_least_one : Cert.Pre_penalty_at_least_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_penalty_at_least_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_penalty_at_least_one [hKernelIdeal : Cert.KernelIdeal.Facts] [hReferenceIdeal : Cert.ReferenceIdeal.Facts] [hPre_penalty_at_least_one : Cert.Pre_penalty_at_least_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_penalty_at_least_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_penalty_at_least_one : Cert.Pre_penalty_at_least_one.Facts),
    quiescent_Kernel (hKernel := hKernel)
    ∧ quiescent_KernelIdeal (hKernelIdeal := hKernelIdeal)
    ∧ quiescent_KernelIdeal_pre_penalty_at_least_one (hKernelIdeal := hKernelIdeal) (hPre_penalty_at_least_one := hPre_penalty_at_least_one)
    ∧ quiescent_ReferenceIdeal (hReferenceIdeal := hReferenceIdeal)
    ∧ quiescent_ReferenceIdeal_pre_penalty_at_least_one (hReferenceIdeal := hReferenceIdeal) (hPre_penalty_at_least_one := hPre_penalty_at_least_one)
    ∧ preserves_Kernel_KernelIdeal
    ∧ algebraic_KernelIdeal_ReferenceIdeal_pre_penalty_at_least_one (hKernelIdeal := hKernelIdeal) (hReferenceIdeal := hReferenceIdeal) (hPre_penalty_at_least_one := hPre_penalty_at_least_one)
-- ==== Pre_penalty_at_least_one.lean ====
abbrev S128x1x100000 : Shape := ⟨3, ![128, 1, 100000]⟩
abbrev S128x1 : Shape := ⟨2, ![128, 1]⟩
abbrev S128x100000 : Shape := ⟨2, ![128, 100000]⟩
abbrev S_ : Shape := ⟨0, ![]⟩

class Facts : Prop where
  bcast_S_S128x1 : S_.BroadcastsInDim S128x1 (![] : Fin 0 → Fin S128x1.rank)
  reducesTo_S128x1_S_d0_1 : S128x1.ReducesTo [0, 1] S_
  h_S_ : 0 < S_.numel

variable [Facts]

def fn {F : FTy → Type} [FloatOps F] (main_arg0 : FVec F S128x1x100000 .f32) (main_arg1 : FVec F S128x1 .f32) (main_arg2 : IVec S128x100000 32) : IVec S_ 1 :=
  let main_cst : FVec F S_ .f32 := constant S_ .f32 0x3F800000#32
  let main_v0 : FVec F S128x1 .f32 := broadcastInDim S128x1 ![] bcast_S_S128x1 main_cst
  let main_v1 : IVec S128x1 1 := cmpf .oge main_arg1 main_v0
  let main_c : IVec S_ 1 := constantI S_ 1 1#1
  let main_v2 : IVec S_ 1 := (fun x v => Host.reduce IntOp.andi x v reducesTo_S128x1_S_d0_1 h_S_) main_v1 main_c
  main_v2
-- ==== Kernel.lean ====
abbrev S128x1x100000 : Shape := ⟨3, ![128, 1, 100000]⟩
abbrev S128x1 : Shape := ⟨2, ![128, 1]⟩
abbrev S128x100000 : Shape := ⟨2, ![128, 100000]⟩
abbrev S100000x128 : Shape := ⟨2, ![100000, 128]⟩
abbrev S128 : Shape := ⟨1, ![128]⟩
abbrev S1x128 : Shape := ⟨2, ![1, 128]⟩
abbrev S4096 : Shape := ⟨1, ![4096]⟩
abbrev S2x200x128 : Shape := ⟨3, ![2, 200, 128]⟩
abbrev S_ : Shape := ⟨0, ![]⟩
abbrev S16 : Shape := ⟨1, ![16]⟩
abbrev S1x200x128 : Shape := ⟨3, ![1, 200, 128]⟩
abbrev S200x128 : Shape := ⟨2, ![200, 128]⟩
abbrev S1x1x16 : Shape := ⟨3, ![1, 1, 16]⟩
abbrev S8000x128 : Shape := ⟨2, ![8000, 128]⟩
abbrev S8x128 : Shape := ⟨2, ![8, 128]⟩
abbrev S1000x8x128 : Shape := ⟨3, ![1000, 8, 128]⟩
abbrev S1x8x128 : Shape := ⟨3, ![1, 8, 128]⟩
abbrev S32x128 : Shape := ⟨2, ![32, 128]⟩

abbrev nBuf : Table → Nat
  | .hbm => 16
  | .local .tc .vmem => 14
  | .local .scVector .vmem => 5
  | _ => 0

abbrev bufTy : (tb : Table) → Fin (nBuf tb) → BufTy
  | .hbm, ⟨0, _⟩ => ⟨S128x1x100000, .f32⟩
  | .hbm, ⟨1, _⟩ => ⟨S128x1, .f32⟩
  | .hbm, ⟨2, _⟩ => ⟨S128x100000, .i32⟩
  | .hbm, ⟨3, _⟩ => ⟨S128x100000, .f32⟩
  | .hbm, ⟨4, _⟩ => ⟨S100000x128, .f32⟩
  | .hbm, ⟨5, _⟩ => ⟨S100000x128, .i32⟩
  | .hbm, ⟨6, _⟩ => ⟨S128, .f32⟩
  | .hbm, ⟨7, _⟩ => ⟨S1x128, .f32⟩
  | .hbm, ⟨8, _⟩ => ⟨S4096, .f32⟩
  | .hbm, ⟨9, _⟩ => ⟨S4096, .i32⟩
  | .hbm, ⟨10, _⟩ => ⟨S1x128, .f32⟩
  | .hbm, ⟨11, _⟩ => ⟨S1x128, .i32⟩
  | .hbm, ⟨12, _⟩ => ⟨S32x128, .f32⟩
  | .hbm, ⟨13, _⟩ => ⟨S32x128, .i32⟩
  | .hbm, ⟨14, _⟩ => ⟨S1x128, .i32⟩
  | .hbm, ⟨15, _⟩ => ⟨S128x1, .i32⟩
  | .local .tc .vmem, ⟨0, _⟩ => ⟨S8000x128, .f32⟩
  | .local .tc .vmem, ⟨1, _⟩ => ⟨S8000x128, .f32⟩
  | .local .tc .vmem, ⟨2, _⟩ => ⟨S8000x128, .i32⟩
  | .local .tc .vmem, ⟨3, _⟩ => ⟨S8000x128, .i32⟩
  | .local .tc .vmem, ⟨4, _⟩ => ⟨S1x128, .f32⟩
  | .local .tc .vmem, ⟨5, _⟩ => ⟨S1x128, .f32⟩
  | .local .tc .vmem, ⟨6, _⟩ => ⟨S1x128, .i32⟩
  | .local .tc .vmem, ⟨7, _⟩ => ⟨S8x128, .f32⟩
  | .local .tc .vmem, ⟨8, _⟩ => ⟨S8x128, .i32⟩
  | .local .tc .vmem, ⟨9, _⟩ => ⟨S32x128, .f32⟩
  | .local .tc .vmem, ⟨10, _⟩ => ⟨S32x128, .i32⟩
  | .local .tc .vmem, ⟨11, _⟩ => ⟨S1x128, .f32⟩
  | .local .tc .vmem, ⟨12, _⟩ => ⟨S1x128, .i32⟩
  | .local .tc .vmem, ⟨13, _⟩ => ⟨S1x128, .i32⟩
  | .local .scVector .vmem, ⟨0, _⟩ => ⟨S2x200x128, .f32⟩
  | .local .scVector .vmem, ⟨1, _⟩ => ⟨S2x200x128, .i32⟩
  | .local .scVector .vmem, ⟨2, _⟩ => ⟨S128, .f32⟩
  | .local .scVector .vmem, ⟨3, _⟩ => ⟨S128, .f32⟩
  | .local .scVector .vmem, ⟨4, _⟩ => ⟨S128, .i32⟩
  | _, _ => ⟨S128x1x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev main_v5_0_scv : Ref sig .scVector := ⟨.hbm, 8, rfl⟩
abbrev main_v5_1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_scratch0 : Ref sig .tc := ⟨.vmem, 7, rfl⟩
abbrev cc1_scratch1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c64000_i32 : BitVec 32 := 64000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4350_i32 : BitVec 32 := 4350#32
  let v2 : BitVec 32 := Scalar.muli v1 c4350_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c8_i32 : BitVec 32 := 8#32
  let v20 : BitVec 32 := Scalar.muli v19 c8_i32
  let v21 : BitVec 32 := Scalar.addi c64000_i32 v20
  v21
def k0_off1 (i : grid0.Coords) : Fin 2 → Nat :=
  let c64000_i32 : BitVec 32 := 64000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4350_i32 : BitVec 32 := 4350#32
  let v2 : BitVec 32 := Scalar.muli v1 c4350_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c8_i32 : BitVec 32 := 8#32
  let v20 : BitVec 32 := Scalar.muli v19 c8_i32
  let v21 : BitVec 32 := Scalar.addi c64000_i32 v20
  let v22 : BitVec 32 := v21
  let c0_i32_11 : BitVec 32 := 0#32
  let v55 : BitVec 32 := Scalar.addi v22 c0_i32_11
  let c0_i32_15 : BitVec 32 := 0#32
  ![v55.toNat, 0]
@[reducible] def k0_t1_loop : Scf.Loop 32 :=
  let c0_i32_91 : BitVec 32 := 0#32
  let c3_i32 : BitVec 32 := 3#32
  let v133 : BitVec 32 := Scalar.addi c0_i32_91 c3_i32
  let c1_i32_92 : BitVec 32 := 1#32
  ⟨c0_i32_91, v133, c1_i32_92⟩
def k0_off2 (i : grid0.Coords) (k0_t1 : Fin k0_t1_loop.trips) (c0_i32_112 : BitVec 32) : Fin 2 → Nat :=
  let c64000_i32 : BitVec 32 := 64000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4350_i32 : BitVec 32 := 4350#32
  let v2 : BitVec 32 := Scalar.muli v1 c4350_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c8_i32 : BitVec 32 := 8#32
  let v20 : BitVec 32 := Scalar.muli v19 c8_i32
  let v21 : BitVec 32 := Scalar.addi c64000_i32 v20
  let v22 : BitVec 32 := v21
  let c0_i32_91 : BitVec 32 := 0#32
  let c1_i32_92 : BitVec 32 := 1#32
  let arg16 : BitVec 32 := Scf.iv c0_i32_91 c1_i32_92 k0_t1
  let c2_i32_111 : BitVec 32 := 2#32
  let v353 : BitVec 32 := Scalar.muli arg16 c2_i32_111
  let v354 : BitVec 32 := Scalar.addi v353 c0_i32_112
  let c200_i32 : BitVec 32 := 200#32
  let v355 : BitVec 32 := Scalar.muli v354 c200_i32
  let v356 : BitVec 32 := Scalar.addi v22 v355
  let c0_i32_116 : BitVec 32 := 0#32
  ![v356.toNat, 0]
def k0_cond1 (k0_t1 : Fin k0_t1_loop.trips) : BitVec 1 :=
  let c0_i32_91 : BitVec 32 := 0#32
  let c1_i32_92 : BitVec 32 := 1#32
  let arg16 : BitVec 32 := Scf.iv c0_i32_91 c1_i32_92 k0_t1
  let c2_i32_111 : BitVec 32 := 2#32
  let v353 : BitVec 32 := Scalar.muli arg16 c2_i32_111
  let c0_i32_112 : BitVec 32 := 0#32
  let v354 : BitVec 32 := Scalar.addi v353 c0_i32_112
  let c1_i32_128 : BitVec 32 := 1#32
  let v371 : BitVec 32 := Scalar.addi v354 c1_i32_128
  let c6_i32 : BitVec 32 := 6#32
  let v372 : BitVec 1 := Scalar.cmpi .slt v371 c6_i32
  let v373 : BitVec 32 := Scalar.extui v372
  let c0_i32_129 : BitVec 32 := 0#32
  let v374 : BitVec 1 := Scalar.cmpi .ne v373 c0_i32_129
  v374

def k0_off3 (i : grid0.Coords) (k0_t1 : Fin k0_t1_loop.trips) : Fin 2 → Nat :=
  let c64000_i32 : BitVec 32 := 64000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4350_i32 : BitVec 32 := 4350#32
  let v2 : BitVec 32 := Scalar.muli v1 c4350_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c8_i32 : BitVec 32 := 8#32
  let v20 : BitVec 32 := Scalar.muli v19 c8_i32
  let v21 : BitVec 32 := Scalar.addi c64000_i32 v20
  let v22 : BitVec 32 := v21
  let c0_i32_91 : BitVec 32 := 0#32
  let c1_i32_92 : BitVec 32 := 1#32
  let arg16 : BitVec 32 := Scf.iv c0_i32_91 c1_i32_92 k0_t1
  let c2_i32_111 : BitVec 32 := 2#32
  let v353 : BitVec 32 := Scalar.muli arg16 c2_i32_111
  let c0_i32_112 : BitVec 32 := 0#32
  let v354 : BitVec 32 := Scalar.addi v353 c0_i32_112
  let c1_i32_216 : BitVec 32 := 1#32
  let v433 : BitVec 32 := Scalar.addi v354 c1_i32_216
  let c200_i32_217 : BitVec 32 := 200#32
  let v434 : BitVec 32 := Scalar.muli v433 c200_i32_217
  let v435 : BitVec 32 := Scalar.addi v22 v434
  let c0_i32_221 : BitVec 32 := 0#32
  ![v435.toNat, 0]
@[reducible] def k0_t2_loop : Scf.Loop 32 :=
  let c0_i32_131 : BitVec 32 := 0#32
  let c50_i32 : BitVec 32 := 50#32
  let v377 : BitVec 32 := Scalar.addi c0_i32_131 c50_i32
  let c1_i32_132 : BitVec 32 := 1#32
  ⟨c0_i32_131, v377, c1_i32_132⟩
def k0_off4 (k0_t2 : Fin k0_t2_loop.trips) (c0_i32_216 : BitVec 32) : Fin 3 → Nat :=
  let c0_i32_217 : BitVec 32 := 0#32
  let v434 : Index := Scalar.indexCast c0_i32_217
  let c0_i32_131 : BitVec 32 := 0#32
  let c1_i32_132 : BitVec 32 := 1#32
  let arg81 : BitVec 32 := Scf.iv c0_i32_131 c1_i32_132 k0_t2
  let v433 : BitVec 32 := Scalar.addi arg81 c0_i32_216
  let v435 : Index := Scalar.indexCast v433
  let c0_218 : Index := 0#32
  ![0, v435.toNat, 0]
@[reducible] def k0_t3_loop : Scf.Loop 32 :=
  let c0_i32_134 : BitVec 32 := 0#32
  let c50_i32_135 : BitVec 32 := 50#32
  let v379 : BitVec 32 := Scalar.addi c0_i32_134 c50_i32_135
  let c1_i32_136 : BitVec 32 := 1#32
  ⟨c0_i32_134, v379, c1_i32_136⟩
def k0_off5 (k0_t3 : Fin k0_t3_loop.trips) (c0_i32_216 : BitVec 32) : Fin 3 → Nat :=
  let c0_i32_217 : BitVec 32 := 0#32
  let v434 : Index := Scalar.indexCast c0_i32_217
  let c0_i32_134 : BitVec 32 := 0#32
  let c1_i32_136 : BitVec 32 := 1#32
  let arg81 : BitVec 32 := Scf.iv c0_i32_134 c1_i32_136 k0_t3
  let v433 : BitVec 32 := Scalar.addi arg81 c0_i32_216
  let v435 : Index := Scalar.indexCast v433
  let c16_218 : Index := 16#32
  ![0, v435.toNat, 16]
@[reducible] def k0_t4_loop : Scf.Loop 32 :=
  let c0_i32_138 : BitVec 32 := 0#32
  let c50_i32_139 : BitVec 32 := 50#32
  let v381 : BitVec 32 := Scalar.addi c0_i32_138 c50_i32_139
  let c1_i32_140 : BitVec 32 := 1#32
  ⟨c0_i32_138, v381, c1_i32_140⟩
def k0_off6 (k0_t4 : Fin k0_t4_loop.trips) (c0_i32_216 : BitVec 32) : Fin 3 → Nat :=
  let c0_i32_217 : BitVec 32 := 0#32
  let v434 : Index := Scalar.indexCast c0_i32_217
  let c0_i32_138 : BitVec 32 := 0#32
  let c1_i32_140 : BitVec 32 := 1#32
  let arg81 : BitVec 32 := Scf.iv c0_i32_138 c1_i32_140 k0_t4
  let v433 : BitVec 32 := Scalar.addi arg81 c0_i32_216
  let v435 : Index := Scalar.indexCast v433
  let c32_218 : Index := 32#32
  ![0, v435.toNat, 32]
@[reducible] def k0_t5_loop : Scf.Loop 32 :=
  let c0_i32_142 : BitVec 32 := 0#32
  let c50_i32_143 : BitVec 32 := 50#32
  let v383 : BitVec 32 := Scalar.addi c0_i32_142 c50_i32_143
  let c1_i32_144 : BitVec 32 := 1#32
  ⟨c0_i32_142, v383, c1_i32_144⟩
def k0_off7 (k0_t5 : Fin k0_t5_loop.trips) (c0_i32_216 : BitVec 32) : Fin 3 → Nat :=
  let c0_i32_217 : BitVec 32 := 0#32
  let v434 : Index := Scalar.indexCast c0_i32_217
  let c0_i32_142 : BitVec 32 := 0#32
  let c1_i32_144 : BitVec 32 := 1#32
  let arg81 : BitVec 32 := Scf.iv c0_i32_142 c1_i32_144 k0_t5
  let v433 : BitVec 32 := Scalar.addi arg81 c0_i32_216
  let v435 : Index := Scalar.indexCast v433
  let c48_218 : Index := 48#32
  ![0, v435.toNat, 48]
@[reducible] def k0_t6_loop : Scf.Loop 32 :=
  let c0_i32_146 : BitVec 32 := 0#32
  let c50_i32_147 : BitVec 32 := 50#32
  let v385 : BitVec 32 := Scalar.addi c0_i32_146 c50_i32_147
  let c1_i32_148 : BitVec 32 := 1#32
  ⟨c0_i32_146, v385, c1_i32_148⟩
def k0_off8 (k0_t6 : Fin k0_t6_loop.trips) (c0_i32_216 : BitVec 32) : Fin 3 → Nat :=
  let c0_i32_217 : BitVec 32 := 0#32
  let v434 : Index := Scalar.indexCast c0_i32_217
  let c0_i32_146 : BitVec 32 := 0#32
  let c1_i32_148 : BitVec 32 := 1#32
  let arg81 : BitVec 32 := Scf.iv c0_i32_146 c1_i32_148 k0_t6
  let v433 : BitVec 32 := Scalar.addi arg81 c0_i32_216
  let v435 : Index := Scalar.indexCast v433
  let c64_218 : Index := 64#32
  ![0, v435.toNat, 64]
@[reducible] def k0_t7_loop : Scf.Loop 32 :=
  let c0_i32_150 : BitVec 32 := 0#32
  let c50_i32_151 : BitVec 32 := 50#32
  let v387 : BitVec 32 := Scalar.addi c0_i32_150 c50_i32_151
  let c1_i32_152 : BitVec 32 := 1#32
  ⟨c0_i32_150, v387, c1_i32_152⟩
def k0_off9 (k0_t7 : Fin k0_t7_loop.trips) (c0_i32_216 : BitVec 32) : Fin 3 → Nat :=
  let c0_i32_217 : BitVec 32 := 0#32
  let v434 : Index := Scalar.indexCast c0_i32_217
  let c0_i32_150 : BitVec 32 := 0#32
  let c1_i32_152 : BitVec 32 := 1#32
  let arg81 : BitVec 32 := Scf.iv c0_i32_150 c1_i32_152 k0_t7
  let v433 : BitVec 32 := Scalar.addi arg81 c0_i32_216
  let v435 : Index := Scalar.indexCast v433
  let c80_218 : Index := 80#32
  ![0, v435.toNat, 80]
@[reducible] def k0_t8_loop : Scf.Loop 32 :=
  let c0_i32_154 : BitVec 32 := 0#32
  let c50_i32_155 : BitVec 32 := 50#32
  let v389 : BitVec 32 := Scalar.addi c0_i32_154 c50_i32_155
  let c1_i32_156 : BitVec 32 := 1#32
  ⟨c0_i32_154, v389, c1_i32_156⟩
def k0_off10 (k0_t8 : Fin k0_t8_loop.trips) (c0_i32_216 : BitVec 32) : Fin 3 → Nat :=
  let c0_i32_217 : BitVec 32 := 0#32
  let v434 : Index := Scalar.indexCast c0_i32_217
  let c0_i32_154 : BitVec 32 := 0#32
  let c1_i32_156 : BitVec 32 := 1#32
  let arg81 : BitVec 32 := Scf.iv c0_i32_154 c1_i32_156 k0_t8
  let v433 : BitVec 32 := Scalar.addi arg81 c0_i32_216
  let v435 : Index := Scalar.indexCast v433
  let c96_218 : Index := 96#32
  ![0, v435.toNat, 96]
@[reducible] def k0_t9_loop : Scf.Loop 32 :=
  let c0_i32_158 : BitVec 32 := 0#32
  let c50_i32_159 : BitVec 32 := 50#32
  let v391 : BitVec 32 := Scalar.addi c0_i32_158 c50_i32_159
  let c1_i32_160 : BitVec 32 := 1#32
  ⟨c0_i32_158, v391, c1_i32_160⟩
def k0_off11 (k0_t9 : Fin k0_t9_loop.trips) (c0_i32_216 : BitVec 32) : Fin 3 → Nat :=
  let c0_i32_217 : BitVec 32 := 0#32
  let v434 : Index := Scalar.indexCast c0_i32_217
  let c0_i32_158 : BitVec 32 := 0#32
  let c1_i32_160 : BitVec 32 := 1#32
  let arg81 : BitVec 32 := Scf.iv c0_i32_158 c1_i32_160 k0_t9
  let v433 : BitVec 32 := Scalar.addi arg81 c0_i32_216
  let v435 : Index := Scalar.indexCast v433
  let c112_218 : Index := 112#32
  ![0, v435.toNat, 112]
def k0_cond2 (k0_t1 : Fin k0_t1_loop.trips) : BitVec 1 :=
  let c0_i32_91 : BitVec 32 := 0#32
  let c1_i32_92 : BitVec 32 := 1#32
  let arg16 : BitVec 32 := Scf.iv c0_i32_91 c1_i32_92 k0_t1
  let c2_i32_162 : BitVec 32 := 2#32
  let v393 : BitVec 32 := Scalar.muli arg16 c2_i32_162
  let c1_i32_163 : BitVec 32 := 1#32
  let v394 : BitVec 32 := Scalar.addi v393 c1_i32_163
  let c1_i32_180 : BitVec 32 := 1#32
  let v411 : BitVec 32 := Scalar.addi v394 c1_i32_180
  let c6_i32_181 : BitVec 32 := 6#32
  let v412 : BitVec 1 := Scalar.cmpi .slt v411 c6_i32_181
  let v413 : BitVec 32 := Scalar.extui v412
  let c0_i32_182 : BitVec 32 := 0#32
  let v414 : BitVec 1 := Scalar.cmpi .ne v413 c0_i32_182
  v414

def k0_off12 (i : grid0.Coords) (k0_t1 : Fin k0_t1_loop.trips) : Fin 2 → Nat :=
  let c64000_i32 : BitVec 32 := 64000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4350_i32 : BitVec 32 := 4350#32
  let v2 : BitVec 32 := Scalar.muli v1 c4350_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c8_i32 : BitVec 32 := 8#32
  let v20 : BitVec 32 := Scalar.muli v19 c8_i32
  let v21 : BitVec 32 := Scalar.addi c64000_i32 v20
  let v22 : BitVec 32 := v21
  let c0_i32_91 : BitVec 32 := 0#32
  let c1_i32_92 : BitVec 32 := 1#32
  let arg16 : BitVec 32 := Scf.iv c0_i32_91 c1_i32_92 k0_t1
  let c2_i32_162 : BitVec 32 := 2#32
  let v393 : BitVec 32 := Scalar.muli arg16 c2_i32_162
  let c1_i32_163 : BitVec 32 := 1#32
  let v394 : BitVec 32 := Scalar.addi v393 c1_i32_163
  let c1_i32_216 : BitVec 32 := 1#32
  let v433 : BitVec 32 := Scalar.addi v394 c1_i32_216
  let c200_i32_217 : BitVec 32 := 200#32
  let v434 : BitVec 32 := Scalar.muli v433 c200_i32_217
  let v435 : BitVec 32 := Scalar.addi v22 v434
  let c0_i32_221 : BitVec 32 := 0#32
  ![v435.toNat, 0]
@[reducible] def k0_t10_loop : Scf.Loop 32 :=
  let c0_i32_184 : BitVec 32 := 0#32
  let c50_i32_185 : BitVec 32 := 50#32
  let v417 : BitVec 32 := Scalar.addi c0_i32_184 c50_i32_185
  let c1_i32_186 : BitVec 32 := 1#32
  ⟨c0_i32_184, v417, c1_i32_186⟩
def k0_off13 (k0_t10 : Fin k0_t10_loop.trips) (c0_i32_216 : BitVec 32) : Fin 3 → Nat :=
  let c1_i32_217 : BitVec 32 := 1#32
  let v434 : Index := Scalar.indexCast c1_i32_217
  let c0_i32_184 : BitVec 32 := 0#32
  let c1_i32_186 : BitVec 32 := 1#32
  let arg81 : BitVec 32 := Scf.iv c0_i32_184 c1_i32_186 k0_t10
  let v433 : BitVec 32 := Scalar.addi arg81 c0_i32_216
  let v435 : Index := Scalar.indexCast v433
  let c0_218 : Index := 0#32
  ![1, v435.toNat, 0]
@[reducible] def k0_t11_loop : Scf.Loop 32 :=
  let c0_i32_188 : BitVec 32 := 0#32
  let c50_i32_189 : BitVec 32 := 50#32
  let v419 : BitVec 32 := Scalar.addi c0_i32_188 c50_i32_189
  let c1_i32_190 : BitVec 32 := 1#32
  ⟨c0_i32_188, v419, c1_i32_190⟩
def k0_off14 (k0_t11 : Fin k0_t11_loop.trips) (c0_i32_216 : BitVec 32) : Fin 3 → Nat :=
  let c1_i32_217 : BitVec 32 := 1#32
  let v434 : Index := Scalar.indexCast c1_i32_217
  let c0_i32_188 : BitVec 32 := 0#32
  let c1_i32_190 : BitVec 32 := 1#32
  let arg81 : BitVec 32 := Scf.iv c0_i32_188 c1_i32_190 k0_t11
  let v433 : BitVec 32 := Scalar.addi arg81 c0_i32_216
  let v435 : Index := Scalar.indexCast v433
  let c16_218 : Index := 16#32
  ![1, v435.toNat, 16]
@[reducible] def k0_t12_loop : Scf.Loop 32 :=
  let c0_i32_192 : BitVec 32 := 0#32
  let c50_i32_193 : BitVec 32 := 50#32
  let v421 : BitVec 32 := Scalar.addi c0_i32_192 c50_i32_193
  let c1_i32_194 : BitVec 32 := 1#32
  ⟨c0_i32_192, v421, c1_i32_194⟩
def k0_off15 (k0_t12 : Fin k0_t12_loop.trips) (c0_i32_216 : BitVec 32) : Fin 3 → Nat :=
  let c1_i32_217 : BitVec 32 := 1#32
  let v434 : Index := Scalar.indexCast c1_i32_217
  let c0_i32_192 : BitVec 32 := 0#32
  let c1_i32_194 : BitVec 32 := 1#32
  let arg81 : BitVec 32 := Scf.iv c0_i32_192 c1_i32_194 k0_t12
  let v433 : BitVec 32 := Scalar.addi arg81 c0_i32_216
  let v435 : Index := Scalar.indexCast v433
  let c32_218 : Index := 32#32
  ![1, v435.toNat, 32]
@[reducible] def k0_t13_loop : Scf.Loop 32 :=
  let c0_i32_196 : BitVec 32 := 0#32
  let c50_i32_197 : BitVec 32 := 50#32
  let v423 : BitVec 32 := Scalar.addi c0_i32_196 c50_i32_197
  let c1_i32_198 : BitVec 32 := 1#32
  ⟨c0_i32_196, v423, c1_i32_198⟩
def k0_off16 (k0_t13 : Fin k0_t13_loop.trips) (c0_i32_216 : BitVec 32) : Fin 3 → Nat :=
  let c1_i32_217 : BitVec 32 := 1#32
  let v434 : Index := Scalar.indexCast c1_i32_217
  let c0_i32_196 : BitVec 32 := 0#32
  let c1_i32_198 : BitVec 32 := 1#32
  let arg81 : BitVec 32 := Scf.iv c0_i32_196 c1_i32_198 k0_t13
  let v433 : BitVec 32 := Scalar.addi arg81 c0_i32_216
  let v435 : Index := Scalar.indexCast v433
  let c48_218 : Index := 48#32
  ![1, v435.toNat, 48]
@[reducible] def k0_t14_loop : Scf.Loop 32 :=
  let c0_i32_200 : BitVec 32 := 0#32
  let c50_i32_201 : BitVec 32 := 50#32
  let v425 : BitVec 32 := Scalar.addi c0_i32_200 c50_i32_201
  let c1_i32_202 : BitVec 32 := 1#32
  ⟨c0_i32_200, v425, c1_i32_202⟩
def k0_off17 (k0_t14 : Fin k0_t14_loop.trips) (c0_i32_216 : BitVec 32) : Fin 3 → Nat :=
  let c1_i32_217 : BitVec 32 := 1#32
  let v434 : Index := Scalar.indexCast c1_i32_217
  let c0_i32_200 : BitVec 32 := 0#32
  let c1_i32_202 : BitVec 32 := 1#32
  let arg81 : BitVec 32 := Scf.iv c0_i32_200 c1_i32_202 k0_t14
  let v433 : BitVec 32 := Scalar.addi arg81 c0_i32_216
  let v435 : Index := Scalar.indexCast v433
  let c64_218 : Index := 64#32
  ![1, v435.toNat, 64]
@[reducible] def k0_t15_loop : Scf.Loop 32 :=
  let c0_i32_204 : BitVec 32 := 0#32
  let c50_i32_205 : BitVec 32 := 50#32
  let v427 : BitVec 32 := Scalar.addi c0_i32_204 c50_i32_205
  let c1_i32_206 : BitVec 32 := 1#32
  ⟨c0_i32_204, v427, c1_i32_206⟩
def k0_off18 (k0_t15 : Fin k0_t15_loop.trips) (c0_i32_216 : BitVec 32) : Fin 3 → Nat :=
  let c1_i32_217 : BitVec 32 := 1#32
  let v434 : Index := Scalar.indexCast c1_i32_217
  let c0_i32_204 : BitVec 32 := 0#32
  let c1_i32_206 : BitVec 32 := 1#32
  let arg81 : BitVec 32 := Scf.iv c0_i32_204 c1_i32_206 k0_t15
  let v433 : BitVec 32 := Scalar.addi arg81 c0_i32_216
  let v435 : Index := Scalar.indexCast v433
  let c80_218 : Index := 80#32
  ![1, v435.toNat, 80]
@[reducible] def k0_t16_loop : Scf.Loop 32 :=
  let c0_i32_208 : BitVec 32 := 0#32
  let c50_i32_209 : BitVec 32 := 50#32
  let v429 : BitVec 32 := Scalar.addi c0_i32_208 c50_i32_209
  let c1_i32_210 : BitVec 32 := 1#32
  ⟨c0_i32_208, v429, c1_i32_210⟩
def k0_off19 (k0_t16 : Fin k0_t16_loop.trips) (c0_i32_216 : BitVec 32) : Fin 3 → Nat :=
  let c1_i32_217 : BitVec 32 := 1#32
  let v434 : Index := Scalar.indexCast c1_i32_217
  let c0_i32_208 : BitVec 32 := 0#32
  let c1_i32_210 : BitVec 32 := 1#32
  let arg81 : BitVec 32 := Scf.iv c0_i32_208 c1_i32_210 k0_t16
  let v433 : BitVec 32 := Scalar.addi arg81 c0_i32_216
  let v435 : Index := Scalar.indexCast v433
  let c96_218 : Index := 96#32
  ![1, v435.toNat, 96]
@[reducible] def k0_t17_loop : Scf.Loop 32 :=
  let c0_i32_212 : BitVec 32 := 0#32
  let c50_i32_213 : BitVec 32 := 50#32
  let v431 : BitVec 32 := Scalar.addi c0_i32_212 c50_i32_213
  let c1_i32_214 : BitVec 32 := 1#32
  ⟨c0_i32_212, v431, c1_i32_214⟩
def k0_off20 (k0_t17 : Fin k0_t17_loop.trips) (c0_i32_216 : BitVec 32) : Fin 3 → Nat :=
  let c1_i32_217 : BitVec 32 := 1#32
  let v434 : Index := Scalar.indexCast c1_i32_217
  let c0_i32_212 : BitVec 32 := 0#32
  let c1_i32_214 : BitVec 32 := 1#32
  let arg81 : BitVec 32 := Scf.iv c0_i32_212 c1_i32_214 k0_t17
  let v433 : BitVec 32 := Scalar.addi arg81 c0_i32_216
  let v435 : Index := Scalar.indexCast v433
  let c112_218 : Index := 112#32
  ![1, v435.toNat, 112]
def k0_off21 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v351 : BitVec 32 := Scalar.muli v1 c128_i32
  ![v351.toNat]
abbrev grid1 : Pipeline.Grid := ⟨1, ![8], ![false]⟩

def k1_cond3 (i : grid1.Coords) : BitVec 1 :=
  let arg0 : BitVec 32 := BitVec.ofNat 32 (i 0).val
  let c7_i32 : BitVec 32 := 7#32
  let v38 : BitVec 1 := Scalar.cmpi .eq arg0 c7_i32
  let v39 : BitVec 32 := Scalar.extui v38
  let c0_i32_11 : BitVec 32 := 0#32
  let v40 : BitVec 1 := Scalar.cmpi .ne v39 c0_i32_11
  v40

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := .none

abbrev stage2_0 : Fin 1 → Memref sig .tc .vmem S32x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x128 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x128 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S128x1x100000 : Shape := ⟨3, ![128, 1, 100000]⟩
abbrev S128x1 : Shape := ⟨2, ![128, 1]⟩
abbrev S128x100000 : Shape := ⟨2, ![128, 100000]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S128x1x100000, .f32⟩
  | .hbm, ⟨1, _⟩ => ⟨S128x1, .f32⟩
  | .hbm, ⟨2, _⟩ => ⟨S128x100000, .i32⟩
  | .hbm, ⟨3, _⟩ => ⟨S128x100000, .f32⟩
  | .hbm, ⟨4, _⟩ => ⟨S_, .f32⟩
  | .hbm, ⟨5, _⟩ => ⟨S128x1, .f32⟩
  | .hbm, ⟨6, _⟩ => ⟨S128x1, .f32⟩
  | .hbm, ⟨7, _⟩ => ⟨S_, .i32⟩
  | .hbm, ⟨8, _⟩ => ⟨S128x100000, .i32⟩
  | .hbm, ⟨9, _⟩ => ⟨S128x100000, .i1⟩
  | .hbm, ⟨10, _⟩ => ⟨S_, .f32⟩
  | .hbm, ⟨11, _⟩ => ⟨S128x100000, .f32⟩
  | .hbm, ⟨12, _⟩ => ⟨S128x100000, .i1⟩
  | .hbm, ⟨13, _⟩ => ⟨S128x100000, .f32⟩
  | .hbm, ⟨14, _⟩ => ⟨S128x100000, .f32⟩
  | .hbm, ⟨15, _⟩ => ⟨S128x100000, .f32⟩
  | .hbm, ⟨16, _⟩ => ⟨S128x100000, .f32⟩
  | .hbm, ⟨17, _⟩ => ⟨S128x100000, .f32⟩
  | .hbm, ⟨18, _⟩ => ⟨S128x100000, .f32⟩
  | .hbm, ⟨19, _⟩ => ⟨S128x1x100000, .f32⟩
  | .hbm, ⟨20, _⟩ => ⟨S128x1x100000, .i32⟩
  | .hbm, ⟨21, _⟩ => ⟨S_, .f32⟩
  | .hbm, ⟨22, _⟩ => ⟨S_, .i32⟩
  | .hbm, ⟨23, _⟩ => ⟨S128x1, .f32⟩
  | .hbm, ⟨24, _⟩ => ⟨S128x1, .i32⟩
  | _, _ => ⟨S128x1x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call2_v0 : Ref sig .tc := ⟨.hbm, 20, rfl⟩
abbrev main_call2_cst : Ref sig .tc := ⟨.hbm, 21, rfl⟩
abbrev main_call2_c : Ref sig .tc := ⟨.hbm, 22, rfl⟩
abbrev main_call2_v1_0 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Proof.ScanSpec.lean ====
/-
  What one tile of the SparseCore call computes, stated over the arrays: the scan of one lane of one quarter of its stripe, and the
  merging of the quarters.
-/
module

public import proofs.«01_k».proof.Proof.Gen.KernelIdeal

@[expose] public section

noncomputable section

namespace Cert.Proof.Scan

open Cert.KernelIdeal
open Idealize.ShloMosaic

variable {F : FTy → Type} [FloatOps F] [Named F]

/-- The index of row `r`, column `c` of the vocabulary-major arrays (taken modulo the extents, so total). -/
def ix2 (r c : ℕ) : S100000x128.Idx := fun a =>
  ⟨(match a with | ⟨0, _⟩ => r | ⟨_ + 1, _⟩ => c) % S100000x128.size a, Nat.mod_lt _ (by revert a; decide)⟩

/-- The index of column `c` of an array of 128 elements. -/
def ix1 (c : ℕ) : S128.Idx := fun a => ⟨c % S128.size a, Nat.mod_lt _ (by revert a; decide)⟩

/-- The start of a scan: the named least value at index zero. -/
def lane0 : F .f32 × BitVec 32 := (Named.named κ "neg" (φ := .f32) 0xFF61B1E6#32, 0#32)

/-- The penalized logit: the lesser of the two products where the token has been counted, the logit elsewhere. -/
def lanePen (l : F .f32) (t : BitVec 32) (pen rp : F .f32) : F .f32 :=
  Scalar.select (IntOp.cmpi .sgt t 0#32) (FloatOps.minimumf (FloatOps.mulf l rp) (FloatOps.mulf l pen)) l

/-- One row of one lane: the penalized logit and its index replace the kept pair where strictly greater. -/
def laneStep (l : F .f32) (t idx : BitVec 32) (pen rp : F .f32) (s : F .f32 × BitVec 32) : F .f32 × BitVec 32 :=
  (Scalar.select (FloatOps.cmpf .ogt (lanePen l t pen rp) s.1) (lanePen l t pen rp) s.1,
   Scalar.select (FloatOps.cmpf .ogt (lanePen l t pen rp) s.1) idx s.2)

/-- Two kept pairs merged: the second where greater, or equal with the lesser index. -/
def laneMerge (a b : F .f32 × BitVec 32) : F .f32 × BitVec 32 :=
  (Scalar.select (FloatOps.cmpf .ogt b.1 a.1 ||| (FloatOps.cmpf .oeq b.1 a.1 &&& IntOp.cmpi .slt b.2 a.2)) b.1 a.1,
   Scalar.select (FloatOps.cmpf .ogt b.1 a.1 ||| (FloatOps.cmpf .oeq b.1 a.1 &&& IntOp.cmpi .slt b.2 a.2)) b.2 a.2)

/-- The reciprocal of the penalty, as the tile divides. -/
def recip (pen : F .f32) : F .f32 := FloatOps.divf (FloatOps.ofBits (F := F) .f32 0x3F800000#32) pen

section Lanes

variable (lt : S100000x128.Idx → F .f32) (tt : S100000x128.Idx → BitVec 32) (pen : S128.Idx → F .f32)

/-- The row a quarter's scan reads at its `n`-th step: chunk `n / 50`, row `n % 50` of quarter `q`. -/
def rowAt (off q n : ℕ) : ℕ := off + 200 * (n / 50) + 50 * q + n % 50

/-- What quarter `q` of the stripe from row `off` has kept in column `col` after `n` rows. -/
def laneAcc (off q col : ℕ) : ℕ → F .f32 × BitVec 32
  | 0 => lane0
  | n + 1 => laneStep (lt (ix2 (rowAt off q n) col)) (tt (ix2 (rowAt off q n) col)) (BitVec.ofNat 32 (rowAt off q n))
      (pen (ix1 col)) (recip (pen (ix1 col))) (laneAcc off q col n)

/-- What a tile returns for column `col`: the four quarters of its stripe merged in order. -/
def laneOut (off col : ℕ) : F .f32 × BitVec 32 :=
  laneMerge (laneMerge (laneMerge (laneAcc lt tt pen off 0 col 300) (laneAcc lt tt pen off 1 col 300))
    (laneAcc lt tt pen off 2 col 300)) (laneAcc lt tt pen off 3 col 300)

/-- The first row of worker `w`'s stripe. -/
def offOf (w : ℕ) : ℕ := 64000 + w * 4350 / 31 * 8

/-- The vector of the values sixteen lanes of a quarter have kept. -/
def accV (off g q n : ℕ) : FVec F S16 .f32 := fun x => (laneAcc lt tt pen off q (16 * g + (x 0).val) n).1

/-- The vector of the indices sixteen lanes of a quarter have kept. -/
def accI (off g q n : ℕ) : IVec S16 32 := fun x => (laneAcc lt tt pen off q (16 * g + (x 0).val) n).2

/-- The eight vectors a group of sixteen lanes carries after `n` rows of each quarter. -/
def accs (off g n : ℕ) :
    FVec F S16 .f32 × IVec S16 32 × FVec F S16 .f32 × IVec S16 32 × FVec F S16 .f32 × IVec S16 32 × FVec F S16 .f32 × IVec S16 32 :=
  (accV lt tt pen off g 0 n, accI lt tt pen off g 0 n, accV lt tt pen off g 1 n, accI lt tt pen off g 1 n,
    accV lt tt pen off g 2 n, accI lt tt pen off g 2 n, accV lt tt pen off g 3 n, accI lt tt pen off g 3 n)

/-- The sixteen penalties of a group of lanes. -/
def penV (g : ℕ) : FVec F S16 .f32 := fun x => pen (ix1 (16 * g + (x 0).val))

/-- Their reciprocals. -/
def rpV (g : ℕ) : FVec F S16 .f32 := fun x => recip (pen (ix1 (16 * g + (x 0).val)))

end Lanes

end Cert.Proof.Scan

end
-- ==== Proof.ScanBase.lean ====
/-
  The program as the launch theorem sees it, and the resource algebra: the handshakes' rounds, the TensorCore pipelines' rounds, and
  the transfers' counters.
-/
module

public import proofs.«01_k».proof.Proof.ScanSpec
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] [Named F] in
/-- The launch semaphores are distinct and unscoped, and no task shares a buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

abbrev EH : Emb UH (MT nD τ sig (HIx 1) (Elt F) ℕ UU ℕ) := embL

/-- The pipelines' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP (F := F)).LandsIn (upEmb : UEmb _ (MT nD τ sig (HIx 1) (Elt F) ℕ UU ℕ)) := by unfold EP; infer_instance

/-- A tile's SparseCore, of its grid coordinates. -/
abbrev cV (L : grid0.Coords) : Fin τ.nSC := (L 0).castLE hcore0
/-- A tile's subcore, of its grid coordinates. -/
abbrev jV (L : grid0.Coords) : Fin τ.nSub := (L 1).castLE hsub0

end Cert.Proof.Scan

end
-- ==== Proof.ScanLoop.lean ====
/-
  The tile's inner loops, all of one form: sixteen lanes of one of the two buffers, fifty rows of each of the four quarters.
-/
module

public import proofs.«01_k».proof.Proof.ScanBase

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- The eight vectors the inner loops carry: value and index of each of the four quarters. -/
abbrev Acc (F : FTy → Type) : Type :=
  FVec F S16 .f32 × IVec S16 32 × FVec F S16 .f32 × IVec S16 32 × FVec F S16 .f32 × IVec S16 32 × FVec F S16 .f32 × IVec S16 32

/-- The penalized vector of sixteen loaded logits and counts. -/
def vecPen (l : Vec F S1x1x16 .f32) (t : Vec F S1x1x16 .i32) (pen rp : FVec F S16 .f32) : FVec F S16 .f32 :=
  select (cmpi .sgt (shapeCast S16 t shapeCasts_S1x1x16_S16 : IVec S16 32) (broadcast S16 0#32))
    (minimumf (mulf (shapeCast S16 l shapeCasts_S1x1x16_S16 : FVec F S16 .f32) rp) (mulf (shapeCast S16 l shapeCasts_S1x1x16_S16) pen))
    (shapeCast S16 l shapeCasts_S1x1x16_S16)

/-- The kept values after sixteen lanes of one row. -/
def vecV (l : Vec F S1x1x16 .f32) (t : Vec F S1x1x16 .i32) (pen rp v : FVec F S16 .f32) : FVec F S16 .f32 :=
  select (cmpf .ogt (vecPen l t pen rp) v) (vecPen l t pen rp) v

/-- The kept indices after sixteen lanes of one row. -/
def vecI (l : Vec F S1x1x16 .f32) (t : Vec F S1x1x16 .i32) (idx : BitVec 32) (pen rp v : FVec F S16 .f32) (ix : IVec S16 32) : IVec S16 32 :=
  select (cmpf .ogt (vecPen l t pen rp) v) (broadcast S16 idx) ix

section Body

variable (i : grid0.Coords)
variable (b7 : Memref sig .scVector .vmem S2x200x128 .f32) (b8 : Memref sig .scVector .vmem S2x200x128 .i32)

/-- One trip of an inner loop: for each quarter a row's sixteen logits and counts loaded, and the kept pair updated. -/
def groupBody (o : Fin 4 → Fin 3 → ℕ) (inb : ∀ q a, o q a + S1x1x16.size a ≤ S2x200x128.size a) (pen rp : FVec F S16 .f32)
    (base j : BitVec 32) (acc : Acc F) :
    Prog (TpuEff nD τ sig (Elt F) Λ₀ (.scVector ((i 0).castLE hcore0) ((i 1).castLE hsub0))) (Acc F) :=
  Prog.op (.load b7 (Rect.unit (s := S2x200x128) (o 0) S1x1x16.size (inb 0)).toLoadRect (View.loadsAt_vmem h_S1x1x16)) fun l0 =>
  Prog.op (.load b8 (Rect.unit (s := S2x200x128) (o 0) S1x1x16.size (inb 0)).toLoadRect (View.loadsAt_vmem h_S1x1x16)) fun t0 =>
  Prog.op (.load b7 (Rect.unit (s := S2x200x128) (o 1) S1x1x16.size (inb 1)).toLoadRect (View.loadsAt_vmem h_S1x1x16)) fun l1 =>
  Prog.op (.load b8 (Rect.unit (s := S2x200x128) (o 1) S1x1x16.size (inb 1)).toLoadRect (View.loadsAt_vmem h_S1x1x16)) fun t1 =>
  Prog.op (.load b7 (Rect.unit (s := S2x200x128) (o 2) S1x1x16.size (inb 2)).toLoadRect (View.loadsAt_vmem h_S1x1x16)) fun l2 =>
  Prog.op (.load b8 (Rect.unit (s := S2x200x128) (o 2) S1x1x16.size (inb 2)).toLoadRect (View.loadsAt_vmem h_S1x1x16)) fun t2 =>
  Prog.op (.load b7 (Rect.unit (s := S2x200x128) (o 3) S1x1x16.size (inb 3)).toLoadRect (View.loadsAt_vmem h_S1x1x16)) fun l3 =>
  Prog.op (.load b8 (Rect.unit (s := S2x200x128) (o 3) S1x1x16.size (inb 3)).toLoadRect (View.loadsAt_vmem h_S1x1x16)) fun t3 =>
  Prog.ret (vecV l0 t0 pen rp acc.1, vecI l0 t0 (base + (j + 0#32)) pen rp acc.1 acc.2.1,
    vecV l1 t1 pen rp acc.2.2.1, vecI l1 t1 (base + (j + 50#32)) pen rp acc.2.2.1 acc.2.2.2.1,
    vecV l2 t2 pen rp acc.2.2.2.2.1, vecI l2 t2 (base + (j + 100#32)) pen rp acc.2.2.2.2.1 acc.2.2.2.2.2.1,
    vecV l3 t3 pen rp acc.2.2.2.2.2.2.1, vecI l3 t3 (base + (j + 150#32)) pen rp acc.2.2.2.2.2.2.1 acc.2.2.2.2.2.2.2)

end Body

/-- The index of row `r`, column `c` of buffer `h` of a two-buffer scratch (modulo the extents, so total). -/
def ix3 (h r c : ℕ) : S2x200x128.Idx := fun a =>
  ⟨(match a with | ⟨0, _⟩ => h | ⟨1, _⟩ => r | ⟨_ + 2, _⟩ => c) % S2x200x128.size a, Nat.mod_lt _ (by revert a; decide)⟩

/-- The elements of buffer `h` of a two-buffer scratch. -/
def half (h : ℕ) : Finset S2x200x128.Idx := Finset.univ.filter fun x => (x 0).val = h

local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "𝕄" => MT nD τ sig (HIx 1) (Elt F) ℕ UU ℕ

theorem setOn_half7 {o : Fin 3 → ℕ} {h : ℕ} (ho : o 0 = h) (inb : ∀ a, o a + S1x1x16.size a ≤ S2x200x128.size a) :
    (lV).view.setOn (Rect.unit (s := S2x200x128) o S1x1x16.size inb).toLoadRect.set ⊆ half h := by
  intro y hy
  obtain ⟨x, hx, rfl⟩ := Finset.mem_map.mp hy
  have := (Rect.mem_set_unit.mp hx) 0
  refine Finset.mem_filter.mpr ⟨Finset.mem_univ _, ?_⟩
  show (x 0).val = h
  have h1 : S1x1x16.size 0 = 1 := rfl
  omega

theorem setOn_half8 {o : Fin 3 → ℕ} {h : ℕ} (ho : o 0 = h) (inb : ∀ a, o a + S1x1x16.size a ≤ S2x200x128.size a) :
    (tV).view.setOn (Rect.unit (s := S2x200x128) o S1x1x16.size inb).toLoadRect.set ⊆ half h := by
  intro y hy
  obtain ⟨x, hx, rfl⟩ := Finset.mem_map.mp hy
  have := (Rect.mem_set_unit.mp hx) 0
  refine Finset.mem_filter.mpr ⟨Finset.mem_univ _, ?_⟩
  show (x 0).val = h
  have h1 : S1x1x16.size 0 = 1 := rfl
  omega

/-- Sixteen elements of one row loaded: lane `x` is the buffer's element there. -/
theorem cast_readAt7 (f : S2x200x128.Idx → F .f32) {o : Fin 3 → ℕ} {h r g : ℕ} (ho : o = ![h, r, 16 * g]) (hh : h < 2) (hr : r < 200) (hg : g < 8)
    (inb : ∀ a, o a + S1x1x16.size a ≤ S2x200x128.size a) (x : S16.Idx) :
    (shapeCast S16 ((lV).view.readAt (Elt F) (Rect.unit (s := S2x200x128) o S1x1x16.size inb).toLoadRect f) shapeCasts_S1x1x16_S16 : FVec F S16 .f32) x
      = f (ix3 h r (16 * g + (x 0).val)) := by
  subst ho
  have hx : (x 0).val < 16 := (x 0).isLt
  rw [shapeCast_apply _ _ x (fun a => ⟨(match a with | ⟨0, _⟩ => 0 | ⟨1, _⟩ => 0 | ⟨_ + 2, _⟩ => (x 0).val), by
    match a with
    | 0 => exact Nat.one_pos
    | 1 => exact Nat.one_pos
    | 2 => exact hx⟩) (by
      show (Shape.rowMajor ⟨3, _⟩ _).val = (Shape.rowMajor ⟨1, _⟩ _).val
      rw [Shape.rowMajor_val_three, Shape.rowMajor_val_one]
      show (0 * 1 + 0) * 16 + (x 0).val = (x 0).val
      omega)]
  show f _ = f _
  refine congrArg f (funext fun a => Fin.ext ?_)
  match a with
  | 0 => show h + 1 * 0 = h % 2; omega
  | 1 => show r + 1 * 0 = r % 200; omega
  | 2 => show 16 * g + 1 * (x 0).val = (16 * g + (x 0).val) % 128; omega

theorem cast_readAt8 (f : S2x200x128.Idx → BitVec 32) {o : Fin 3 → ℕ} {h r g : ℕ} (ho : o = ![h, r, 16 * g]) (hh : h < 2) (hr : r < 200) (hg : g < 8)
    (inb : ∀ a, o a + S1x1x16.size a ≤ S2x200x128.size a) (x : S16.Idx) :
    (shapeCast S16 ((tV).view.readAt (Elt F) (Rect.unit (s := S2x200x128) o S1x1x16.size inb).toLoadRect f) shapeCasts_S1x1x16_S16 : IVec S16 32) x
      = f (ix3 h r (16 * g + (x 0).val)) := by
  subst ho
  have hx : (x 0).val < 16 := (x 0).isLt
  rw [shapeCast_apply _ _ x (fun a => ⟨(match a with | ⟨0, _⟩ => 0 | ⟨1, _⟩ => 0 | ⟨_ + 2, _⟩ => (x 0).val), by
    match a with
    | 0 => exact Nat.one_pos
    | 1 => exact Nat.one_pos
    | 2 => exact hx⟩) (by
      show (Shape.rowMajor ⟨3, _⟩ _).val = (Shape.rowMajor ⟨1, _⟩ _).val
      rw [Shape.rowMajor_val_three, Shape.rowMajor_val_one]
      show (0 * 1 + 0) * 16 + (x 0).val = (x 0).val
      omega)]
  show f _ = f _
  refine congrArg f (funext fun a => Fin.ext ?_)
  match a with
  | 0 => show h + 1 * 0 = h % 2; omega
  | 1 => show r + 1 * 0 = r % 200; omega
  | 2 => show 16 * g + 1 * (x 0).val = (16 * g + (x 0).val) % 128; omega

section Step

variable (lt : S100000x128.Idx → F .f32) (tt : S100000x128.Idx → BitVec 32) (pen : S128.Idx → F .f32)
variable (off g k h t : ℕ)

/-- Buffer `h` holds chunk `k` of the stripe from row `off`. -/
def Holds {α : Type} (arr : S100000x128.Idx → α) (off k h : ℕ) (f : S2x200x128.Idx → α) : Prop :=
  ∀ r c, r < 200 → c < 128 → f (ix3 h r c) = arr (ix2 (off + 200 * k + r) c)

variable {lt tt pen off g k h t}

/-- One trip's new values are the scan's after one more row. -/
theorem vecV_step {f7 : S2x200x128.Idx → F .f32} {f8 : S2x200x128.Idx → BitVec 32} (h7 : Holds lt off k h f7) (h8 : Holds tt off k h f8)
    {o : Fin 3 → ℕ} {q : ℕ} (hq : q < 4) (ht : t < 50) (hh : h < 2) (hg : g < 8) (ho : o = ![h, t + 50 * q, 16 * g])
    (inb : ∀ a, o a + S1x1x16.size a ≤ S2x200x128.size a) :
    vecV ((lV).view.readAt (Elt F) (Rect.unit (s := S2x200x128) o S1x1x16.size inb).toLoadRect f7)
        ((tV).view.readAt (Elt F) (Rect.unit (s := S2x200x128) o S1x1x16.size inb).toLoadRect f8) (penV pen g) (rpV pen g)
        (accV lt tt pen off g q (50 * k + t)) = accV lt tt pen off g q (50 * k + t + 1) := by
  funext x
  have hx : (x 0).val < 16 := (x 0).isLt
  have e7 := cast_readAt7 f7 ho hh (by omega) hg inb x
  have e8 := cast_readAt8 (F := F) f8 ho hh (by omega) hg inb x
  rw [h7 _ _ (by omega) (by omega)] at e7
  rw [h8 _ _ (by omega) (by omega)] at e8
  have hr : rowAt off q (50 * k + t) = off + 200 * k + (t + 50 * q) := by unfold rowAt; omega
  simp only [vecV, vecPen, select, cmpf, cmpi, minimumf, mulf, broadcast, e7, e8, accV, laneAcc, laneStep, lanePen, hr, penV, rpV]

/-- One trip's new indices are the scan's after one more row. -/
theorem vecI_step {f7 : S2x200x128.Idx → F .f32} {f8 : S2x200x128.Idx → BitVec 32} (h7 : Holds lt off k h f7) (h8 : Holds tt off k h f8)
    {o : Fin 3 → ℕ} {q : ℕ} (hq : q < 4) (ht : t < 50) (hh : h < 2) (hg : g < 8) (ho : o = ![h, t + 50 * q, 16 * g])
    (inb : ∀ a, o a + S1x1x16.size a ≤ S2x200x128.size a) {idx : BitVec 32} (hidx : idx = BitVec.ofNat 32 (off + 200 * k + (t + 50 * q))) :
    vecI ((lV).view.readAt (Elt F) (Rect.unit (s := S2x200x128) o S1x1x16.size inb).toLoadRect f7)
        ((tV).view.readAt (Elt F) (Rect.unit (s := S2x200x128) o S1x1x16.size inb).toLoadRect f8) idx (penV pen g) (rpV pen g)
        (accV lt tt pen off g q (50 * k + t)) (accI lt tt pen off g q (50 * k + t)) = accI lt tt pen off g q (50 * k + t + 1) := by
  funext x
  have hx : (x 0).val < 16 := (x 0).isLt
  have e7 := cast_readAt7 f7 ho hh (by omega) hg inb x
  have e8 := cast_readAt8 (F := F) f8 ho hh (by omega) hg inb x
  rw [h7 _ _ (by omega) (by omega)] at e7
  rw [h8 _ _ (by omega) (by omega)] at e8
  have hr : rowAt off q (50 * k + t) = off + 200 * k + (t + 50 * q) := by unfold rowAt; omega
  simp only [vecI, vecPen, select, cmpf, cmpi, minimumf, mulf, broadcast, e7, e8, accV, accI, laneAcc, laneStep, lanePen, hr, hidx, penV, rpV]

theorem word_idx {b : ℕ} (n : ℕ) (c : BitVec 32) (q : ℕ) (hc : c = BitVec.ofNat 32 (50 * q)) :
    BitVec.ofNat 32 b + (Scf.iv 0#32 1#32 n + c) = BitVec.ofNat 32 (b + (n + 50 * q)) := by
  subst hc
  simp only [Scf.iv, BitVec.mul_one, BitVec.zero_add, BitVec.ofNat_add]

end Step

section Wp

variable (L : grid0.Coords) (d : Dev nD)
variable {lt : S100000x128.Idx → F .f32} {tt : S100000x128.Idx → BitVec 32} {pen : S128.Idx → F .f32}

/-- An inner loop of fifty trips over one group of sixteen lanes of buffer `h` holding chunk `k`: the eight vectors go from the
    scan after `50 * k` rows to the scan after fifty more. -/
theorem wp_group {off g k h : ℕ} (hh : h < 2) (hg : g < 8) {f7 : S2x200x128.Idx → F .f32} {f8 : S2x200x128.Idx → BitVec 32}
    (h7 : Holds lt off k h f7) (h8 : Holds tt off k h f8)
    (l : Scf.Loop 32) (hl : l.trips = 50) (hok : l.OK)
    (body : Fin l.trips → Acc F → Prog (TpuEff nD τ sig (Elt F) Λ₀ (.scVector ((L 0).castLE hcore0) ((L 1).castLE hsub0))) (Acc F))
    (o : Fin l.trips → Fin 4 → Fin 3 → ℕ) (inb : ∀ t q a, o t q a + S1x1x16.size a ≤ S2x200x128.size a)
    (ho : ∀ t q, o t q = ![h, t.val + 50 * q.val, 16 * g])
    {base : BitVec 32} (hbase : base = BitVec.ofNat 32 (off + 200 * k))
    {pv rv : FVec F S16 .f32} (hpv : pv = penV pen g) (hrv : rv = rpV pen g)
    (hbody : ∀ t acc, body t acc = groupBody L lV tV (o t) (inb t) pv rv base (Scf.iv 0#32 1#32 t) acc)
    {init : Acc F} (hinit : init = accs lt tt pen off g (50 * k))
    {β : Type} {kk : Acc F → Prog (TpuEff nD τ sig (Elt F) Λ₀ (.scVector ((L 0).castLE hcore0) ((L 1).castLE hsub0))) β}
    {Q : β → sProp 𝕄} :
    iprop(((lV).view.loc (V d (cV L) (jV L)) ↦[half h]{fullShare} f7) ∗ ((tV).view.loc (V d (cV L) (jV L)) ↦[half h]{fullShare} f8))
      ⊢ iprop((((lV).view.loc (V d (cV L) (jV L)) ↦[half h]{fullShare} f7) ∗ ((tV).view.loc (V d (cV L) (jV L)) ↦[half h]{fullShare} f8)
          -∗ wp frame (wpE (defs₀ (F := F)) 𝒱₀ (V d (cV L) (jV L)) none) Set.univ (kk (accs lt tt pen off g (50 * (k + 1)))) Q)
        -∗ wp frame (wpE (defs₀ (F := F)) 𝒱₀ (V d (cV L) (jV L)) none) Set.univ (Scf.Loop.for l hok init body >>= kk) Q) := by
  iintro HH HK
  iapply (Scf.wp_for_bind frame (wpE (defs₀ (F := F)) 𝒱₀ (V d (cV L) (jV L)) none) Set.univ l.lb l.ub l.st hok init body
    (fun n acc => iprop(⌜acc = accs lt tt pen off g (50 * k + n)⌝ ∗ ((lV).view.loc (V d (cV L) (jV L)) ↦[half h]{fullShare} f7)
      ∗ ((tV).view.loc (V d (cV L) (jV L)) ↦[half h]{fullShare} f8))) ?_ (kk := kk) (Q := Q)) $$ [HH] [HK]
  · intro t acc
    have ht : t.val < 50 := hl ▸ t.isLt
    iintro ⟨%hacc, H7, H8⟩
    rw [hbody, hacc, hpv, hrv, hbase]
    unfold groupBody
    iapply (wp_load 𝒱₀ (V d (cV L) (jV L)) none Set.univ (setOn_half7 (by rw [ho]; rfl) (inb t 0))) $$ H7
    iintro H7
    iapply (wp_load 𝒱₀ (V d (cV L) (jV L)) none Set.univ (setOn_half8 (by rw [ho]; rfl) (inb t 0))) $$ H8
    iintro H8
    iapply (wp_load 𝒱₀ (V d (cV L) (jV L)) none Set.univ (setOn_half7 (by rw [ho]; rfl) (inb t 1))) $$ H7
    iintro H7
    iapply (wp_load 𝒱₀ (V d (cV L) (jV L)) none Set.univ (setOn_half8 (by rw [ho]; rfl) (inb t 1))) $$ H8
    iintro H8
    iapply (wp_load 𝒱₀ (V d (cV L) (jV L)) none Set.univ (setOn_half7 (by rw [ho]; rfl) (inb t 2))) $$ H7
    iintro H7
    iapply (wp_load 𝒱₀ (V d (cV L) (jV L)) none Set.univ (setOn_half8 (by rw [ho]; rfl) (inb t 2))) $$ H8
    iintro H8
    iapply (wp_load 𝒱₀ (V d (cV L) (jV L)) none Set.univ (setOn_half7 (by rw [ho]; rfl) (inb t 3))) $$ H7
    iintro H7
    iapply (wp_load 𝒱₀ (V d (cV L) (jV L)) none Set.univ (setOn_half8 (by rw [ho]; rfl) (inb t 3))) $$ H8
    iintro H8
    iapply (le_wp_ret _ _ _ _ _)
    isplitr [H7 H8]
    · ipureintro
      show _ = accs lt tt pen off g (50 * k + t.val + 1)
      simp only [accs]
      rw [vecV_step h7 h8 (q := 0) (by omega) ht hh hg (ho t 0), vecV_step h7 h8 (q := 1) (by omega) ht hh hg (ho t 1),
        vecV_step h7 h8 (q := 2) (by omega) ht hh hg (ho t 2), vecV_step h7 h8 (q := 3) (by omega) ht hh hg (ho t 3),
        vecI_step h7 h8 (q := 0) (by omega) ht hh hg (ho t 0) _ (word_idx _ _ 0 rfl), vecI_step h7 h8 (q := 1) (by omega) ht hh hg (ho t 1) _ (word_idx _ _ 1 rfl),
        vecI_step h7 h8 (q := 2) (by omega) ht hh hg (ho t 2) _ (word_idx _ _ 2 rfl), vecI_step h7 h8 (q := 3) (by omega) ht hh hg (ho t 3) _ (word_idx _ _ 3 rfl)]
    · isplitl [H7] <;> iassumption
  · icases HH with ⟨H7, H8⟩
    isplitr [H7 H8]
    · ipureintro; exact hinit
    · isplitl [H7] <;> iassumption
  · iintro %acc ⟨%hacc, H⟩
    have e : acc = accs lt tt pen off g (50 * (k + 1)) := by
      rw [hacc, show Scf.trips l.lb l.ub l.st = 50 from hl]; rfl
    rw [e]
    iapply HK $$ H

end Wp

end Cert.Proof.Scan

end
-- ==== Proof.ScanFetch.lean ====
/-
  A tile's transfers as the proof follows them: what is in flight on a semaphore, and what its wait brings home.
-/
module

public import proofs.«01_k».proof.Proof.ScanLoop

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A transfer in flight on cell `sm`: at its wait elements `S` of the destination come back with contents satisfying `P`, and the
    source's share, of which the elements not under the transfer stayed behind. -/
def InFlight (c : Thread nD τ) (sm : SemLoc sig) (N : ℕ) (ℓs : Loc nD τ sig) (q : PosShare TreeShare) (fs : Buf (Elt F) ℓs)
    (ℓd : Loc nD τ sig) (S : Finset (Idx ℓd)) (P : Buf (Elt F) ℓd → Prop) : sProp 𝕄 :=
  iprop(∃ S' : Finset (Idx ℓs), Flight (countersEmb (Val := Elt F) (U := UU)) c sm (none : HIx 1) N
      iprop((∃ f, ⌜P f⌝ ∗ (ℓd ↦[S]{fullShare} f)) ∗ (ℓs ↦[S']{q} fs)) ∗ (ℓs ↦[Finset.univ \ S']{q} fs))

/-- A transfer started: the source's whole buffer at a share and the destination's elements go in flight. -/
theorem wp_start {α : Type} {Q : α → sProp 𝕄} (c : Thread nD τ) {sp sp' : Space} {s : Shape} {e : EltTy} {src : Memref sig c.2.kind sp s e}
    {dst : Memref sig c.2.kind sp' s e} {sm : SemLoc sig} {hsrc : src.view.WordExact} {hdst : dst.view.WordExact}
    {hsem : DmaTarget.Typed (nD := nD) sp sm (.here dst)}
    {k : PUnit → Prog (TpuEff nD τ sig (Elt F) Λ₀ c.2) α} {q : PosShare TreeShare} {fs : Buf (Elt F) (src.view.loc c)}
    {Sd : Finset (Idx (dst.view.loc c))} {fd : Buf (Elt F) (dst.view.loc c)} {N : ℕ} (hN : dst.view.amount sm = N) (hN0 : 0 < N)
    (hSd : dst.view.set ⊆ Sd) {P : Buf (Elt F) (dst.view.loc c) → Prop}
    (hP : P (dst.view.write (Elt F) fd (src.view.read (Elt F) fs) Finset.univ)) :
    iprop((src.view.loc c ↦{q} fs) ∗ (dst.view.loc c ↦[Sd]{fullShare} fd) ∗ semVal (c, sm) 0)
      ⊢ iprop((InFlight c sm N (src.view.loc c) q fs (dst.view.loc c) Sd P -∗ wp frame (wpE (defs₀ (F := F)) 𝒱₀ c none) Set.univ (k ⟨⟩) Q)
        -∗ wp frame (wpE (defs₀ (F := F)) 𝒱₀ c none) Set.univ (.op (.enqueueDma src (.here dst) sm hsrc hdst hsem) k) Q) := by
  iintro ⟨Hs, Hd, Hv⟩ Hk
  ihave Hs' := (pointsTo_split_subset (Finset.subset_univ src.view.set)).1 $$ Hs
  icases Hs' with ⟨Hs, Hr⟩
  iapply (wp_dmaLocal countersEmb 𝒱₀ c none (none : HIx 1) N hN hN0 hSd) $$ [Hs Hd Hv]
  · isplitl [Hs]; · iexact Hs
    isplitl [Hd] <;> iassumption
  iintro Hf
  iapply Hk
  unfold InFlight
  iexists src.view.set
  isplitl [Hf]
  · iapply (Flight_mono (countersEmb (Val := Elt F) (U := UU)) c ?_) $$ Hf
    iintro ⟨Hd, Hs⟩
    isplitl [Hd]
    · iexists _
      isplitr
      · ipureintro; exact hP
      · iexact Hd
    · iexact Hs
  · iexact Hr

/-- Its wait: the destination with contents satisfying `P`, the source whole again, the cell at zero. -/
theorem wp_land {α : Type} {Q : α → sProp 𝕄} (c : Thread nD τ) {sp sp' : Space} {s s' : Shape} {e e' : EltTy} {sem : DmaSem sig} {κ' : Kind}
    {srcw : Memref sig c.2.kind sp' s' e'} {dstw : Memref sig κ' sp s e} {hsrc : srcw.view.WordExact} {hdst : dstw.view.WordExact}
    {k : PUnit → Prog (TpuEff nD τ sig (Elt F) Λ₀ c.2) α} {q : PosShare TreeShare} {ℓs : Loc nD τ sig} {fs : Buf (Elt F) ℓs}
    {ℓd : Loc nD τ sig} {S : Finset (Idx ℓd)} {P : Buf (Elt F) ℓd → Prop} {N : ℕ} (hN : dstw.view.dmaCredit = N)
    {O : CellTallies nD τ sig (HIx 1)} {W : Waits sig (HIx 1)} :
    iprop(InFlight c (.dma sem) N ℓs q fs ℓd S P ∗ (∃ W', ⌜∀ p ∈ W', p ∈ W ∨ p.2 = none⌝ ∗ owes c O W') ∗ MayWaits c (none : HIx 1) O)
      ⊢ iprop((iprop((∃ f, ⌜P f⌝ ∗ (ℓd ↦[S]{fullShare} f)) ∗ (ℓs ↦{q} fs) ∗ semVal (c, .dma sem) 0 ∗ (∃ W', ⌜∀ p ∈ W', p ∈ W ∨ p.2 = none⌝ ∗ owes c O W'))
          -∗ wp frame (wpE (defs₀ (F := F)) 𝒱₀ c none) Set.univ (k ⟨⟩) Q)
        -∗ wp frame (wpE (defs₀ (F := F)) 𝒱₀ c none) Set.univ (.op (.waitDma2 sem srcw dstw hsrc hdst) k) Q) := by
  unfold InFlight
  iintro ⟨⟨%S', Hf, Hr⟩, ⟨%W', %hW', HO⟩, Hmw⟩ Hk
  ihave Hm := (MayWaits.elim (SemLoc.dma sem)) $$ Hmw
  iapply (wp_waitLocalO countersEmb 𝒱₀ c none (none : HIx 1) hN) $$ [Hf HO Hm]
  · isplitl [Hf]; · iexact Hf
    isplitl [HO] <;> iassumption
  iintro ⟨⟨Hd, Hs⟩, Hv, HO⟩
  iapply Hk
  isplitl [Hd]; · iexact Hd
  isplitl [Hs Hr]
  · iapply (pointsTo_split_subset (Finset.subset_univ S')).2
    isplitl [Hs] <;> iassumption
  isplitl [Hv]; · iexact Hv
  iexists insert (SemLoc.dma sem, none) W'
  isplitr
  · ipureintro
    exact fun p hp => (Finset.mem_insert.mp hp).elim (fun h => .inr (h ▸ rfl)) (hW' p)
  · iexact HO

/-! ## The rows a chunk's transfers name -/

/-- The worker number of a tile. -/
def wOf (L : grid0.Coords) : ℕ := 2 * (L 1).val + (L 0).val

/-- The first row of a tile's stripe. -/
def offL (L : grid0.Coords) : ℕ := offOf (wOf L)

theorem off1_eq : ∀ L : grid0.Coords, k0_off1 L = ![offL L + 200 * 0, 0] := by decide +kernel
theorem off2_eq : ∀ (L : grid0.Coords) (t : Fin k0_t1_loop.trips), k0_off2 L t 0#32 = ![offL L + 200 * (2 * t.val), 0] := by decide +kernel
theorem off3_eq : ∀ (L : grid0.Coords) (t : Fin k0_t1_loop.trips), k0_off3 L t = ![offL L + 200 * (2 * t.val + 1), 0] := by decide +kernel
theorem off12_eq : ∀ (L : grid0.Coords) (t : Fin k0_t1_loop.trips), k0_off12 L t = ![offL L + 200 * (2 * t.val + 2), 0] := by decide +kernel

/-- Row `r`, column `c` of a chunk. -/
def ixc (r c : ℕ) : S200x128.Idx := fun a =>
  ⟨(match a with | ⟨0, _⟩ => r | ⟨_ + 1, _⟩ => c) % S200x128.size a, Nat.mod_lt _ (by revert a; decide)⟩

/-- The same, with a leading coordinate zero. -/
def ixc1 (r c : ℕ) : S1x200x128.Idx := fun a =>
  ⟨(match a with | ⟨0, _⟩ => 0 | ⟨1, _⟩ => r | ⟨_ + 2, _⟩ => c) % S1x200x128.size a, Nat.mod_lt _ (by revert a; decide)⟩

theorem ixc1_rowMajor (r c : ℕ) : (S1x200x128.rowMajor (ixc1 r c)).val = (S200x128.rowMajor (ixc r c)).val := by
  show (Shape.rowMajor ⟨3, _⟩ _).val = (Shape.rowMajor ⟨2, _⟩ _).val
  rw [Shape.rowMajor_val_three, Shape.rowMajor_val_two]
  show (0 * 200 + r % 200) * 128 + c % 128 = (r % 200) * 128 + c % 128
  omega

local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

/-- A chunk's destination lies in its buffer of the scratch. -/
theorem dst7_subset {h : ℕ} {oh : Fin 3 → ℕ} (hoh : oh = ![h, 0, 0]) (inbh : ∀ a, oh a + S1x200x128.size a ≤ S2x200x128.size a) :
    (((lV).slice (Rect.unit (s := S2x200x128) oh S1x200x128.size inbh) (fun _ => rfl)).squeeze S200x128 squeezes_S1x200x128_S200x128).view.set ⊆ half h := by
  intro y hy
  obtain ⟨x, -, rfl⟩ := Finset.mem_map.mp hy
  subst hoh
  refine Finset.mem_filter.mpr ⟨Finset.mem_univ _, ?_⟩
  have h1 : (Shape.reshapeEquiv squeezes_S1x200x128_S200x128.numel_eq x 0).val < 1 := (Shape.reshapeEquiv squeezes_S1x200x128_S200x128.numel_eq x 0).isLt
  show h + 1 * (Shape.reshapeEquiv squeezes_S1x200x128_S200x128.numel_eq x 0).val = h
  omega

/-- What a landed chunk leaves in its buffer: the array's rows from the chunk's first. -/
theorem holds7 {h off k : ℕ} {oh : Fin 3 → ℕ} {o : Fin 2 → ℕ} (hoh : oh = ![h, 0, 0]) (ho : o = ![off + 200 * k, 0]) (hh : h < 2)
    (inbh : ∀ a, oh a + S1x200x128.size a ≤ S2x200x128.size a) (inb : ∀ a, o a + S200x128.size a ≤ S100000x128.size a)
    (fd : S2x200x128.Idx → F .f32) (fs : S100000x128.Idx → F .f32) :
    Holds fs off k h ((((lV).slice (Rect.unit (s := S2x200x128) oh S1x200x128.size inbh) (fun _ => rfl)).squeeze S200x128 squeezes_S1x200x128_S200x128).view.write (Elt F) fd
      (((ltV).slice (Rect.unit (s := S100000x128) o S200x128.size inb) (fun _ => rfl)).view.read (Elt F) fs) Finset.univ) := by
  intro r c hr hc
  have hb : off + 200 * k + 200 ≤ 100000 := by subst ho; exact inb 0
  have e : ix3 h r c = (((lV).slice (Rect.unit (s := S2x200x128) oh S1x200x128.size inbh) (fun _ => rfl)).squeeze S200x128 squeezes_S1x200x128_S200x128).view.emb (ixc r c) := by
    subst hoh
    show _ = Rect.emb (Rect.unit (s := S2x200x128) ![h, 0, 0] S1x200x128.size inbh) (Shape.reshapeEquiv squeezes_S1x200x128_S200x128.numel_eq (ixc r c))
    rw [Shape.reshapeEquiv_eq_of_rowMajor squeezes_S1x200x128_S200x128.numel_eq (ixc1_rowMajor r c)]
    refine funext fun a => Fin.ext ?_
    match a with
    | 0 => show h % 2 = h + 1 * 0; omega
    | 1 => show r % 200 = 0 + 1 * (r % 200); omega
    | 2 => show c % 128 = 0 + 1 * (c % 128); omega
  rw [e, View.write_emb_of_mem _ _ (Finset.mem_univ _)]
  subst ho
  show fs _ = fs _
  refine congrArg fs (funext fun a => Fin.ext ?_)
  match a with
  | 0 => show off + 200 * k + 1 * (r % 200) = (off + 200 * k + r) % 100000; omega
  | 1 => show 0 + 1 * (c % 128) = c % 128; omega

/-- A chunk's destination lies in its buffer of the scratch. -/
theorem dst8_subset {h : ℕ} {oh : Fin 3 → ℕ} (hoh : oh = ![h, 0, 0]) (inbh : ∀ a, oh a + S1x200x128.size a ≤ S2x200x128.size a) :
    (((tV).slice (Rect.unit (s := S2x200x128) oh S1x200x128.size inbh) (fun _ => rfl)).squeeze S200x128 squeezes_S1x200x128_S200x128).view.set ⊆ half h := by
  intro y hy
  obtain ⟨x, -, rfl⟩ := Finset.mem_map.mp hy
  subst hoh
  refine Finset.mem_filter.mpr ⟨Finset.mem_univ _, ?_⟩
  have h1 : (Shape.reshapeEquiv squeezes_S1x200x128_S200x128.numel_eq x 0).val < 1 := (Shape.reshapeEquiv squeezes_S1x200x128_S200x128.numel_eq x 0).isLt
  show h + 1 * (Shape.reshapeEquiv squeezes_S1x200x128_S200x128.numel_eq x 0).val = h
  omega

/-- What a landed chunk leaves in its buffer: the array's rows from the chunk's first. -/
theorem holds8 {h off k : ℕ} {oh : Fin 3 → ℕ} {o : Fin 2 → ℕ} (hoh : oh = ![h, 0, 0]) (ho : o = ![off + 200 * k, 0]) (hh : h < 2)
    (inbh : ∀ a, oh a + S1x200x128.size a ≤ S2x200x128.size a) (inb : ∀ a, o a + S200x128.size a ≤ S100000x128.size a)
    (fd : S2x200x128.Idx → BitVec 32) (fs : S100000x128.Idx → BitVec 32) :
    Holds fs off k h ((((tV).slice (Rect.unit (s := S2x200x128) oh S1x200x128.size inbh) (fun _ => rfl)).squeeze S200x128 squeezes_S1x200x128_S200x128).view.write (Elt F) fd
      (((ttV).slice (Rect.unit (s := S100000x128) o S200x128.size inb) (fun _ => rfl)).view.read (Elt F) fs) Finset.univ) := by
  intro r c hr hc
  have hb : off + 200 * k + 200 ≤ 100000 := by subst ho; exact inb 0
  have e : ix3 h r c = (((tV).slice (Rect.unit (s := S2x200x128) oh S1x200x128.size inbh) (fun _ => rfl)).squeeze S200x128 squeezes_S1x200x128_S200x128).view.emb (ixc r c) := by
    subst hoh
    show _ = Rect.emb (Rect.unit (s := S2x200x128) ![h, 0, 0] S1x200x128.size inbh) (Shape.reshapeEquiv squeezes_S1x200x128_S200x128.numel_eq (ixc r c))
    rw [Shape.reshapeEquiv_eq_of_rowMajor squeezes_S1x200x128_S200x128.numel_eq (ixc1_rowMajor r c)]
    refine funext fun a => Fin.ext ?_
    match a with
    | 0 => show h % 2 = h + 1 * 0; omega
    | 1 => show r % 200 = 0 + 1 * (r % 200); omega
    | 2 => show c % 128 = 0 + 1 * (c % 128); omega
  rw [e, View.write_emb_of_mem _ _ (Finset.mem_univ _)]
  subst ho
  show fs _ = fs _
  refine congrArg fs (funext fun a => Fin.ext ?_)
  match a with
  | 0 => show off + 200 * k + 1 * (r % 200) = (off + 200 * k + r) % 100000; omega
  | 1 => show 0 + 1 * (c % 128) = c % 128; omega

end Cert.Proof.Scan

end
-- ==== Proof.ScanTile.lean ====
/-
  One tile's double-buffered stripe: the chunks' fetches and waits, and the outer loop's parts.
-/
module

public import proofs.«01_k».proof.Proof.ScanFetch

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

section

variable (L : grid0.Coords) (d : Dev nD)
variable (lt : S100000x128.Idx → F .f32) (tt : S100000x128.Idx → BitVec 32) (pen : S128.Idx → F .f32)

/-- A tile's thread. -/
abbrev thr : Thread nD τ := V d (cV L) (jV L)

/-- The semaphores' credit of a chunk of logits. -/
def N7 : ℕ := sig.dmaCredit .scVector (Kind.scVector.table .vmem) (cc0_scratch0 : Ref sig .scVector).idx S200x128 .f32
/-- The semaphores' credit of a chunk of counts. -/
def N8 : ℕ := sig.dmaCredit .scVector (Kind.scVector.table .vmem) (cc0_scratch1 : Ref sig .scVector).idx S200x128 .i32
theorem N7_pos : 0 < N7 := sig.dmaCredit_pos _ _ _ _ _ (by decide)
theorem N8_pos : 0 < N8 := sig.dmaCredit_pos _ _ _ _ _ (by decide)

/-- Buffer `h` of the logits' scratch at home: owned, with contents unknown, the array's share with it and the cell at zero. -/
def Home7 (h : ℕ) (q : PosShare TreeShare) (sm : DmaSem sig) : sProp 𝕄 :=
  iprop((∃ f, (lV).view.loc (thr L d) ↦[half h]{fullShare} f) ∗ ((ltV).view.loc (thr L d) ↦{q} lt) ∗ semVal (thr L d, .dma sm) 0)
/-- The same of the counts' scratch. -/
def Home8 (h : ℕ) (q : PosShare TreeShare) (sm : DmaSem sig) : sProp 𝕄 :=
  iprop((∃ f, (tV).view.loc (thr L d) ↦[half h]{fullShare} f) ∗ ((ttV).view.loc (thr L d) ↦{q} tt) ∗ semVal (thr L d, .dma sm) 0)

/-- Chunk `k` on its way into buffer `h` of the logits' scratch. -/
def Fl7 (h k : ℕ) (q : PosShare TreeShare) (sm : DmaSem sig) : sProp 𝕄 :=
  InFlight (thr L d) (.dma sm) N7 ((ltV).view.loc (thr L d)) q lt ((lV).view.loc (thr L d)) (half h) (Holds lt (offL L) k h)
/-- The same of the counts' scratch. -/
def Fl8 (h k : ℕ) (q : PosShare TreeShare) (sm : DmaSem sig) : sProp 𝕄 :=
  InFlight (thr L d) (.dma sm) N8 ((ttV).view.loc (thr L d)) q tt ((tV).view.loc (thr L d)) (half h) (Holds tt (offL L) k h)

/-- Chunk `k` landed in buffer `h` of the logits' scratch. -/
def Got7 (h k : ℕ) (q : PosShare TreeShare) (sm : DmaSem sig) : sProp 𝕄 :=
  iprop((∃ f, ⌜Holds lt (offL L) k h f⌝ ∗ ((lV).view.loc (thr L d) ↦[half h]{fullShare} f)) ∗ ((ltV).view.loc (thr L d) ↦{q} lt) ∗ semVal (thr L d, .dma sm) 0)
/-- The same of the counts' scratch. -/
def Got8 (h k : ℕ) (q : PosShare TreeShare) (sm : DmaSem sig) : sProp 𝕄 :=
  iprop((∃ f, ⌜Holds tt (offL L) k h f⌝ ∗ ((tV).view.loc (thr L d) ↦[half h]{fullShare} f)) ∗ ((ttV).view.loc (thr L d) ↦{q} tt) ∗ semVal (thr L d, .dma sm) 0)

/-- What a thread owes, its waits none of the handshake's. -/
def Ow (O : CellTallies nD τ sig (HIx 1)) (W : Waits sig (HIx 1)) : sProp 𝕄 :=
  iprop(∃ W', ⌜∀ p ∈ W', p ∈ W ∨ p.2 = none⌝ ∗ owes (thr L d) O W')

variable {L d lt tt}

theorem got7_home {h k : ℕ} {q : PosShare TreeShare} {sm : DmaSem sig} : Got7 L d lt h k q sm ⊢ Home7 L d lt h q sm := by
  unfold Got7 Home7
  iintro ⟨⟨%f, %hf, H⟩, HR⟩
  isplitl [H]
  · iexists f; iexact H
  · iexact HR

theorem got8_home {h k : ℕ} {q : PosShare TreeShare} {sm : DmaSem sig} : Got8 (F := F) L d tt h k q sm ⊢ Home8 L d tt h q sm := by
  unfold Got8 Home8
  iintro ⟨⟨%f, %hf, H⟩, HR⟩
  isplitl [H]
  · iexists f; iexact H
  · iexact HR

/-- A chunk's fetch of logits started. -/
theorem wp_fetch7 {α : Type} {Q : α → sProp 𝕄} {h k : ℕ} (hh : h < 2) {q : PosShare TreeShare} {sm : DmaSem sig} {oh : Fin 3 → ℕ} {o : Fin 2 → ℕ} (hoh : oh = ![h, 0, 0])
    (ho : o = ![offL L + 200 * k, 0]) (inbh : ∀ a, oh a + S1x200x128.size a ≤ S2x200x128.size a) (inb : ∀ a, o a + S200x128.size a ≤ S100000x128.size a)
    {hsrc : ((ltV).slice (Rect.unit (s := S100000x128) o S200x128.size inb) (fun _ => rfl)).view.WordExact}
    {hdst : (((lV).slice (Rect.unit (s := S2x200x128) oh S1x200x128.size inbh) (fun _ => rfl)).squeeze S200x128 squeezes_S1x200x128_S200x128).view.WordExact}
    {hsem : DmaTarget.Typed (nD := nD) (p := (thr L d).2) .hbm (.dma sm) (.here (((lV).slice (Rect.unit (s := S2x200x128) oh S1x200x128.size inbh) (fun _ => rfl)).squeeze S200x128 squeezes_S1x200x128_S200x128))}
    {kk : PUnit → Prog (TpuEff nD τ sig (Elt F) Λ₀ (thr L d).2) α} :
    Home7 L d lt h q sm ⊢ iprop((Fl7 L d lt h k q sm -∗ wp frame (wpE (defs₀ (F := F)) 𝒱₀ (thr L d) none) Set.univ (kk ⟨⟩) Q)
      -∗ wp frame (wpE (defs₀ (F := F)) 𝒱₀ (thr L d) none) Set.univ
        (.op (.enqueueDma ((ltV).slice (Rect.unit (s := S100000x128) o S200x128.size inb) (fun _ => rfl))
          (.here (((lV).slice (Rect.unit (s := S2x200x128) oh S1x200x128.size inbh) (fun _ => rfl)).squeeze S200x128 squeezes_S1x200x128_S200x128)) (.dma sm) hsrc hdst hsem) kk) Q) := by
  unfold Home7 Fl7
  iintro ⟨⟨%fd, Hd⟩, Hs, Hv⟩ Hk
  have hS := dst7_subset hoh inbh
  have hP := holds7 (F := F) hoh ho hh inbh inb fd lt
  have h3 := wp_start (F := F) (Q := Q) (thr L d) (q := q) (src := ((ltV).slice (Rect.unit (s := S100000x128) o S200x128.size inb) (fun _ => rfl))) (dst := (((lV).slice (Rect.unit (s := S2x200x128) oh S1x200x128.size inbh) (fun _ => rfl)).squeeze S200x128 squeezes_S1x200x128_S200x128)) (sm := .dma sm) (hsrc := hsrc) (hdst := hdst) (hsem := hsem) (k := kk) (fs := lt) (Sd := half h) (fd := fd) (N := N7) rfl N7_pos hS (P := Holds lt (offL L) k h) hP
  iapply h3 $$ [Hd Hs Hv]
  · isplitl [Hs]; · iexact Hs
    isplitl [Hd]; · iexact Hd
    iexact Hv
  iexact Hk

/-- A chunk's fetch of counts started. -/
theorem wp_fetch8 {α : Type} {Q : α → sProp 𝕄} {h k : ℕ} (hh : h < 2) {q : PosShare TreeShare} {sm : DmaSem sig} {oh : Fin 3 → ℕ} {o : Fin 2 → ℕ} (hoh : oh = ![h, 0, 0])
    (ho : o = ![offL L + 200 * k, 0]) (inbh : ∀ a, oh a + S1x200x128.size a ≤ S2x200x128.size a) (inb : ∀ a, o a + S200x128.size a ≤ S100000x128.size a)
    {hsrc : ((ttV).slice (Rect.unit (s := S100000x128) o S200x128.size inb) (fun _ => rfl)).view.WordExact}
    {hdst : (((tV).slice (Rect.unit (s := S2x200x128) oh S1x200x128.size inbh) (fun _ => rfl)).squeeze S200x128 squeezes_S1x200x128_S200x128).view.WordExact}
    {hsem : DmaTarget.Typed (nD := nD) (p := (thr L d).2) .hbm (.dma sm) (.here (((tV).slice (Rect.unit (s := S2x200x128) oh S1x200x128.size inbh) (fun _ => rfl)).squeeze S200x128 squeezes_S1x200x128_S200x128))}
    {kk : PUnit → Prog (TpuEff nD τ sig (Elt F) Λ₀ (thr L d).2) α} :
    Home8 L d tt h q sm ⊢ iprop((Fl8 L d tt h k q sm -∗ wp frame (wpE (defs₀ (F := F)) 𝒱₀ (thr L d) none) Set.univ (kk ⟨⟩) Q)
      -∗ wp frame (wpE (defs₀ (F := F)) 𝒱₀ (thr L d) none) Set.univ
        (.op (.enqueueDma ((ttV).slice (Rect.unit (s := S100000x128) o S200x128.size inb) (fun _ => rfl))
          (.here (((tV).slice (Rect.unit (s := S2x200x128) oh S1x200x128.size inbh) (fun _ => rfl)).squeeze S200x128 squeezes_S1x200x128_S200x128)) (.dma sm) hsrc hdst hsem) kk) Q) := by
  unfold Home8 Fl8
  iintro ⟨⟨%fd, Hd⟩, Hs, Hv⟩ Hk
  have hS := dst8_subset hoh inbh
  have hP := holds8 (F := F) hoh ho hh inbh inb fd tt
  have h3 := wp_start (F := F) (Q := Q) (thr L d) (q := q) (src := ((ttV).slice (Rect.unit (s := S100000x128) o S200x128.size inb) (fun _ => rfl))) (dst := (((tV).slice (Rect.unit (s := S2x200x128) oh S1x200x128.size inbh) (fun _ => rfl)).squeeze S200x128 squeezes_S1x200x128_S200x128)) (sm := .dma sm) (hsrc := hsrc) (hdst := hdst) (hsem := hsem) (k := kk) (fs := tt) (Sd := half h) (fd := fd) (N := N8) rfl N8_pos hS (P := Holds tt (offL L) k h) hP
  iapply h3 $$ [Hd Hs Hv]
  · isplitl [Hs]; · iexact Hs
    isplitl [Hd]; · iexact Hd
    iexact Hv
  iexact Hk

/-- A chunk's fetch of logits waited for. -/
theorem wp_got7 {α : Type} {Q : α → sProp 𝕄} {h k : ℕ} {q : PosShare TreeShare} {sm : DmaSem sig} {sp' : Space} {s' : Shape} {e' : EltTy} {κ' : Kind} {sp : Space}
    {srcw : Memref sig (thr L d).2.kind sp' s' e'} {dstw : Memref sig κ' sp S200x128 .f32} {hsrc : srcw.view.WordExact} {hdst : dstw.view.WordExact}
    (hN : dstw.view.dmaCredit = N7) {O : CellTallies nD τ sig (HIx 1)} {W : Waits sig (HIx 1)}
    {kk : PUnit → Prog (TpuEff nD τ sig (Elt F) Λ₀ (thr L d).2) α} :
    iprop(Fl7 L d lt h k q sm ∗ Ow L d O W ∗ MayWaits (thr L d) (none : HIx 1) O)
      ⊢ iprop((iprop(Got7 L d lt h k q sm ∗ Ow L d O W) -∗ wp frame (wpE (defs₀ (F := F)) 𝒱₀ (thr L d) none) Set.univ (kk ⟨⟩) Q)
        -∗ wp frame (wpE (defs₀ (F := F)) 𝒱₀ (thr L d) none) Set.univ (.op (.waitDma2 sm srcw dstw hsrc hdst) kk) Q) := by
  unfold Fl7 Ow Got7
  iintro H Hk
  iapply (wp_land (thr L d) hN) $$ [H]
  · iexact H
  iintro ⟨H1, H2, H3, H4⟩
  iapply Hk
  iframe

/-- A chunk's fetch of counts waited for. -/
theorem wp_got8 {α : Type} {Q : α → sProp 𝕄} {h k : ℕ} {q : PosShare TreeShare} {sm : DmaSem sig} {sp' : Space} {s' : Shape} {e' : EltTy} {κ' : Kind} {sp : Space}
    {srcw : Memref sig (thr L d).2.kind sp' s' e'} {dstw : Memref sig κ' sp S200x128 .i32} {hsrc : srcw.view.WordExact} {hdst : dstw.view.WordExact}
    (hN : dstw.view.dmaCredit = N8) {O : CellTallies nD τ sig (HIx 1)} {W : Waits sig (HIx 1)}
    {kk : PUnit → Prog (TpuEff nD τ sig (Elt F) Λ₀ (thr L d).2) α} :
    iprop(Fl8 L d tt h k q sm ∗ Ow L d O W ∗ MayWaits (thr L d) (none : HIx 1) O)
      ⊢ iprop((iprop(Got8 L d tt h k q sm ∗ Ow L d O W) -∗ wp frame (wpE (defs₀ (F := F)) 𝒱₀ (thr L d) none) Set.univ (kk ⟨⟩) Q)
        -∗ wp frame (wpE (defs₀ (F := F)) 𝒱₀ (thr L d) none) Set.univ (.op (.waitDma2 sm srcw dstw hsrc hdst) kk) Q) := by
  unfold Fl8 Ow Got8
  iintro H Hk
  iapply (wp_land (thr L d) hN) $$ [H]
  · iexact H
  iintro ⟨H1, H2, H3, H4⟩
  iapply Hk
  iframe

end

end Cert.Proof.Scan

end
-- ==== Proof.ScanParts.lean ====
/-
  One tile's double-buffered stripe: the chunks' fetches and waits, and the outer loop's parts.
-/
module

public import proofs.«01_k».proof.Proof.ScanTile

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

local notation "pnV" => (Memref.whole Cert.KernelIdeal.main_v3_scv : Memref Cert.KernelIdeal.sig Kind.scVector Space.hbm Cert.KernelIdeal.S128 EltTy.f32)
local notation "ovV" => (Memref.whole Cert.KernelIdeal.main_v5_0_scv : Memref Cert.KernelIdeal.sig Kind.scVector Space.hbm Cert.KernelIdeal.S4096 EltTy.f32)
local notation "oiV" => (Memref.whole Cert.KernelIdeal.main_v5_1_scv : Memref Cert.KernelIdeal.sig Kind.scVector Space.hbm Cert.KernelIdeal.S4096 EltTy.i32)
local notation "pV" => (Memref.whole Cert.KernelIdeal.cc0_scratch2 : Memref Cert.KernelIdeal.sig Kind.scVector Space.vmem Cert.KernelIdeal.S128 EltTy.f32)
local notation "rvV" => (Memref.whole Cert.KernelIdeal.cc0_scratch3 : Memref Cert.KernelIdeal.sig Kind.scVector Space.vmem Cert.KernelIdeal.S128 EltTy.f32)
local notation "riV" => (Memref.whole Cert.KernelIdeal.cc0_scratch4 : Memref Cert.KernelIdeal.sig Kind.scVector Space.vmem Cert.KernelIdeal.S128 EltTy.i32)

variable {L : grid0.Coords} {d : Dev nD}
variable {lt : S100000x128.Idx → F .f32} {tt : S100000x128.Idx → BitVec 32} {pen : S128.Idx → F .f32}

theorem cond1_all : ∀ t : Fin k0_t1_loop.trips, k0_cond1 t = 1#1 := by decide +kernel
theorem cond2_iff : ∀ t : Fin k0_t1_loop.trips, k0_cond2 t = 1#1 ↔ t.val < 2 := by decide +kernel

/-- The word of an even chunk's first row. -/
theorem word_even (off t : ℕ) (v22 : BitVec 32) (h : v22 = BitVec.ofNat 32 off) :
    Scalar.addi v22 (Scalar.muli (Scalar.addi (Scalar.muli (Scf.iv 0#32 1#32 t) 2#32) 0#32) 200#32) = BitVec.ofNat 32 (off + 200 * (2 * t)) := by
  subst h
  apply BitVec.eq_of_toNat_eq
  simp [Scalar.addi, Scalar.muli, IntOp.addi, IntOp.muli, Scf.iv, BitVec.toNat_add, BitVec.toNat_mul, BitVec.toNat_ofNat]
  omega

/-- The word of an odd chunk's first row. -/
theorem word_odd (off t : ℕ) (v22 : BitVec 32) (h : v22 = BitVec.ofNat 32 off) :
    Scalar.addi v22 (Scalar.muli (Scalar.addi (Scalar.muli (Scf.iv 0#32 1#32 t) 2#32) 1#32) 200#32) = BitVec.ofNat 32 (off + 200 * (2 * t + 1)) := by
  subst h
  apply BitVec.eq_of_toNat_eq
  simp [Scalar.addi, Scalar.muli, IntOp.addi, IntOp.muli, Scf.iv, BitVec.toNat_add, BitVec.toNat_mul, BitVec.toNat_ofNat]
  omega

/-- Chunk `k` of both arrays in buffer `h` of the scratch. -/
def Rows (L : grid0.Coords) (d : Dev nD) (lt : S100000x128.Idx → F .f32) (tt : S100000x128.Idx → BitVec 32) (h k : ℕ) : sProp 𝕄 :=
  iprop((∃ f, ⌜Holds lt (offL L) k h f⌝ ∗ ((lV).view.loc (thr L d) ↦[half h]{fullShare} f))
    ∗ (∃ f, ⌜Holds tt (offL L) k h f⌝ ∗ ((tV).view.loc (thr L d) ↦[half h]{fullShare} f)))

/-- The arrays' shares and the cells that go with a buffer at home. -/
def Rest (L : grid0.Coords) (d : Dev nD) (lt : S100000x128.Idx → F .f32) (tt : S100000x128.Idx → BitVec 32) (q : PosShare TreeShare) (s7 s8 : DmaSem sig) : sProp 𝕄 :=
  iprop((((ltV).view.loc (thr L d) ↦{q} lt) ∗ semVal (thr L d, .dma s7) 0) ∗ (((ttV).view.loc (thr L d) ↦{q} tt) ∗ semVal (thr L d, .dma s8) 0))

theorem got_rows {h k : ℕ} {q : PosShare TreeShare} {s7 s8 : DmaSem sig} :
    iprop(Got7 L d lt h k q s7 ∗ Got8 L d tt h k q s8) ⊢ iprop(Rows L d lt tt h k ∗ Rest L d lt tt q s7 s8) := by
  unfold Got7 Got8 Rows Rest
  iintro ⟨⟨A, B⟩, ⟨C, D⟩⟩
  iframe

theorem rows_home {h k : ℕ} {q : PosShare TreeShare} {s7 s8 : DmaSem sig} :
    iprop(Rows L d lt tt h k ∗ Rest L d lt tt q s7 s8) ⊢ iprop(Home7 L d lt h q s7 ∗ Home8 L d tt h q s8) := by
  unfold Home7 Home8 Rows Rest
  iintro ⟨⟨⟨%f, %hf, A⟩, ⟨%f', %hf', B⟩⟩, ⟨C, D⟩⟩
  iframe C D
  isplitl [A]
  · iexists f; iexact A
  · iexists f'; iexact B

/-- One group's pass over a landed chunk. -/
theorem wp_rows {g k h : ℕ} (hh : h < 2) (hg : g < 8)
    (l : Scf.Loop 32) (hl : l.trips = 50) (hok : l.OK)
    (body : Fin l.trips → Acc F → Prog (TpuEff nD τ sig (Elt F) Λ₀ (.scVector ((L 0).castLE hcore0) ((L 1).castLE hsub0))) (Acc F))
    (o : Fin l.trips → Fin 4 → Fin 3 → ℕ) (inb : ∀ t q a, o t q a + S1x1x16.size a ≤ S2x200x128.size a)
    (ho : ∀ t q, o t q = ![h, t.val + 50 * q.val, 16 * g])
    {base : BitVec 32} (hbase : base = BitVec.ofNat 32 (offL L + 200 * k))
    {pv rv : FVec F S16 .f32} (hpv : pv = penV pen g) (hrv : rv = rpV pen g)
    (hbody : ∀ t acc, body t acc = groupBody L lV tV (o t) (inb t) pv rv base (Scf.iv 0#32 1#32 t) acc)
    {init : Acc F} (hinit : init = accs lt tt pen (offL L) g (50 * k))
    {β : Type} {kk : Acc F → Prog (TpuEff nD τ sig (Elt F) Λ₀ (.scVector ((L 0).castLE hcore0) ((L 1).castLE hsub0))) β}
    {Q : β → sProp 𝕄} :
    Rows L d lt tt h k
      ⊢ iprop((Rows L d lt tt h k -∗ wp frame (wpE (defs₀ (F := F)) 𝒱₀ (V d (cV L) (jV L)) none) Set.univ (kk (accs lt tt pen (offL L) g (50 * (k + 1)))) Q)
          -∗ wp frame (wpE (defs₀ (F := F)) 𝒱₀ (V d (cV L) (jV L)) none) Set.univ (Scf.Loop.for l hok init body >>= kk) Q) := by
  unfold Rows
  iintro ⟨⟨%f7, %h7, H7⟩, ⟨%f8, %h8, H8⟩⟩ Hk
  iapply (wp_group (pen := pen) L d hh hg h7 h8 l hl hok body o inb ho hbase hpv hrv hbody hinit) $$ [H7 H8]
  · iframe
  iintro ⟨H7, H8⟩
  iapply Hk
  isplitl [H7]
  · iexists f7; iframe H7; ipureintro; exact h7
  · iexists f8; iframe H8; ipureintro; exact h8

/-- The outer trip's first part: chunk `2 * t` landed, chunk `2 * t + 1` started, group 0 scanned over the first. -/
theorem wp_part17 {α : Type} {Q : α → sProp 𝕄} (t : Fin k0_t1_loop.trips) (v22 : BitVec 32) (hv22 : v22 = BitVec.ofNat 32 (offL L)) {q q' : PosShare TreeShare}
    {O : CellTallies nD τ sig (HIx 1)} {W : Waits sig (HIx 1)} {kk : _ → Prog (TpuEff nD τ sig (Elt F) Λ₀ (thr L d).2) α} :
    iprop((Fl7 L d lt 0 (2 * t.val) q cc0_scratch5.sem ∗ Fl8 L d tt 0 (2 * t.val) q cc0_scratch7.sem)
        ∗ (Home7 L d lt 1 q' cc0_scratch6.sem ∗ Home8 L d tt 1 q' cc0_scratch8.sem) ∗ Ow L d O W ∗ MayWaits (thr L d) (none : HIx 1) O)
      ⊢ iprop((iprop(Rows L d lt tt 0 (2 * t.val) ∗ Rest L d lt tt q cc0_scratch5.sem cc0_scratch7.sem
            ∗ (Fl7 L d lt 1 (2 * t.val + 1) q' cc0_scratch6.sem ∗ Fl8 L d tt 1 (2 * t.val + 1) q' cc0_scratch8.sem) ∗ Ow L d O W)
          -∗ wp frame (wpE (defs₀ (F := F)) 𝒱₀ (thr L d) none) Set.univ (kk ⟨Scf.iv 0#32 1#32 t, (Scalar.addi v22 (Scalar.muli (Scalar.addi (Scalar.muli (Scf.iv 0#32 1#32 t) 2#32) 0#32) 200#32)), (accV lt tt pen (offL L) 0 0 (50 * (2 * t.val + 1))), (accI lt tt pen (offL L) 0 0 (50 * (2 * t.val + 1))), (accV lt tt pen (offL L) 0 1 (50 * (2 * t.val + 1))), (accI lt tt pen (offL L) 0 1 (50 * (2 * t.val + 1))), (accV lt tt pen (offL L) 0 2 (50 * (2 * t.val + 1))), (accI lt tt pen (offL L) 0 2 (50 * (2 * t.val + 1))), (accV lt tt pen (offL L) 0 3 (50 * (2 * t.val + 1))), (accI lt tt pen (offL L) 0 3 (50 * (2 * t.val + 1))), 0#32, 1#32⟩) Q)
        -∗ wp frame (wpE (defs₀ (F := F)) 𝒱₀ (thr L d) none) Set.univ
          (k0_part17 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 v22 (penV pen 0) (rpV pen 0) 0#32 1#32 t (accV lt tt pen (offL L) 0 0 (50 * (2 * t.val))) (accI lt tt pen (offL L) 0 0 (50 * (2 * t.val))) (accV lt tt pen (offL L) 0 1 (50 * (2 * t.val))) (accI lt tt pen (offL L) 0 1 (50 * (2 * t.val))) (accV lt tt pen (offL L) 0 2 (50 * (2 * t.val))) (accI lt tt pen (offL L) 0 2 (50 * (2 * t.val))) (accV lt tt pen (offL L) 0 3 (50 * (2 * t.val))) (accI lt tt pen (offL L) 0 3 (50 * (2 * t.val))) >>= kk) Q) := by
  iintro ⟨⟨H7, H8⟩, ⟨G7, G8⟩, HO, #Hm⟩ Hk
  rw [k0_part17_eq_skeleton]; unfold k0_part17_skel
  simp only [Prog.lift, Prog.bind_op, Prog.bind_ret, Prog.pure_eq_ret, Prog.bind_assoc]
  iapply (wp_got7 (kk := _) rfl) $$ [H7 HO]
  · iframe H7 HO Hm
  iintro ⟨H7, HO⟩
  iapply (wp_got8 (kk := _) rfl) $$ [H8 HO]
  · iframe H8 HO Hm
  iintro ⟨H8, HO⟩
  rw [dif_pos (cond1_all t)]
  simp only [Prog.lift, Prog.bind_op, Prog.bind_ret, Prog.pure_eq_ret, Prog.bind_assoc]
  iapply (wp_fetch7 (k := 2 * t.val + 1) Nat.one_lt_two rfl (off3_eq L t) _ _) $$ G7
  iintro G7
  iapply (wp_fetch8 (k := 2 * t.val + 1) Nat.one_lt_two rfl (off3_eq L t) _ _) $$ G8
  iintro G8
  ihave HB := got_rows $$ [H7 H8]
  · iframe
  icases HB with ⟨HB, HR⟩
  iapply (wp_rows (pen := pen) (g := 0) (k := 2 * t.val) Nat.two_pos (by decide) k0_t2_loop rfl k0_t2_ok _ (fun t q => k0_off4 t (BitVec.ofNat 32 (50 * q.val))) (fun t q => k0_off4_inb t q)
    (fun t q => k0_off4_eq t q) (word_even _ _ _ hv22) rfl rfl (fun _ _ => rfl) rfl) $$ HB
  iintro HB
  iapply Hk
  iframe

/-- The outer trip's second part: groups 1 to 7 scanned over chunk `2 * t`, the logits of chunk `2 * t + 1` landed. -/
theorem wp_part18 {α : Type} {Q : α → sProp 𝕄} (t : Fin k0_t1_loop.trips) (v22 : BitVec 32) (hv22 : v22 = BitVec.ofNat 32 (offL L)) {q' : PosShare TreeShare}
    {O : CellTallies nD τ sig (HIx 1)} {W : Waits sig (HIx 1)} {kk : _ → Prog (TpuEff nD τ sig (Elt F) Λ₀ (thr L d).2) α} :
    iprop(Rows L d lt tt 0 (2 * t.val) ∗ Fl7 L d lt 1 (2 * t.val + 1) q' cc0_scratch6.sem ∗ Ow L d O W ∗ MayWaits (thr L d) (none : HIx 1) O)
      ⊢ iprop((iprop(Rows L d lt tt 0 (2 * t.val) ∗ Got7 L d lt 1 (2 * t.val + 1) q' cc0_scratch6.sem ∗ Ow L d O W)
          -∗ wp frame (wpE (defs₀ (F := F)) 𝒱₀ (thr L d) none) Set.univ (kk ⟨(accV lt tt pen (offL L) 1 0 (50 * (2 * t.val + 1))), (accI lt tt pen (offL L) 1 0 (50 * (2 * t.val + 1))), (accV lt tt pen (offL L) 1 1 (50 * (2 * t.val + 1))), (accI lt tt pen (offL L) 1 1 (50 * (2 * t.val + 1))), (accV lt tt pen (offL L) 1 2 (50 * (2 * t.val + 1))), (accI lt tt pen (offL L) 1 2 (50 * (2 * t.val + 1))), (accV lt tt pen (offL L) 1 3 (50 * (2 * t.val + 1))), (accI lt tt pen (offL L) 1 3 (50 * (2 * t.val + 1))), (accV lt tt pen (offL L) 2 0 (50 * (2 * t.val + 1))), (accI lt tt pen (offL L) 2 0 (50 * (2 * t.val + 1))), (accV lt tt pen (offL L) 2 1 (50 * (2 * t.val + 1))), (accI lt tt pen (offL L) 2 1 (50 * (2 * t.val + 1))), (accV lt tt pen (offL L) 2 2 (50 * (2 * t.val + 1))), (accI lt tt pen (offL L) 2 2 (50 * (2 * t.val + 1))), (accV lt tt pen (offL L) 2 3 (50 * (2 * t.val + 1))), (accI lt tt pen (offL L) 2 3 (50 * (2 * t.val + 1))), (accV lt tt pen (offL L) 3 0 (50 * (2 * t.val + 1))), (accI lt tt pen (offL L) 3 0 (50 * (2 * t.val + 1))), (accV lt tt pen (offL L) 3 1 (50 * (2 * t.val + 1))), (accI lt tt pen (offL L) 3 1 (50 * (2 * t.val + 1))), (accV lt tt pen (offL L) 3 2 (50 * (2 * t.val + 1))), (accI lt tt pen (offL L) 3 2 (50 * (2 * t.val + 1))), (accV lt tt pen (offL L) 3 3 (50 * (2 * t.val + 1))), (accI lt tt pen (offL L) 3 3 (50 * (2 * t.val + 1))), (accV lt tt pen (offL L) 4 0 (50 * (2 * t.val + 1))), (accI lt tt pen (offL L) 4 0 (50 * (2 * t.val + 1))), (accV lt tt pen (offL L) 4 1 (50 * (2 * t.val + 1))), (accI lt tt pen (offL L) 4 1 (50 * (2 * t.val + 1))), (accV lt tt pen (offL L) 4 2 (50 * (2 * t.val + 1))), (accI lt tt pen (offL L) 4 2 (50 * (2 * t.val + 1))), (accV lt tt pen (offL L) 4 3 (50 * (2 * t.val + 1))), (accI lt tt pen (offL L) 4 3 (50 * (2 * t.val + 1))), (accV lt tt pen (offL L) 5 0 (50 * (2 * t.val + 1))), (accI lt tt pen (offL L) 5 0 (50 * (2 * t.val + 1))), (accV lt tt pen (offL L) 5 1 (50 * (2 * t.val + 1))), (accI lt tt pen (offL L) 5 1 (50 * (2 * t.val + 1))), (accV lt tt pen (offL L) 5 2 (50 * (2 * t.val + 1))), (accI lt tt pen (offL L) 5 2 (50 * (2 * t.val + 1))), (accV lt tt pen (offL L) 5 3 (50 * (2 * t.val + 1))), (accI lt tt pen (offL L) 5 3 (50 * (2 * t.val + 1))), (accV lt tt pen (offL L) 6 0 (50 * (2 * t.val + 1))), (accI lt tt pen (offL L) 6 0 (50 * (2 * t.val + 1))), (accV lt tt pen (offL L) 6 1 (50 * (2 * t.val + 1))), (accI lt tt pen (offL L) 6 1 (50 * (2 * t.val + 1))), (accV lt tt pen (offL L) 6 2 (50 * (2 * t.val + 1))), (accI lt tt pen (offL L) 6 2 (50 * (2 * t.val + 1))), (accV lt tt pen (offL L) 6 3 (50 * (2 * t.val + 1))), (accI lt tt pen (offL L) 6 3 (50 * (2 * t.val + 1))), (accV lt tt pen (offL L) 7 0 (50 * (2 * t.val + 1))), (accI lt tt pen (offL L) 7 0 (50 * (2 * t.val + 1))), (accV lt tt pen (offL L) 7 1 (50 * (2 * t.val + 1))), (accI lt tt pen (offL L) 7 1 (50 * (2 * t.val + 1))), (accV lt tt pen (offL L) 7 2 (50 * (2 * t.val + 1))), (accI lt tt pen (offL L) 7 2 (50 * (2 * t.val + 1))), (accV lt tt pen (offL L) 7 3 (50 * (2 * t.val + 1))), (accI lt tt pen (offL L) 7 3 (50 * (2 * t.val + 1))), (Scalar.addi (Scalar.muli (Scf.iv 0#32 1#32 t) 2#32) 1#32), 200#32⟩) Q)
        -∗ wp frame (wpE (defs₀ (F := F)) 𝒱₀ (thr L d) none) Set.univ
          (k0_part18 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 v22 (penV pen 1) (penV pen 2) (penV pen 3) (penV pen 4) (penV pen 5) (penV pen 6) (penV pen 7) (rpV pen 1) (rpV pen 2) (rpV pen 3) (rpV pen 4) (rpV pen 5) (rpV pen 6) (rpV pen 7) t (accV lt tt pen (offL L) 1 0 (50 * (2 * t.val))) (accI lt tt pen (offL L) 1 0 (50 * (2 * t.val))) (accV lt tt pen (offL L) 1 1 (50 * (2 * t.val))) (accI lt tt pen (offL L) 1 1 (50 * (2 * t.val))) (accV lt tt pen (offL L) 1 2 (50 * (2 * t.val))) (accI lt tt pen (offL L) 1 2 (50 * (2 * t.val))) (accV lt tt pen (offL L) 1 3 (50 * (2 * t.val))) (accI lt tt pen (offL L) 1 3 (50 * (2 * t.val))) (accV lt tt pen (offL L) 2 0 (50 * (2 * t.val))) (accI lt tt pen (offL L) 2 0 (50 * (2 * t.val))) (accV lt tt pen (offL L) 2 1 (50 * (2 * t.val))) (accI lt tt pen (offL L) 2 1 (50 * (2 * t.val))) (accV lt tt pen (offL L) 2 2 (50 * (2 * t.val))) (accI lt tt pen (offL L) 2 2 (50 * (2 * t.val))) (accV lt tt pen (offL L) 2 3 (50 * (2 * t.val))) (accI lt tt pen (offL L) 2 3 (50 * (2 * t.val))) (accV lt tt pen (offL L) 3 0 (50 * (2 * t.val))) (accI lt tt pen (offL L) 3 0 (50 * (2 * t.val))) (accV lt tt pen (offL L) 3 1 (50 * (2 * t.val))) (accI lt tt pen (offL L) 3 1 (50 * (2 * t.val))) (accV lt tt pen (offL L) 3 2 (50 * (2 * t.val))) (accI lt tt pen (offL L) 3 2 (50 * (2 * t.val))) (accV lt tt pen (offL L) 3 3 (50 * (2 * t.val))) (accI lt tt pen (offL L) 3 3 (50 * (2 * t.val))) (accV lt tt pen (offL L) 4 0 (50 * (2 * t.val))) (accI lt tt pen (offL L) 4 0 (50 * (2 * t.val))) (accV lt tt pen (offL L) 4 1 (50 * (2 * t.val))) (accI lt tt pen (offL L) 4 1 (50 * (2 * t.val))) (accV lt tt pen (offL L) 4 2 (50 * (2 * t.val))) (accI lt tt pen (offL L) 4 2 (50 * (2 * t.val))) (accV lt tt pen (offL L) 4 3 (50 * (2 * t.val))) (accI lt tt pen (offL L) 4 3 (50 * (2 * t.val))) (accV lt tt pen (offL L) 5 0 (50 * (2 * t.val))) (accI lt tt pen (offL L) 5 0 (50 * (2 * t.val))) (accV lt tt pen (offL L) 5 1 (50 * (2 * t.val))) (accI lt tt pen (offL L) 5 1 (50 * (2 * t.val))) (accV lt tt pen (offL L) 5 2 (50 * (2 * t.val))) (accI lt tt pen (offL L) 5 2 (50 * (2 * t.val))) (accV lt tt pen (offL L) 5 3 (50 * (2 * t.val))) (accI lt tt pen (offL L) 5 3 (50 * (2 * t.val))) (accV lt tt pen (offL L) 6 0 (50 * (2 * t.val))) (accI lt tt pen (offL L) 6 0 (50 * (2 * t.val))) (accV lt tt pen (offL L) 6 1 (50 * (2 * t.val))) (accI lt tt pen (offL L) 6 1 (50 * (2 * t.val))) (accV lt tt pen (offL L) 6 2 (50 * (2 * t.val))) (accI lt tt pen (offL L) 6 2 (50 * (2 * t.val))) (accV lt tt pen (offL L) 6 3 (50 * (2 * t.val))) (accI lt tt pen (offL L) 6 3 (50 * (2 * t.val))) (accV lt tt pen (offL L) 7 0 (50 * (2 * t.val))) (accI lt tt pen (offL L) 7 0 (50 * (2 * t.val))) (accV lt tt pen (offL L) 7 1 (50 * (2 * t.val))) (accI lt tt pen (offL L) 7 1 (50 * (2 * t.val))) (accV lt tt pen (offL L) 7 2 (50 * (2 * t.val))) (accI lt tt pen (offL L) 7 2 (50 * (2 * t.val))) (accV lt tt pen (offL L) 7 3 (50 * (2 * t.val))) (accI lt tt pen (offL L) 7 3 (50 * (2 * t.val))) (Scf.iv 0#32 1#32 t) (Scalar.addi v22 (Scalar.muli (Scalar.addi (Scalar.muli (Scf.iv 0#32 1#32 t) 2#32) 0#32) 200#32)) 0#32 1#32 >>= kk) Q) := by
  iintro ⟨HB, G7, HO, #Hm⟩ Hk
  rw [k0_part18_eq_skeleton]; unfold k0_part18_skel
  simp only [Prog.lift, Prog.bind_op, Prog.bind_ret, Prog.pure_eq_ret, Prog.bind_assoc]
  iapply (wp_rows (pen := pen) (g := 1) (k := 2 * t.val) Nat.two_pos (by decide) k0_t3_loop rfl k0_t3_ok _ (fun t q => k0_off5 t (BitVec.ofNat 32 (50 * q.val))) (fun t q => k0_off5_inb t q)
    (fun t q => k0_off5_eq t q) (word_even _ _ _ hv22) rfl rfl (fun _ _ => rfl) rfl) $$ HB
  iintro HB
  iapply (wp_rows (pen := pen) (g := 2) (k := 2 * t.val) Nat.two_pos (by decide) k0_t4_loop rfl k0_t4_ok _ (fun t q => k0_off6 t (BitVec.ofNat 32 (50 * q.val))) (fun t q => k0_off6_inb t q)
    (fun t q => k0_off6_eq t q) (word_even _ _ _ hv22) rfl rfl (fun _ _ => rfl) rfl) $$ HB
  iintro HB
  iapply (wp_rows (pen := pen) (g := 3) (k := 2 * t.val) Nat.two_pos (by decide) k0_t5_loop rfl k0_t5_ok _ (fun t q => k0_off7 t (BitVec.ofNat 32 (50 * q.val))) (fun t q => k0_off7_inb t q)
    (fun t q => k0_off7_eq t q) (word_even _ _ _ hv22) rfl rfl (fun _ _ => rfl) rfl) $$ HB
  iintro HB
  iapply (wp_rows (pen := pen) (g := 4) (k := 2 * t.val) Nat.two_pos (by decide) k0_t6_loop rfl k0_t6_ok _ (fun t q => k0_off8 t (BitVec.ofNat 32 (50 * q.val))) (fun t q => k0_off8_inb t q)
    (fun t q => k0_off8_eq t q) (word_even _ _ _ hv22) rfl rfl (fun _ _ => rfl) rfl) $$ HB
  iintro HB
  iapply (wp_rows (pen := pen) (g := 5) (k := 2 * t.val) Nat.two_pos (by decide) k0_t7_loop rfl k0_t7_ok _ (fun t q => k0_off9 t (BitVec.ofNat 32 (50 * q.val))) (fun t q => k0_off9_inb t q)
    (fun t q => k0_off9_eq t q) (word_even _ _ _ hv22) rfl rfl (fun _ _ => rfl) rfl) $$ HB
  iintro HB
  iapply (wp_rows (pen := pen) (g := 6) (k := 2 * t.val) Nat.two_pos (by decide) k0_t8_loop rfl k0_t8_ok _ (fun t q => k0_off10 t (BitVec.ofNat 32 (50 * q.val))) (fun t q => k0_off10_inb t q)
    (fun t q => k0_off10_eq t q) (word_even _ _ _ hv22) rfl rfl (fun _ _ => rfl) rfl) $$ HB
  iintro HB
  iapply (wp_rows (pen := pen) (g := 7) (k := 2 * t.val) Nat.two_pos (by decide) k0_t9_loop rfl k0_t9_ok _ (fun t q => k0_off11 t (BitVec.ofNat 32 (50 * q.val))) (fun t q => k0_off11_inb t q)
    (fun t q => k0_off11_eq t q) (word_even _ _ _ hv22) rfl rfl (fun _ _ => rfl) rfl) $$ HB
  iintro HB
  iapply (wp_got7 (kk := _) rfl) $$ [G7 HO]
  · iframe G7 HO Hm
  iintro ⟨G7, HO⟩
  iapply Hk
  iframe

/-- Before outer trip `n`: chunk `2 * n` on its way into buffer 0, or past the last trip the buffer at home. -/
def Next (L : grid0.Coords) (d : Dev nD) (lt : S100000x128.Idx → F .f32) (tt : S100000x128.Idx → BitVec 32) (n : ℕ) (q : PosShare TreeShare) : sProp 𝕄 :=
  if n < 3 then iprop(Fl7 L d lt 0 (2 * n) q cc0_scratch5.sem ∗ Fl8 L d tt 0 (2 * n) q cc0_scratch7.sem)
  else iprop(Home7 L d lt 0 q cc0_scratch5.sem ∗ Home8 L d tt 0 q cc0_scratch7.sem)

theorem next_more {n : ℕ} {q : PosShare TreeShare} (h : n < 3) :
    iprop(Fl7 L d lt 0 (2 * n) q cc0_scratch5.sem ∗ Fl8 L d tt 0 (2 * n) q cc0_scratch7.sem) ⊢ Next L d lt tt n q := by
  unfold Next; rw [if_pos h]

theorem next_last {n : ℕ} {q : PosShare TreeShare} (h : ¬ n < 3) :
    iprop(Home7 L d lt 0 q cc0_scratch5.sem ∗ Home8 L d tt 0 q cc0_scratch7.sem) ⊢ Next L d lt tt n q := by
  unfold Next; rw [if_neg h]

/-- The outer trip's third part: the counts of chunk `2 * t + 1` landed, the chunk after it started while there is one, groups 0 to 4 scanned. -/
theorem wp_part19 {α : Type} {Q : α → sProp 𝕄} (t : Fin k0_t1_loop.trips) (v22 : BitVec 32) (hv22 : v22 = BitVec.ofNat 32 (offL L)) {q q' : PosShare TreeShare}
    {O : CellTallies nD τ sig (HIx 1)} {W : Waits sig (HIx 1)} {kk : _ → Prog (TpuEff nD τ sig (Elt F) Λ₀ (thr L d).2) α} :
    iprop((Home7 L d lt 0 q cc0_scratch5.sem ∗ Home8 L d tt 0 q cc0_scratch7.sem)
        ∗ (Got7 L d lt 1 (2 * t.val + 1) q' cc0_scratch6.sem ∗ Fl8 L d tt 1 (2 * t.val + 1) q' cc0_scratch8.sem) ∗ Ow L d O W ∗ MayWaits (thr L d) (none : HIx 1) O)
      ⊢ iprop((iprop(Next L d lt tt (t.val + 1) q ∗ Rows L d lt tt 1 (2 * t.val + 1) ∗ Rest L d lt tt q' cc0_scratch6.sem cc0_scratch8.sem ∗ Ow L d O W)
          -∗ wp frame (wpE (defs₀ (F := F)) 𝒱₀ (thr L d) none) Set.univ (kk ⟨(Scalar.addi v22 (Scalar.muli (Scalar.addi (Scalar.muli (Scf.iv 0#32 1#32 t) 2#32) 1#32) 200#32)), (accV lt tt pen (offL L) 0 0 (50 * (2 * t.val + 1 + 1))), (accI lt tt pen (offL L) 0 0 (50 * (2 * t.val + 1 + 1))), (accV lt tt pen (offL L) 0 1 (50 * (2 * t.val + 1 + 1))), (accI lt tt pen (offL L) 0 1 (50 * (2 * t.val + 1 + 1))), (accV lt tt pen (offL L) 0 2 (50 * (2 * t.val + 1 + 1))), (accI lt tt pen (offL L) 0 2 (50 * (2 * t.val + 1 + 1))), (accV lt tt pen (offL L) 0 3 (50 * (2 * t.val + 1 + 1))), (accI lt tt pen (offL L) 0 3 (50 * (2 * t.val + 1 + 1))), (accV lt tt pen (offL L) 1 0 (50 * (2 * t.val + 1 + 1))), (accI lt tt pen (offL L) 1 0 (50 * (2 * t.val + 1 + 1))), (accV lt tt pen (offL L) 1 1 (50 * (2 * t.val + 1 + 1))), (accI lt tt pen (offL L) 1 1 (50 * (2 * t.val + 1 + 1))), (accV lt tt pen (offL L) 1 2 (50 * (2 * t.val + 1 + 1))), (accI lt tt pen (offL L) 1 2 (50 * (2 * t.val + 1 + 1))), (accV lt tt pen (offL L) 1 3 (50 * (2 * t.val + 1 + 1))), (accI lt tt pen (offL L) 1 3 (50 * (2 * t.val + 1 + 1))), (accV lt tt pen (offL L) 2 0 (50 * (2 * t.val + 1 + 1))), (accI lt tt pen (offL L) 2 0 (50 * (2 * t.val + 1 + 1))), (accV lt tt pen (offL L) 2 1 (50 * (2 * t.val + 1 + 1))), (accI lt tt pen (offL L) 2 1 (50 * (2 * t.val + 1 + 1))), (accV lt tt pen (offL L) 2 2 (50 * (2 * t.val + 1 + 1))), (accI lt tt pen (offL L) 2 2 (50 * (2 * t.val + 1 + 1))), (accV lt tt pen (offL L) 2 3 (50 * (2 * t.val + 1 + 1))), (accI lt tt pen (offL L) 2 3 (50 * (2 * t.val + 1 + 1))), (accV lt tt pen (offL L) 3 0 (50 * (2 * t.val + 1 + 1))), (accI lt tt pen (offL L) 3 0 (50 * (2 * t.val + 1 + 1))), (accV lt tt pen (offL L) 3 1 (50 * (2 * t.val + 1 + 1))), (accI lt tt pen (offL L) 3 1 (50 * (2 * t.val + 1 + 1))), (accV lt tt pen (offL L) 3 2 (50 * (2 * t.val + 1 + 1))), (accI lt tt pen (offL L) 3 2 (50 * (2 * t.val + 1 + 1))), (accV lt tt pen (offL L) 3 3 (50 * (2 * t.val + 1 + 1))), (accI lt tt pen (offL L) 3 3 (50 * (2 * t.val + 1 + 1))), (accV lt tt pen (offL L) 4 0 (50 * (2 * t.val + 1 + 1))), (accI lt tt pen (offL L) 4 0 (50 * (2 * t.val + 1 + 1))), (accV lt tt pen (offL L) 4 1 (50 * (2 * t.val + 1 + 1))), (accI lt tt pen (offL L) 4 1 (50 * (2 * t.val + 1 + 1))), (accV lt tt pen (offL L) 4 2 (50 * (2 * t.val + 1 + 1))), (accI lt tt pen (offL L) 4 2 (50 * (2 * t.val + 1 + 1))), (accV lt tt pen (offL L) 4 3 (50 * (2 * t.val + 1 + 1))), (accI lt tt pen (offL L) 4 3 (50 * (2 * t.val + 1 + 1))), 0#32⟩) Q)
        -∗ wp frame (wpE (defs₀ (F := F)) 𝒱₀ (thr L d) none) Set.univ
          (k0_part19 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 v22 (penV pen 0) (penV pen 1) (penV pen 2) (penV pen 3) (penV pen 4) (rpV pen 0) (rpV pen 1) (rpV pen 2) (rpV pen 3) (rpV pen 4) t (accV lt tt pen (offL L) 0 0 (50 * (2 * t.val + 1))) (accI lt tt pen (offL L) 0 0 (50 * (2 * t.val + 1))) (accV lt tt pen (offL L) 0 1 (50 * (2 * t.val + 1))) (accI lt tt pen (offL L) 0 1 (50 * (2 * t.val + 1))) (accV lt tt pen (offL L) 0 2 (50 * (2 * t.val + 1))) (accI lt tt pen (offL L) 0 2 (50 * (2 * t.val + 1))) (accV lt tt pen (offL L) 0 3 (50 * (2 * t.val + 1))) (accI lt tt pen (offL L) 0 3 (50 * (2 * t.val + 1))) (accV lt tt pen (offL L) 1 0 (50 * (2 * t.val + 1))) (accI lt tt pen (offL L) 1 0 (50 * (2 * t.val + 1))) (accV lt tt pen (offL L) 1 1 (50 * (2 * t.val + 1))) (accI lt tt pen (offL L) 1 1 (50 * (2 * t.val + 1))) (accV lt tt pen (offL L) 1 2 (50 * (2 * t.val + 1))) (accI lt tt pen (offL L) 1 2 (50 * (2 * t.val + 1))) (accV lt tt pen (offL L) 1 3 (50 * (2 * t.val + 1))) (accI lt tt pen (offL L) 1 3 (50 * (2 * t.val + 1))) (accV lt tt pen (offL L) 2 0 (50 * (2 * t.val + 1))) (accI lt tt pen (offL L) 2 0 (50 * (2 * t.val + 1))) (accV lt tt pen (offL L) 2 1 (50 * (2 * t.val + 1))) (accI lt tt pen (offL L) 2 1 (50 * (2 * t.val + 1))) (accV lt tt pen (offL L) 2 2 (50 * (2 * t.val + 1))) (accI lt tt pen (offL L) 2 2 (50 * (2 * t.val + 1))) (accV lt tt pen (offL L) 2 3 (50 * (2 * t.val + 1))) (accI lt tt pen (offL L) 2 3 (50 * (2 * t.val + 1))) (accV lt tt pen (offL L) 3 0 (50 * (2 * t.val + 1))) (accI lt tt pen (offL L) 3 0 (50 * (2 * t.val + 1))) (accV lt tt pen (offL L) 3 1 (50 * (2 * t.val + 1))) (accI lt tt pen (offL L) 3 1 (50 * (2 * t.val + 1))) (accV lt tt pen (offL L) 3 2 (50 * (2 * t.val + 1))) (accI lt tt pen (offL L) 3 2 (50 * (2 * t.val + 1))) (accV lt tt pen (offL L) 3 3 (50 * (2 * t.val + 1))) (accI lt tt pen (offL L) 3 3 (50 * (2 * t.val + 1))) (accV lt tt pen (offL L) 4 0 (50 * (2 * t.val + 1))) (accI lt tt pen (offL L) 4 0 (50 * (2 * t.val + 1))) (accV lt tt pen (offL L) 4 1 (50 * (2 * t.val + 1))) (accI lt tt pen (offL L) 4 1 (50 * (2 * t.val + 1))) (accV lt tt pen (offL L) 4 2 (50 * (2 * t.val + 1))) (accI lt tt pen (offL L) 4 2 (50 * (2 * t.val + 1))) (accV lt tt pen (offL L) 4 3 (50 * (2 * t.val + 1))) (accI lt tt pen (offL L) 4 3 (50 * (2 * t.val + 1))) (Scalar.addi (Scalar.muli (Scf.iv 0#32 1#32 t) 2#32) 1#32) 200#32 >>= kk) Q) := by
  iintro ⟨HH, ⟨G7, G8⟩, HO, #Hm⟩ Hk
  rw [k0_part19_eq_skeleton]; unfold k0_part19_skel
  simp only [Prog.lift, Prog.bind_op, Prog.bind_ret, Prog.pure_eq_ret, Prog.bind_assoc]
  iapply (wp_got8 (kk := _) rfl) $$ [G8 HO]
  · iframe G8 HO Hm
  iintro ⟨G8, HO⟩
  by_cases h : k0_cond2 t = 1#1
  rw [dif_pos h]
  simp only [Prog.lift, Prog.bind_op, Prog.bind_ret, Prog.pure_eq_ret, Prog.bind_assoc]
  icases HH with ⟨K7, K8⟩
  iapply (wp_fetch7 (k := 2 * t.val + 2) Nat.two_pos rfl (off12_eq L t) _ _) $$ K7
  iintro K7
  iapply (wp_fetch8 (k := 2 * t.val + 2) Nat.two_pos rfl (off12_eq L t) _ _) $$ K8
  iintro K8
  ihave HN := (next_more (n := t.val + 1) (lt := lt) (tt := tt) (Nat.succ_lt_succ ((cond2_iff t).mp h))) $$ [K7 K8]
  · isplitl [K7]
    · iexact K7
    · iexact K8
  rotate_left
  rw [dif_neg h]
  simp only [Prog.lift, Prog.bind_op, Prog.bind_ret, Prog.pure_eq_ret, Prog.bind_assoc]
  ihave HN := (next_last (n := t.val + 1) (fun hn => h ((cond2_iff t).mpr (Nat.lt_of_succ_lt_succ hn)))) $$ HH
  all_goals
    ihave HB := got_rows $$ [G7 G8]
    · iframe
    icases HB with ⟨HB, HR⟩
    iapply (wp_rows (pen := pen) (g := 0) (k := 2 * t.val + 1) Nat.one_lt_two (by decide) k0_t10_loop rfl k0_t10_ok _ (fun t q => k0_off13 t (BitVec.ofNat 32 (50 * q.val))) (fun t q => k0_off13_inb t q)
      (fun t q => k0_off13_eq t q) (word_odd _ _ _ hv22) rfl rfl (fun _ _ => rfl) rfl) $$ HB
    iintro HB
    iapply (wp_rows (pen := pen) (g := 1) (k := 2 * t.val + 1) Nat.one_lt_two (by decide) k0_t11_loop rfl k0_t11_ok _ (fun t q => k0_off14 t (BitVec.ofNat 32 (50 * q.val))) (fun t q => k0_off14_inb t q)
      (fun t q => k0_off14_eq t q) (word_odd _ _ _ hv22) rfl rfl (fun _ _ => rfl) rfl) $$ HB
    iintro HB
    iapply (wp_rows (pen := pen) (g := 2) (k := 2 * t.val + 1) Nat.one_lt_two (by decide) k0_t12_loop rfl k0_t12_ok _ (fun t q => k0_off15 t (BitVec.ofNat 32 (50 * q.val))) (fun t q => k0_off15_inb t q)
      (fun t q => k0_off15_eq t q) (word_odd _ _ _ hv22) rfl rfl (fun _ _ => rfl) rfl) $$ HB
    iintro HB
    iapply (wp_rows (pen := pen) (g := 3) (k := 2 * t.val + 1) Nat.one_lt_two (by decide) k0_t13_loop rfl k0_t13_ok _ (fun t q => k0_off16 t (BitVec.ofNat 32 (50 * q.val))) (fun t q => k0_off16_inb t q)
      (fun t q => k0_off16_eq t q) (word_odd _ _ _ hv22) rfl rfl (fun _ _ => rfl) rfl) $$ HB
    iintro HB
    iapply (wp_rows (pen := pen) (g := 4) (k := 2 * t.val + 1) Nat.one_lt_two (by decide) k0_t14_loop rfl k0_t14_ok _ (fun t q => k0_off17 t (BitVec.ofNat 32 (50 * q.val))) (fun t q => k0_off17_inb t q)
      (fun t q => k0_off17_eq t q) (word_odd _ _ _ hv22) rfl rfl (fun _ _ => rfl) rfl) $$ HB
    iintro HB
    iapply Hk
    iframe

end Cert.Proof.Scan

end
-- ==== Proof.ScanTrip.lean ====
/-
  One tile's double-buffered stripe: the chunks' fetches and waits, and the outer loop's parts.
-/
module

public import proofs.«01_k».proof.Proof.ScanParts

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

local notation "pnV" => (Memref.whole Cert.KernelIdeal.main_v3_scv : Memref Cert.KernelIdeal.sig Kind.scVector Space.hbm Cert.KernelIdeal.S128 EltTy.f32)
local notation "ovV" => (Memref.whole Cert.KernelIdeal.main_v5_0_scv : Memref Cert.KernelIdeal.sig Kind.scVector Space.hbm Cert.KernelIdeal.S4096 EltTy.f32)
local notation "oiV" => (Memref.whole Cert.KernelIdeal.main_v5_1_scv : Memref Cert.KernelIdeal.sig Kind.scVector Space.hbm Cert.KernelIdeal.S4096 EltTy.i32)
local notation "pV" => (Memref.whole Cert.KernelIdeal.cc0_scratch2 : Memref Cert.KernelIdeal.sig Kind.scVector Space.vmem Cert.KernelIdeal.S128 EltTy.f32)
local notation "rvV" => (Memref.whole Cert.KernelIdeal.cc0_scratch3 : Memref Cert.KernelIdeal.sig Kind.scVector Space.vmem Cert.KernelIdeal.S128 EltTy.f32)
local notation "riV" => (Memref.whole Cert.KernelIdeal.cc0_scratch4 : Memref Cert.KernelIdeal.sig Kind.scVector Space.vmem Cert.KernelIdeal.S128 EltTy.i32)

variable {L : grid0.Coords} {d : Dev nD}
variable {lt : S100000x128.Idx → F .f32} {tt : S100000x128.Idx → BitVec 32} {pen : S128.Idx → F .f32}

section

variable (lt tt pen) in
/-- All the accumulators, after `n` rows of each quarter. -/
def All (off n : ℕ) : FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 × FVec F S16 .f32 × IVec S16 32 :=
  ((accV lt tt pen off 0 0 n), (accI lt tt pen off 0 0 n), (accV lt tt pen off 0 1 n), (accI lt tt pen off 0 1 n), (accV lt tt pen off 0 2 n), (accI lt tt pen off 0 2 n), (accV lt tt pen off 0 3 n), (accI lt tt pen off 0 3 n), (accV lt tt pen off 1 0 n), (accI lt tt pen off 1 0 n), (accV lt tt pen off 1 1 n), (accI lt tt pen off 1 1 n), (accV lt tt pen off 1 2 n), (accI lt tt pen off 1 2 n), (accV lt tt pen off 1 3 n), (accI lt tt pen off 1 3 n), (accV lt tt pen off 2 0 n), (accI lt tt pen off 2 0 n), (accV lt tt pen off 2 1 n), (accI lt tt pen off 2 1 n), (accV lt tt pen off 2 2 n), (accI lt tt pen off 2 2 n), (accV lt tt pen off 2 3 n), (accI lt tt pen off 2 3 n), (accV lt tt pen off 3 0 n), (accI lt tt pen off 3 0 n), (accV lt tt pen off 3 1 n), (accI lt tt pen off 3 1 n), (accV lt tt pen off 3 2 n), (accI lt tt pen off 3 2 n), (accV lt tt pen off 3 3 n), (accI lt tt pen off 3 3 n), (accV lt tt pen off 4 0 n), (accI lt tt pen off 4 0 n), (accV lt tt pen off 4 1 n), (accI lt tt pen off 4 1 n), (accV lt tt pen off 4 2 n), (accI lt tt pen off 4 2 n), (accV lt tt pen off 4 3 n), (accI lt tt pen off 4 3 n), (accV lt tt pen off 5 0 n), (accI lt tt pen off 5 0 n), (accV lt tt pen off 5 1 n), (accI lt tt pen off 5 1 n), (accV lt tt pen off 5 2 n), (accI lt tt pen off 5 2 n), (accV lt tt pen off 5 3 n), (accI lt tt pen off 5 3 n), (accV lt tt pen off 6 0 n), (accI lt tt pen off 6 0 n), (accV lt tt pen off 6 1 n), (accI lt tt pen off 6 1 n), (accV lt tt pen off 6 2 n), (accI lt tt pen off 6 2 n), (accV lt tt pen off 6 3 n), (accI lt tt pen off 6 3 n), (accV lt tt pen off 7 0 n), (accI lt tt pen off 7 0 n), (accV lt tt pen off 7 1 n), (accI lt tt pen off 7 1 n), (accV lt tt pen off 7 2 n), (accI lt tt pen off 7 2 n), (accV lt tt pen off 7 3 n), (accI lt tt pen off 7 3 n))

end

theorem next_now {n : ℕ} {q : PosShare TreeShare} (h : n < 3) :
    Next L d lt tt n q ⊢ iprop(Fl7 L d lt 0 (2 * n) q cc0_scratch5.sem ∗ Fl8 L d tt 0 (2 * n) q cc0_scratch7.sem) := by
  unfold Next; rw [if_pos h]

theorem next_done {n : ℕ} {q : PosShare TreeShare} (h : ¬ n < 3) :
    Next L d lt tt n q ⊢ iprop(Home7 L d lt 0 q cc0_scratch5.sem ∗ Home8 L d tt 0 q cc0_scratch7.sem) := by
  unfold Next; rw [if_neg h]

/-- One outer trip: two chunks scanned. -/
theorem wp_trip {α : Type} {Q : α → sProp 𝕄} (t : Fin k0_t1_loop.trips) (v22 : BitVec 32) (hv22 : v22 = BitVec.ofNat 32 (offL L)) {q q' : PosShare TreeShare}
    {O : CellTallies nD τ sig (HIx 1)} {W : Waits sig (HIx 1)} {kk : _ → Prog (TpuEff nD τ sig (Elt F) Λ₀ (thr L d).2) α} {acc} (hacc : acc = All lt tt pen (offL L) (50 * (2 * t.val))) :
    iprop(Next L d lt tt t.val q ∗ (Home7 L d lt 1 q' cc0_scratch6.sem ∗ Home8 L d tt 1 q' cc0_scratch8.sem) ∗ Ow L d O W ∗ MayWaits (thr L d) (none : HIx 1) O)
      ⊢ iprop((iprop(Next L d lt tt (t.val + 1) q ∗ (Home7 L d lt 1 q' cc0_scratch6.sem ∗ Home8 L d tt 1 q' cc0_scratch8.sem) ∗ Ow L d O W)
          -∗ wp frame (wpE (defs₀ (F := F)) 𝒱₀ (thr L d) none) Set.univ (kk (All lt tt pen (offL L) (50 * (2 * t.val + 1 + 1)))) Q)
        -∗ wp frame (wpE (defs₀ (F := F)) 𝒱₀ (thr L d) none) Set.univ
          (k0_t1_body (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 v22 (penV pen 0) (penV pen 1) (penV pen 2) (penV pen 3) (penV pen 4) (penV pen 5) (penV pen 6) (penV pen 7) (rpV pen 0) (rpV pen 1) (rpV pen 2) (rpV pen 3) (rpV pen 4) (rpV pen 5) (rpV pen 6) (rpV pen 7) (accV lt tt pen (offL L) 0 0 0) (accI lt tt pen (offL L) 0 0 0) (accV lt tt pen (offL L) 0 1 0) (accI lt tt pen (offL L) 0 1 0) (accV lt tt pen (offL L) 0 2 0) (accI lt tt pen (offL L) 0 2 0) (accV lt tt pen (offL L) 0 3 0) (accI lt tt pen (offL L) 0 3 0) (accV lt tt pen (offL L) 1 0 0) (accI lt tt pen (offL L) 1 0 0) (accV lt tt pen (offL L) 1 1 0) (accI lt tt pen (offL L) 1 1 0) (accV lt tt pen (offL L) 1 2 0) (accI lt tt pen (offL L) 1 2 0) (accV lt tt pen (offL L) 1 3 0) (accI lt tt pen (offL L) 1 3 0) (accV lt tt pen (offL L) 2 0 0) (accI lt tt pen (offL L) 2 0 0) (accV lt tt pen (offL L) 2 1 0) (accI lt tt pen (offL L) 2 1 0) (accV lt tt pen (offL L) 2 2 0) (accI lt tt pen (offL L) 2 2 0) (accV lt tt pen (offL L) 2 3 0) (accI lt tt pen (offL L) 2 3 0) (accV lt tt pen (offL L) 3 0 0) (accI lt tt pen (offL L) 3 0 0) (accV lt tt pen (offL L) 3 1 0) (accI lt tt pen (offL L) 3 1 0) (accV lt tt pen (offL L) 3 2 0) (accI lt tt pen (offL L) 3 2 0) (accV lt tt pen (offL L) 3 3 0) (accI lt tt pen (offL L) 3 3 0) (accV lt tt pen (offL L) 4 0 0) (accI lt tt pen (offL L) 4 0 0) (accV lt tt pen (offL L) 4 1 0) (accI lt tt pen (offL L) 4 1 0) (accV lt tt pen (offL L) 4 2 0) (accI lt tt pen (offL L) 4 2 0) (accV lt tt pen (offL L) 4 3 0) (accI lt tt pen (offL L) 4 3 0) (accV lt tt pen (offL L) 5 0 0) (accI lt tt pen (offL L) 5 0 0) (accV lt tt pen (offL L) 5 1 0) (accI lt tt pen (offL L) 5 1 0) (accV lt tt pen (offL L) 5 2 0) (accI lt tt pen (offL L) 5 2 0) (accV lt tt pen (offL L) 5 3 0) (accI lt tt pen (offL L) 5 3 0) (accV lt tt pen (offL L) 6 0 0) (accI lt tt pen (offL L) 6 0 0) (accV lt tt pen (offL L) 6 1 0) (accI lt tt pen (offL L) 6 1 0) (accV lt tt pen (offL L) 6 2 0) (accI lt tt pen (offL L) 6 2 0) (accV lt tt pen (offL L) 6 3 0) (accI lt tt pen (offL L) 6 3 0) (accV lt tt pen (offL L) 7 0 0) (accI lt tt pen (offL L) 7 0 0) (accV lt tt pen (offL L) 7 1 0) (accI lt tt pen (offL L) 7 1 0) (accV lt tt pen (offL L) 7 2 0) t acc >>= kk) Q) := by
  subst hacc
  iintro ⟨HN, HH, HO, #Hm⟩ Hk
  unfold k0_t1_body
  simp only [All, Prog.bind_assoc]
  iapply (wp_part17 t v22 hv22) $$ [HN HH HO]
  · ihave HN := (next_now (n := t.val) t.isLt) $$ HN
    icases HN with ⟨N7, N8⟩
    icases HH with ⟨G7, G8⟩
    iframe N7 N8 G7 G8 HO Hm
  iintro ⟨HB, HR, ⟨G7, G8⟩, HO⟩
  dsimp only
  iapply (wp_part18 t v22 hv22) $$ [HB G7 HO]
  · iframe HB G7 HO Hm
  iintro ⟨HB, G7, HO⟩
  dsimp only
  iapply (wp_part19 t v22 hv22) $$ [HB HR G7 G8 HO]
  · ihave HH := rows_home $$ [HB HR]
    · iframe
    iframe HH G7 G8 HO Hm
  iintro ⟨HN, HB, HR, HO⟩
  simp only [Prog.bind_assoc, Prog.pure_eq_ret, Prog.bind_ret]
  iapply (wp_rows (pen := pen) (g := 5) (k := 2 * t.val + 1) Nat.one_lt_two (by decide) k0_t15_loop rfl k0_t15_ok _ (fun t q => k0_off18 t (BitVec.ofNat 32 (50 * q.val))) (fun t q => k0_off18_inb t q)
    (fun t q => k0_off18_eq t q) (word_odd _ _ _ hv22) rfl rfl (fun _ _ => rfl) rfl) $$ HB
  iintro HB
  iapply (wp_rows (pen := pen) (g := 6) (k := 2 * t.val + 1) Nat.one_lt_two (by decide) k0_t16_loop rfl k0_t16_ok _ (fun t q => k0_off19 t (BitVec.ofNat 32 (50 * q.val))) (fun t q => k0_off19_inb t q)
    (fun t q => k0_off19_eq t q) (word_odd _ _ _ hv22) rfl rfl (fun _ _ => rfl) rfl) $$ HB
  iintro HB
  iapply (wp_rows (pen := pen) (g := 7) (k := 2 * t.val + 1) Nat.one_lt_two (by decide) k0_t17_loop rfl k0_t17_ok _ (fun t q => k0_off20 t (BitVec.ofNat 32 (50 * q.val))) (fun t q => k0_off20_inb t q)
    (fun t q => k0_off20_eq t q) (word_odd _ _ _ hv22) rfl rfl (fun _ _ => rfl) rfl) $$ HB
  iintro HB
  ihave HH := rows_home $$ [HB HR]
  · iframe
  iapply Hk
  iframe

/-- The whole stripe: six chunks scanned. -/
theorem wp_outer {α : Type} {Q : α → sProp 𝕄} (v22 : BitVec 32) (hv22 : v22 = BitVec.ofNat 32 (offL L)) {q q' : PosShare TreeShare}
    {O : CellTallies nD τ sig (HIx 1)} {W : Waits sig (HIx 1)} {kk : _ → Prog (TpuEff nD τ sig (Elt F) Λ₀ (thr L d).2) α}
    {init} (hinit : init = All lt tt pen (offL L) 0) :
    iprop(Next L d lt tt 0 q ∗ (Home7 L d lt 1 q' cc0_scratch6.sem ∗ Home8 L d tt 1 q' cc0_scratch8.sem) ∗ Ow L d O W ∗ MayWaits (thr L d) (none : HIx 1) O)
      ⊢ iprop((iprop((Home7 L d lt 0 q cc0_scratch5.sem ∗ Home8 L d tt 0 q cc0_scratch7.sem) ∗ (Home7 L d lt 1 q' cc0_scratch6.sem ∗ Home8 L d tt 1 q' cc0_scratch8.sem) ∗ Ow L d O W)
          -∗ wp frame (wpE (defs₀ (F := F)) 𝒱₀ (thr L d) none) Set.univ (kk (All lt tt pen (offL L) 300)) Q)
        -∗ wp frame (wpE (defs₀ (F := F)) 𝒱₀ (thr L d) none) Set.univ
          (Scf.Loop.for k0_t1_loop k0_t1_ok init (k0_t1_body (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 v22 (penV pen 0) (penV pen 1) (penV pen 2) (penV pen 3) (penV pen 4) (penV pen 5) (penV pen 6) (penV pen 7) (rpV pen 0) (rpV pen 1) (rpV pen 2) (rpV pen 3) (rpV pen 4) (rpV pen 5) (rpV pen 6) (rpV pen 7) (accV lt tt pen (offL L) 0 0 0) (accI lt tt pen (offL L) 0 0 0) (accV lt tt pen (offL L) 0 1 0) (accI lt tt pen (offL L) 0 1 0) (accV lt tt pen (offL L) 0 2 0) (accI lt tt pen (offL L) 0 2 0) (accV lt tt pen (offL L) 0 3 0) (accI lt tt pen (offL L) 0 3 0) (accV lt tt pen (offL L) 1 0 0) (accI lt tt pen (offL L) 1 0 0) (accV lt tt pen (offL L) 1 1 0) (accI lt tt pen (offL L) 1 1 0) (accV lt tt pen (offL L) 1 2 0) (accI lt tt pen (offL L) 1 2 0) (accV lt tt pen (offL L) 1 3 0) (accI lt tt pen (offL L) 1 3 0) (accV lt tt pen (offL L) 2 0 0) (accI lt tt pen (offL L) 2 0 0) (accV lt tt pen (offL L) 2 1 0) (accI lt tt pen (offL L) 2 1 0) (accV lt tt pen (offL L) 2 2 0) (accI lt tt pen (offL L) 2 2 0) (accV lt tt pen (offL L) 2 3 0) (accI lt tt pen (offL L) 2 3 0) (accV lt tt pen (offL L) 3 0 0) (accI lt tt pen (offL L) 3 0 0) (accV lt tt pen (offL L) 3 1 0) (accI lt tt pen (offL L) 3 1 0) (accV lt tt pen (offL L) 3 2 0) (accI lt tt pen (offL L) 3 2 0) (accV lt tt pen (offL L) 3 3 0) (accI lt tt pen (offL L) 3 3 0) (accV lt tt pen (offL L) 4 0 0) (accI lt tt pen (offL L) 4 0 0) (accV lt tt pen (offL L) 4 1 0) (accI lt tt pen (offL L) 4 1 0) (accV lt tt pen (offL L) 4 2 0) (accI lt tt pen (offL L) 4 2 0) (accV lt tt pen (offL L) 4 3 0) (accI lt tt pen (offL L) 4 3 0) (accV lt tt pen (offL L) 5 0 0) (accI lt tt pen (offL L) 5 0 0) (accV lt tt pen (offL L) 5 1 0) (accI lt tt pen (offL L) 5 1 0) (accV lt tt pen (offL L) 5 2 0) (accI lt tt pen (offL L) 5 2 0) (accV lt tt pen (offL L) 5 3 0) (accI lt tt pen (offL L) 5 3 0) (accV lt tt pen (offL L) 6 0 0) (accI lt tt pen (offL L) 6 0 0) (accV lt tt pen (offL L) 6 1 0) (accI lt tt pen (offL L) 6 1 0) (accV lt tt pen (offL L) 6 2 0) (accI lt tt pen (offL L) 6 2 0) (accV lt tt pen (offL L) 6 3 0) (accI lt tt pen (offL L) 6 3 0) (accV lt tt pen (offL L) 7 0 0) (accI lt tt pen (offL L) 7 0 0) (accV lt tt pen (offL L) 7 1 0) (accI lt tt pen (offL L) 7 1 0) (accV lt tt pen (offL L) 7 2 0)) >>= kk) Q) := by
  iintro ⟨HN, HH, HO, #Hm⟩ Hk
  iapply (Scf.wp_for_bind frame (wpE (defs₀ (F := F)) 𝒱₀ (thr L d) none) Set.univ k0_t1_loop.lb k0_t1_loop.ub k0_t1_loop.st k0_t1_ok init _
    (fun n acc => iprop(⌜acc = All lt tt pen (offL L) (50 * (2 * n))⌝ ∗ Next L d lt tt n q
      ∗ (Home7 L d lt 1 q' cc0_scratch6.sem ∗ Home8 L d tt 1 q' cc0_scratch8.sem) ∗ Ow L d O W ∗ MayWaits (thr L d) (none : HIx 1) O)) ?_ (kk := kk) (Q := Q)) $$ [HN HH HO] [Hk]
  · intro t acc
    iintro ⟨%hacc, HN, HH, HO, #Hm⟩
    have h := wp_trip (d := d) (kk := pure) (Q := fun acc => iprop(⌜acc = All lt tt pen (offL L) (50 * (2 * (t.val + 1)))⌝ ∗ Next L d lt tt (t.val + 1) q
      ∗ (Home7 L d lt 1 q' cc0_scratch6.sem ∗ Home8 L d tt 1 q' cc0_scratch8.sem) ∗ Ow L d O W ∗ MayWaits (thr L d) (none : HIx 1) O)) t v22 hv22 (q := q) (q' := q') (O := O) (W := W) hacc
    rw [Prog.bind_pure] at h
    iapply h $$ [HN HH HO]
    · iframe HN HH HO Hm
    iintro ⟨HN, HH, HO⟩
    iapply (le_wp_ret _ _ _ _ _)
    iframe HN HH HO Hm
    ipureintro; rfl
  · iframe HN HH HO Hm
    ipureintro; exact hinit
  · iintro %acc ⟨%hacc, HN, HH, HO, #Hm'⟩
    rw [hacc]
    iapply Hk
    ihave HN := (next_done (n := Scf.trips k0_t1_loop.lb k0_t1_loop.ub k0_t1_loop.st) (by decide)) $$ HN
    iframe

end Cert.Proof.Scan

end
-- ==== Proof.ScanOut.lean ====
/-
  One tile's double-buffered stripe: the chunks' fetches and waits, and the outer loop's parts.
-/
module

public import proofs.«01_k».proof.Proof.ScanTrip

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

local notation "pnV" => (Memref.whole Cert.KernelIdeal.main_v3_scv : Memref Cert.KernelIdeal.sig Kind.scVector Space.hbm Cert.KernelIdeal.S128 EltTy.f32)
local notation "ovV" => (Memref.whole Cert.KernelIdeal.main_v5_0_scv : Memref Cert.KernelIdeal.sig Kind.scVector Space.hbm Cert.KernelIdeal.S4096 EltTy.f32)
local notation "oiV" => (Memref.whole Cert.KernelIdeal.main_v5_1_scv : Memref Cert.KernelIdeal.sig Kind.scVector Space.hbm Cert.KernelIdeal.S4096 EltTy.i32)
local notation "pV" => (Memref.whole Cert.KernelIdeal.cc0_scratch2 : Memref Cert.KernelIdeal.sig Kind.scVector Space.vmem Cert.KernelIdeal.S128 EltTy.f32)
local notation "rvV" => (Memref.whole Cert.KernelIdeal.cc0_scratch3 : Memref Cert.KernelIdeal.sig Kind.scVector Space.vmem Cert.KernelIdeal.S128 EltTy.f32)
local notation "riV" => (Memref.whole Cert.KernelIdeal.cc0_scratch4 : Memref Cert.KernelIdeal.sig Kind.scVector Space.vmem Cert.KernelIdeal.S128 EltTy.i32)

variable {L : grid0.Coords} {d : Dev nD}
variable {lt : S100000x128.Idx → F .f32} {tt : S100000x128.Idx → BitVec 32} {pen : S128.Idx → F .f32}

/-- The block of worker `w` in the arrays of the workers' results. -/
def blk (w : ℕ) : Finset S4096.Idx := Finset.univ.filter fun x => (x 0).val / 128 = w

section

variable (lt tt pen)

/-- The values the workers' stripes leave: worker `x / 128`'s, column `x % 128`. -/
def outV : S4096.Idx → F .f32 := fun x => (laneOut lt tt pen (offOf ((x 0).val / 128)) ((x 0).val % 128)).1

/-- The indices the workers' stripes leave. -/
def outI : S4096.Idx → BitVec 32 := fun x => (laneOut lt tt pen (offOf ((x 0).val / 128)) ((x 0).val % 128)).2

end

/-- The index of element `n` of sixteen. -/
def i16 (n : ℕ) (h : n < 16) : S16.Idx := fun a => ⟨n, by match a with | 0 => exact h⟩
/-- The index of element `n` of 128. -/
def i128 (n : ℕ) (h : n < 128) : S128.Idx := fun a => ⟨n, by match a with | 0 => exact h⟩

/-- A vector recast to its own shape is itself. -/
theorem cast_S16 {α : Type} (w : S16.Idx → α) : shapeCast S16 w shapeCasts_S16_S16 = w :=
  funext fun x => shapeCast_apply _ _ x x rfl

/-- A group's load of the penalties. -/
theorem load_pen (pen : S128.Idx → F .f32) {g : ℕ} {o : Fin 1 → ℕ} (ho : o = ![16 * g]) (inb : ∀ a, o a + S16.size a ≤ S128.size a) :
    (shapeCast S16 ((pV).view.readAt (Elt F) (Rect.unit (s := S128) o S16.size inb).toLoadRect pen) shapeCasts_S16_S16 : FVec F S16 .f32) = penV pen g := by
  rw [cast_S16]
  have hb : 16 * g + 16 ≤ 128 := by subst ho; exact inb 0
  subst ho
  refine funext fun x => ?_
  have hx : (x 0).val < 16 := (x 0).isLt
  show pen _ = pen _
  refine congrArg pen (funext fun a => Fin.ext ?_)
  match a with
  | 0 => show 16 * g + 1 * (x 0).val = (16 * g + (x 0).val) % 128; omega

/-- The values' buffer with its first `n` elements the stripe's. -/
def DoneV (L : grid0.Coords) (d : Dev nD) (G : ℕ → F .f32) (n : ℕ) : sProp 𝕄 :=
  iprop(∃ f : S128.Idx → F .f32, ⌜∀ x : S128.Idx, (x 0).val < n → f x = G (x 0).val⌝ ∗ ((rvV).view.loc (thr L d) ↦{fullShare} f))
/-- The indices' buffer with its first `n` elements the stripe's. -/
def DoneI (L : grid0.Coords) (d : Dev nD) (G : ℕ → BitVec 32) (n : ℕ) : sProp 𝕄 :=
  iprop(∃ f : S128.Idx → BitVec 32, ⌜∀ x : S128.Idx, (x 0).val < n → f x = G (x 0).val⌝ ∗ ((riV).view.loc (thr L d) ↦{fullShare} f))

/-- An unused load of the values' buffer. -/
theorem wp_peekV {α : Type} {Q : α → sProp 𝕄} {G : ℕ → F .f32} {n : ℕ} {o : Fin 1 → ℕ} (inb : ∀ a, o a + S16.size a ≤ S128.size a)
    {hl : (rvV).view.LoadsAt (Rect.unit (s := S128) o S16.size inb).toLoadRect}
    {kk : _ → Prog (TpuEff nD τ sig (Elt F) Λ₀ (thr L d).2) α} :
    DoneV (F := F) L d G n ⊢ iprop((∀ v, DoneV (F := F) L d G n -∗ wp frame (wpE (defs₀ (F := F)) 𝒱₀ (thr L d) none) Set.univ (kk v) Q)
      -∗ wp frame (wpE (defs₀ (F := F)) 𝒱₀ (thr L d) none) Set.univ (.op (.load (rvV) (Rect.unit (s := S128) o S16.size inb).toLoadRect hl) kk) Q) := by
  unfold DoneV
  iintro ⟨%f, %hf, H⟩ Hk
  iapply (wp_load 𝒱₀ (thr L d) none Set.univ (m := rvV) (Finset.subset_univ _)) $$ H
  iintro H
  iapply Hk
  iexists f; iframe H; ipureintro; exact hf

/-- Sixteen values stored. -/
theorem wp_putV {α : Type} {Q : α → sProp 𝕄} {G : ℕ → F .f32} {g : ℕ} {o : Fin 1 → ℕ} (ho : o = ![16 * g]) (inb : ∀ a, o a + S16.size a ≤ S128.size a)
    {w : S16.Idx → F .f32} (hw : w = shapeCast S16 (fun x => G (16 * g + (x 0).val)) shapeCasts_S16_S16)
    {hx : _} {hm : _}
    {kk : PUnit → Prog (TpuEff nD τ sig (Elt F) Λ₀ (thr L d).2) α} :
    DoneV (F := F) L d G (16 * g) ⊢ iprop((DoneV (F := F) L d G (16 * (g + 1)) -∗ wp frame (wpE (defs₀ (F := F)) 𝒱₀ (thr L d) none) Set.univ (kk ⟨⟩) Q)
      -∗ wp frame (wpE (defs₀ (F := F)) 𝒱₀ (thr L d) none) Set.univ (.op (.store (rvV) (Rect.unit (s := S128) o S16.size inb) w Finset.univ hx hm) kk) Q) := by
  unfold DoneV
  iintro ⟨%f, %hf, H⟩ Hk
  iapply (wp_store 𝒱₀ (thr L d) none Set.univ (m := rvV) (r := Rect.unit (s := S128) o S16.size inb) (w := w) (f := f) (Finset.subset_univ _)) $$ H
  iintro H
  iapply Hk
  iexists (((rvV).access (Rect.unit (s := S128) o S16.size inb)).write (Elt F) f w Finset.univ); iframe H
  ipureintro
  have hb : 16 * g + 16 ≤ 128 := by subst ho; exact inb 0
  subst ho
  rw [cast_S16] at hw
  subst hw
  intro x hx
  by_cases h : (x 0).val < 16 * g
  · rw [View.write_of_not_mem]
    · exact hf x h
    · intro hc
      obtain ⟨y, -, e⟩ := Finset.mem_map.mp hc
      have e0 := congrArg (fun z : S128.Idx => (z 0).val) e
      have : 16 * g + 1 * (y 0).val = (x 0).val := e0
      omega
  · have hlt : (x 0).val - 16 * g < 16 := by omega
    have e : x = ((rvV).access (Rect.unit (s := S128) ![16 * g] S16.size inb)).emb (i16 _ hlt) := by
      refine funext fun a => Fin.ext ?_
      match a with
      | 0 => show (x 0).val = 16 * g + 1 * ((x 0).val - 16 * g); omega
    conv_lhs => rw [e]
    rw [View.write_emb_of_mem _ _ (Finset.mem_univ _)]
    show G (16 * g + ((x 0).val - 16 * g)) = _
    rw [Nat.add_sub_cancel' (by omega)]

/-- An unused load of the indices' buffer. -/
theorem wp_peekI {α : Type} {Q : α → sProp 𝕄} {G : ℕ → BitVec 32} {n : ℕ} {o : Fin 1 → ℕ} (inb : ∀ a, o a + S16.size a ≤ S128.size a)
    {hl : (riV).view.LoadsAt (Rect.unit (s := S128) o S16.size inb).toLoadRect}
    {kk : _ → Prog (TpuEff nD τ sig (Elt F) Λ₀ (thr L d).2) α} :
    DoneI (F := F) L d G n ⊢ iprop((∀ v, DoneI (F := F) L d G n -∗ wp frame (wpE (defs₀ (F := F)) 𝒱₀ (thr L d) none) Set.univ (kk v) Q)
      -∗ wp frame (wpE (defs₀ (F := F)) 𝒱₀ (thr L d) none) Set.univ (.op (.load (riV) (Rect.unit (s := S128) o S16.size inb).toLoadRect hl) kk) Q) := by
  unfold DoneI
  iintro ⟨%f, %hf, H⟩ Hk
  iapply (wp_load 𝒱₀ (thr L d) none Set.univ (m := riV) (Finset.subset_univ _)) $$ H
  iintro H
  iapply Hk
  iexists f; iframe H; ipureintro; exact hf

/-- Sixteen indices stored. -/
theorem wp_putI {α : Type} {Q : α → sProp 𝕄} {G : ℕ → BitVec 32} {g : ℕ} {o : Fin 1 → ℕ} (ho : o = ![16 * g]) (inb : ∀ a, o a + S16.size a ≤ S128.size a)
    {w : S16.Idx → BitVec 32} (hw : w = shapeCast S16 (fun x => G (16 * g + (x 0).val)) shapeCasts_S16_S16)
    {hx : _} {hm : _}
    {kk : PUnit → Prog (TpuEff nD τ sig (Elt F) Λ₀ (thr L d).2) α} :
    DoneI (F := F) L d G (16 * g) ⊢ iprop((DoneI (F := F) L d G (16 * (g + 1)) -∗ wp frame (wpE (defs₀ (F := F)) 𝒱₀ (thr L d) none) Set.univ (kk ⟨⟩) Q)
      -∗ wp frame (wpE (defs₀ (F := F)) 𝒱₀ (thr L d) none) Set.univ (.op (.store (riV) (Rect.unit (s := S128) o S16.size inb) w Finset.univ hx hm) kk) Q) := by
  unfold DoneI
  iintro ⟨%f, %hf, H⟩ Hk
  iapply (wp_store 𝒱₀ (thr L d) none Set.univ (m := riV) (r := Rect.unit (s := S128) o S16.size inb) (w := w) (f := f) (Finset.subset_univ _)) $$ H
  iintro H
  iapply Hk
  iexists (((riV).access (Rect.unit (s := S128) o S16.size inb)).write (Elt F) f w Finset.univ); iframe H
  ipureintro
  have hb : 16 * g + 16 ≤ 128 := by subst ho; exact inb 0
  subst ho
  rw [cast_S16] at hw
  subst hw
  intro x hx
  by_cases h : (x 0).val < 16 * g
  · rw [View.write_of_not_mem]
    · exact hf x h
    · intro hc
      obtain ⟨y, -, e⟩ := Finset.mem_map.mp hc
      have e0 := congrArg (fun z : S128.Idx => (z 0).val) e
      have : 16 * g + 1 * (y 0).val = (x 0).val := e0
      omega
  · have hlt : (x 0).val - 16 * g < 16 := by omega
    have e : x = ((riV).access (Rect.unit (s := S128) ![16 * g] S16.size inb)).emb (i16 _ hlt) := by
      refine funext fun a => Fin.ext ?_
      match a with
      | 0 => show (x 0).val = 16 * g + 1 * ((x 0).val - 16 * g); omega
    conv_lhs => rw [e]
    rw [View.write_emb_of_mem _ _ (Finset.mem_univ _)]
    show G (16 * g + ((x 0).val - 16 * g)) = _
    rw [Nat.add_sub_cancel' (by omega)]

theorem off21_eq : ∀ L : grid0.Coords, k0_off21 L = ![128 * wOf L] := by decide +kernel

/-- The semaphores' credit of the values' copy out. -/
def NOV : ℕ := sig.dmaCredit .scVector (Kind.scVector.table .hbm) (main_v5_0_scv : Ref sig .scVector).idx S128 .f32
theorem NOV_pos : 0 < NOV := sig.dmaCredit_pos _ _ _ _ _ (by decide)

theorem off21V_subset (L : grid0.Coords) : ((ovV).slice (Rect.unit (s := S4096) (k0_off21 L) S128.size (k0_off21_inb L)) (fun _ => rfl)).view.set ⊆ blk (wOf L) := by
  intro y hy
  obtain ⟨x, -, rfl⟩ := Finset.mem_map.mp hy
  refine Finset.mem_filter.mpr ⟨Finset.mem_univ _, ?_⟩
  have hx : (x 0).val < 128 := (x 0).isLt
  have h0 : k0_off21 L 0 = 128 * wOf L := by rw [off21_eq]; rfl
  show (k0_off21 L 0 + 1 * (x 0).val) / 128 = wOf L
  omega

/-- What the values' copy out leaves in the worker's block. -/
theorem holdsOV (L : grid0.Coords) {f : S128.Idx → F .f32} (hf : ∀ x : S128.Idx, (x 0).val < 128 → f x = (fun col => (laneOut lt tt pen (offL L) col).1) (x 0).val) (fd : S4096.Idx → F .f32) :
    ∀ x ∈ blk (wOf L), (((ovV).slice (Rect.unit (s := S4096) (k0_off21 L) S128.size (k0_off21_inb L)) (fun _ => rfl)).view.write (Elt F) fd
      ((rvV).view.read (Elt F) f) Finset.univ) x = outV lt tt pen x := by
  intro x hx
  have hw : (x 0).val / 128 = wOf L := (Finset.mem_filter.mp hx).2
  have hm : (x 0).val % 128 < 128 := Nat.mod_lt _ (by decide)
  have h0 : k0_off21 L 0 = 128 * wOf L := by rw [off21_eq]; rfl
  have e : x = ((ovV).slice (Rect.unit (s := S4096) (k0_off21 L) S128.size (k0_off21_inb L)) (fun _ => rfl)).view.emb (i128 _ hm) := by
    refine funext fun a => Fin.ext ?_
    match a with
    | 0 => show (x 0).val = k0_off21 L 0 + 1 * ((x 0).val % 128); omega
  conv_lhs => rw [e]
  rw [View.write_emb_of_mem _ _ (Finset.mem_univ _)]
  show f _ = _
  rw [hf _ hm]
  unfold outV
  rw [hw]
  rfl

/-- The semaphores' credit of the indices' copy out. -/
def NOI : ℕ := sig.dmaCredit .scVector (Kind.scVector.table .hbm) (main_v5_1_scv : Ref sig .scVector).idx S128 .i32
theorem NOI_pos : 0 < NOI := sig.dmaCredit_pos _ _ _ _ _ (by decide)

theorem off21I_subset (L : grid0.Coords) : ((oiV).slice (Rect.unit (s := S4096) (k0_off21 L) S128.size (k0_off21_inb L)) (fun _ => rfl)).view.set ⊆ blk (wOf L) := by
  intro y hy
  obtain ⟨x, -, rfl⟩ := Finset.mem_map.mp hy
  refine Finset.mem_filter.mpr ⟨Finset.mem_univ _, ?_⟩
  have hx : (x 0).val < 128 := (x 0).isLt
  have h0 : k0_off21 L 0 = 128 * wOf L := by rw [off21_eq]; rfl
  show (k0_off21 L 0 + 1 * (x 0).val) / 128 = wOf L
  omega

/-- What the indices' copy out leaves in the worker's block. -/
theorem holdsOI (L : grid0.Coords) {f : S128.Idx → BitVec 32} (hf : ∀ x : S128.Idx, (x 0).val < 128 → f x = (fun col => (laneOut lt tt pen (offL L) col).2) (x 0).val) (fd : S4096.Idx → BitVec 32) :
    ∀ x ∈ blk (wOf L), (((oiV).slice (Rect.unit (s := S4096) (k0_off21 L) S128.size (k0_off21_inb L)) (fun _ => rfl)).view.write (Elt F) fd
      ((riV).view.read (Elt F) f) Finset.univ) x = outI lt tt pen x := by
  intro x hx
  have hw : (x 0).val / 128 = wOf L := (Finset.mem_filter.mp hx).2
  have hm : (x 0).val % 128 < 128 := Nat.mod_lt _ (by decide)
  have h0 : k0_off21 L 0 = 128 * wOf L := by rw [off21_eq]; rfl
  have e : x = ((oiV).slice (Rect.unit (s := S4096) (k0_off21 L) S128.size (k0_off21_inb L)) (fun _ => rfl)).view.emb (i128 _ hm) := by
    refine funext fun a => Fin.ext ?_
    match a with
    | 0 => show (x 0).val = k0_off21 L 0 + 1 * ((x 0).val % 128); omega
  conv_lhs => rw [e]
  rw [View.write_emb_of_mem _ _ (Finset.mem_univ _)]
  show f _ = _
  rw [hf _ hm]
  unfold outI
  rw [hw]
  rfl

end Cert.Proof.Scan

end
-- ==== Proof.ScanPen.lean ====
/-
  One tile's double-buffered stripe: the chunks' fetches and waits, and the outer loop's parts.
-/
module

public import proofs.«01_k».proof.Proof.ScanOut

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

local notation "pnV" => (Memref.whole Cert.KernelIdeal.main_v3_scv : Memref Cert.KernelIdeal.sig Kind.scVector Space.hbm Cert.KernelIdeal.S128 EltTy.f32)
local notation "ovV" => (Memref.whole Cert.KernelIdeal.main_v5_0_scv : Memref Cert.KernelIdeal.sig Kind.scVector Space.hbm Cert.KernelIdeal.S4096 EltTy.f32)
local notation "oiV" => (Memref.whole Cert.KernelIdeal.main_v5_1_scv : Memref Cert.KernelIdeal.sig Kind.scVector Space.hbm Cert.KernelIdeal.S4096 EltTy.i32)
local notation "pV" => (Memref.whole Cert.KernelIdeal.cc0_scratch2 : Memref Cert.KernelIdeal.sig Kind.scVector Space.vmem Cert.KernelIdeal.S128 EltTy.f32)
local notation "rvV" => (Memref.whole Cert.KernelIdeal.cc0_scratch3 : Memref Cert.KernelIdeal.sig Kind.scVector Space.vmem Cert.KernelIdeal.S128 EltTy.f32)
local notation "riV" => (Memref.whole Cert.KernelIdeal.cc0_scratch4 : Memref Cert.KernelIdeal.sig Kind.scVector Space.vmem Cert.KernelIdeal.S128 EltTy.i32)

variable {L : grid0.Coords} {d : Dev nD}
variable {lt : S100000x128.Idx → F .f32} {tt : S100000x128.Idx → BitVec 32} {pen : S128.Idx → F .f32}

theorem pay239 (pen : S128.Idx → F .f32) : k0_pay239 ((pV).view.readAt (Elt F) (Rect.unit (s := S128) ![0] S16.size inb_S128_S16_0).toLoadRect pen) = penV pen 0 :=
  load_pen pen (g := 0) rfl inb_S128_S16_0

theorem pay240 (pen : S128.Idx → F .f32) : k0_pay240 ((pV).view.readAt (Elt F) (Rect.unit (s := S128) ![16] S16.size inb_S128_S16_16).toLoadRect pen) = penV pen 1 :=
  load_pen pen (g := 1) rfl inb_S128_S16_16

theorem pay241 (pen : S128.Idx → F .f32) : k0_pay241 ((pV).view.readAt (Elt F) (Rect.unit (s := S128) ![32] S16.size inb_S128_S16_32).toLoadRect pen) = penV pen 2 :=
  load_pen pen (g := 2) rfl inb_S128_S16_32

theorem pay242 (pen : S128.Idx → F .f32) : k0_pay242 ((pV).view.readAt (Elt F) (Rect.unit (s := S128) ![48] S16.size inb_S128_S16_48).toLoadRect pen) = penV pen 3 :=
  load_pen pen (g := 3) rfl inb_S128_S16_48

theorem pay243 (pen : S128.Idx → F .f32) : k0_pay243 ((pV).view.readAt (Elt F) (Rect.unit (s := S128) ![64] S16.size inb_S128_S16_64).toLoadRect pen) = penV pen 4 :=
  load_pen pen (g := 4) rfl inb_S128_S16_64

theorem pay244 (pen : S128.Idx → F .f32) : k0_pay244 ((pV).view.readAt (Elt F) (Rect.unit (s := S128) ![80] S16.size inb_S128_S16_80).toLoadRect pen) = penV pen 5 :=
  load_pen pen (g := 5) rfl inb_S128_S16_80

theorem pay245 (pen : S128.Idx → F .f32) : k0_pay245 ((pV).view.readAt (Elt F) (Rect.unit (s := S128) ![96] S16.size inb_S128_S16_96).toLoadRect pen) = penV pen 6 :=
  load_pen pen (g := 6) rfl inb_S128_S16_96

theorem pay246 (pen : S128.Idx → F .f32) : k0_pay246 ((pV).view.readAt (Elt F) (Rect.unit (s := S128) ![112] S16.size inb_S128_S16_112).toLoadRect pen) = penV pen 7 :=
  load_pen pen (g := 7) rfl inb_S128_S16_112

theorem pay254 (pen : S128.Idx → F .f32) : k0_pay254 ((pV).view.readAt (Elt F) (Rect.unit (s := S128) ![112] S16.size inb_S128_S16_112).toLoadRect pen) = rpV pen 7 :=
  congrArg (divf (broadcast S16 (Scalar.ofBits .f32 0x3F800000#32))) (pay246 pen)

/-- The word of the first row of the tile's stripe. -/
def w22 (L : grid0.Coords) : BitVec 32 :=
  let v1 := Scalar.addi (Scalar.muli (BitVec.ofNat 32 (L 1).val) 2#32) (BitVec.ofNat 32 (L 0).val)
  let v2 := Scalar.muli v1 4350#32
  let v3 := Scalar.divsi v2 31#32
  let v8 := Scalar.subi (Scalar.extui (Scalar.cmpi .sgt v2 0#32)) (Scalar.extui (Scalar.cmpi .slt v2 0#32))
  let v13 := Scalar.subi (Scalar.extui (Scalar.cmpi .sgt 31#32 0#32)) (Scalar.extui (Scalar.cmpi .slt 31#32 0#32))
  let v17 := Scalar.andi (Scalar.cmpi .ne v8 v13) (Scalar.cmpi .ne (Scalar.remsi v2 31#32) 0#32)
  Scalar.addi 64000#32 (Scalar.muli (Scalar.select v17 (Scalar.subi v3 1#32) v3) 8#32)

theorem w22_eq : ∀ L : grid0.Coords, w22 L = BitVec.ofNat 32 (offL L) := by decide +kernel

/-- The semaphores' credit of the penalties' copy. -/
def NP : ℕ := sig.dmaCredit .scVector (Kind.scVector.table .vmem) (cc0_scratch2 : Ref sig .scVector).idx S128 .f32
theorem NP_pos : 0 < NP := sig.dmaCredit_pos _ _ _ _ _ (by decide)

/-- The penalties at home and in the tile's copy. -/
def Pens (L : grid0.Coords) (d : Dev nD) (pen : S128.Idx → F .f32) (q : PosShare TreeShare) : sProp 𝕄 :=
  iprop(((pnV).view.loc (thr L d) ↦{q} pen) ∗ ((pV).view.loc (thr L d) ↦{fullShare} pen) ∗ semVal (thr L d, .dma cc0_scoped0.sem) 0)

/-- The penalties copied in: started and waited for. -/
theorem wp_copyPen {α : Type} {Q : α → sProp 𝕄} {q : PosShare TreeShare} {f : S128.Idx → F .f32}
    {hsrc : (pnV).view.WordExact} {hdst : (pV).view.WordExact}
    {hsem : DmaTarget.Typed (nD := nD) (p := (thr L d).2) .hbm (.dma cc0_scoped0.sem) (.here pV)}
    {h1 : (pnV).view.WordExact} {h2 : (pV).view.WordExact}
    {O : CellTallies nD τ sig (HIx 1)} {W : Waits sig (HIx 1)} {kk : PUnit → Prog (TpuEff nD τ sig (Elt F) Λ₀ (thr L d).2) α} :
    iprop(((pnV).view.loc (thr L d) ↦{q} pen) ∗ ((pV).view.loc (thr L d) ↦{fullShare} f) ∗ semVal (thr L d, .dma cc0_scoped0.sem) 0 ∗ Ow L d O W ∗ MayWaits (thr L d) (none : HIx 1) O)
      ⊢ iprop((iprop(Pens L d pen q ∗ Ow L d O W) -∗ wp frame (wpE (defs₀ (F := F)) 𝒱₀ (thr L d) none) Set.univ (kk ⟨⟩) Q)
        -∗ wp frame (wpE (defs₀ (F := F)) 𝒱₀ (thr L d) none) Set.univ (.op (.enqueueDma pnV (.here pV) (.dma cc0_scoped0.sem) hsrc hdst hsem) fun _ => .op (.waitDma2 cc0_scoped0.sem pnV pV h1 h2) kk) Q) := by
  iintro ⟨Hs, Hd, Hv, HO, #Hm⟩ Hk
  have h3 := wp_start (F := F) (Q := Q) (thr L d) (q := q) (src := pnV) (dst := pV) (sm := .dma cc0_scoped0.sem) (hsrc := hsrc) (hdst := hdst) (hsem := hsem) (k := fun _ => .op (.waitDma2 cc0_scoped0.sem pnV pV h1 h2) kk) (fs := pen) (Sd := Finset.univ) (fd := f) (N := NP) rfl NP_pos (Finset.subset_univ _) (P := fun g => g = pen) (View.write_whole_univ _ _ _)
  iapply h3 $$ [Hd Hs Hv]
  · isplitl [Hs]; · iexact Hs
    isplitl [Hd]; · iexact Hd
    iexact Hv
  iintro HF
  unfold Ow Pens
  iapply (wp_land (thr L d) (N := NP) rfl) $$ [HF HO]
  · iframe HF HO Hm
  iintro ⟨⟨%g, %hg, Hd⟩, Hs, Hv, HO⟩
  subst hg
  iapply Hk
  iframe

/-- The penalties' copy and the loads of them. -/
theorem wp_part20 {α : Type} {Q : α → sProp 𝕄} {q : PosShare TreeShare}
    {O : CellTallies nD τ sig (HIx 1)} {W : Waits sig (HIx 1)} {kk : _ → Prog (TpuEff nD τ sig (Elt F) Λ₀ (thr L d).2) α} :
    iprop((((pnV).view.loc (thr L d) ↦{q} pen) ∗ (∃ f, (pV).view.loc (thr L d) ↦{fullShare} f) ∗ semVal (thr L d, .dma cc0_scoped0.sem) 0) ∗ Ow L d O W ∗ MayWaits (thr L d) (none : HIx 1) O)
      ⊢ iprop((iprop(Pens L d pen q ∗ Ow L d O W)
          -∗ wp frame (wpE (defs₀ (F := F)) 𝒱₀ (thr L d) none) Set.univ (kk ⟨Scalar.addi (Scalar.muli (BitVec.ofNat 32 (L 1).val) 2#32) (BitVec.ofNat 32 (L 0).val), w22 L, (penV pen 0), (penV pen 1), (penV pen 2), (penV pen 3), (penV pen 4), (penV pen 5), (penV pen 6)⟩) Q)
        -∗ wp frame (wpE (defs₀ (F := F)) 𝒱₀ (thr L d) none) Set.univ (k0_part20 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 >>= kk) Q) := by
  iintro ⟨⟨Hs, ⟨%f, Hd⟩, Hv⟩, HO, #Hm⟩ Hk
  rw [k0_part20_eq_skeleton]; unfold k0_part20_skel
  simp only [Prog.lift, Prog.bind_op, Prog.bind_ret, Prog.pure_eq_ret, Prog.bind_assoc]
  iapply (wp_copyPen (f := f)) $$ [Hd Hs Hv HO]
  · iframe Hs Hd Hv HO Hm
  iintro ⟨HP, HO⟩
  unfold Pens
  icases HP with ⟨Hs, Hd, Hv⟩
  iapply (wp_load 𝒱₀ (thr L d) none Set.univ (m := pV) (Finset.subset_univ _)) $$ Hd
  iintro Hd
  iapply (wp_load 𝒱₀ (thr L d) none Set.univ (m := pV) (Finset.subset_univ _)) $$ Hd
  iintro Hd
  iapply (wp_load 𝒱₀ (thr L d) none Set.univ (m := pV) (Finset.subset_univ _)) $$ Hd
  iintro Hd
  iapply (wp_load 𝒱₀ (thr L d) none Set.univ (m := pV) (Finset.subset_univ _)) $$ Hd
  iintro Hd
  iapply (wp_load 𝒱₀ (thr L d) none Set.univ (m := pV) (Finset.subset_univ _)) $$ Hd
  iintro Hd
  iapply (wp_load 𝒱₀ (thr L d) none Set.univ (m := pV) (Finset.subset_univ _)) $$ Hd
  iintro Hd
  iapply (wp_load 𝒱₀ (thr L d) none Set.univ (m := pV) (Finset.subset_univ _)) $$ Hd
  iintro Hd
  rw [pay239 pen, pay240 pen, pay241 pen, pay242 pen, pay243 pen, pay244 pen, pay245 pen]
  iapply Hk
  iframe

/-- The last load of the penalties, their reciprocals, and the first chunk started. -/
theorem wp_part21 {α : Type} {Q : α → sProp 𝕄} {q q' : PosShare TreeShare} (v22 : BitVec 32) {kk : _ → Prog (TpuEff nD τ sig (Elt F) Λ₀ (thr L d).2) α} :
    iprop(Pens L d pen q ∗ Home7 L d lt 0 q' cc0_scratch5.sem ∗ Home8 L d tt 0 q' cc0_scratch7.sem)
      ⊢ iprop((iprop(Pens L d pen q ∗ Next L d lt tt 0 q')
          -∗ wp frame (wpE (defs₀ (F := F)) 𝒱₀ (thr L d) none) Set.univ (kk ⟨(penV pen 7), (rpV pen 0), (rpV pen 1), (rpV pen 2), (rpV pen 3), (rpV pen 4), (rpV pen 5), (rpV pen 6), (rpV pen 7), accV lt tt pen (offL L) 0 0 0⟩) Q)
        -∗ wp frame (wpE (defs₀ (F := F)) 𝒱₀ (thr L d) none) Set.univ (k0_part21 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 v22 (penV pen 0) (penV pen 1) (penV pen 2) (penV pen 3) (penV pen 4) (penV pen 5) (penV pen 6) >>= kk) Q) := by
  unfold Pens
  iintro ⟨⟨Hs, Hd, Hv⟩, G7, G8⟩ Hk
  rw [k0_part21_eq_skeleton]; unfold k0_part21_skel
  simp only [Prog.lift, Prog.bind_op, Prog.bind_ret, Prog.pure_eq_ret, Prog.bind_assoc]
  iapply (wp_load 𝒱₀ (thr L d) none Set.univ (m := pV) (Finset.subset_univ _)) $$ Hd
  iintro Hd
  iapply (wp_fetch7 (k := 0) Nat.two_pos rfl (off1_eq L) _ _) $$ G7
  iintro G7
  iapply (wp_fetch8 (k := 0) Nat.two_pos rfl (off1_eq L) _ _) $$ G8
  iintro G8
  rw [pay246 pen, pay254 pen]
  ihave HN := (next_more (n := 0) (lt := lt) (tt := tt) (by decide)) $$ [G7 G8]
  · isplitl [G7]
    · iexact G7
    · iexact G8
  iapply Hk
  iframe

end Cert.Proof.Scan

end
-- ==== Proof.ScanStore.lean ====
/-
  One tile's double-buffered stripe: the chunks' fetches and waits, and the outer loop's parts.
-/
module

public import proofs.«01_k».proof.Proof.ScanPen

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

local notation "pnV" => (Memref.whole Cert.KernelIdeal.main_v3_scv : Memref Cert.KernelIdeal.sig Kind.scVector Space.hbm Cert.KernelIdeal.S128 EltTy.f32)
local notation "ovV" => (Memref.whole Cert.KernelIdeal.main_v5_0_scv : Memref Cert.KernelIdeal.sig Kind.scVector Space.hbm Cert.KernelIdeal.S4096 EltTy.f32)
local notation "oiV" => (Memref.whole Cert.KernelIdeal.main_v5_1_scv : Memref Cert.KernelIdeal.sig Kind.scVector Space.hbm Cert.KernelIdeal.S4096 EltTy.i32)
local notation "pV" => (Memref.whole Cert.KernelIdeal.cc0_scratch2 : Memref Cert.KernelIdeal.sig Kind.scVector Space.vmem Cert.KernelIdeal.S128 EltTy.f32)
local notation "rvV" => (Memref.whole Cert.KernelIdeal.cc0_scratch3 : Memref Cert.KernelIdeal.sig Kind.scVector Space.vmem Cert.KernelIdeal.S128 EltTy.f32)
local notation "riV" => (Memref.whole Cert.KernelIdeal.cc0_scratch4 : Memref Cert.KernelIdeal.sig Kind.scVector Space.vmem Cert.KernelIdeal.S128 EltTy.i32)

variable {L : grid0.Coords} {d : Dev nD}
variable {lt : S100000x128.Idx → F .f32} {tt : S100000x128.Idx → BitVec 32} {pen : S128.Idx → F .f32}

set_option maxRecDepth 65536

/-- Lane groups 1 to 2 stored. -/
theorem wp_part25 {α : Type} {Q : α → sProp 𝕄} {kk : _ → Prog (TpuEff nD τ sig (Elt F) Λ₀ (thr L d).2) α} :
    iprop(DoneV L d (fun col => (laneOut lt tt pen (offL L) col).1) (16 * 1) ∗ DoneI L d (fun col => (laneOut lt tt pen (offL L) col).2) (16 * 1))
      ⊢ iprop((iprop(DoneV L d (fun col => (laneOut lt tt pen (offL L) col).1) (16 * 3) ∗ DoneI L d (fun col => (laneOut lt tt pen (offL L) col).2) (16 * 3))
          -∗ wp frame (wpE (defs₀ (F := F)) 𝒱₀ (thr L d) none) Set.univ (kk ⟨k0_pay377 (accV lt tt pen (offL L) 3 0 300) (accI lt tt pen (offL L) 3 0 300) (accV lt tt pen (offL L) 3 1 300) (accI lt tt pen (offL L) 3 1 300) (accV lt tt pen (offL L) 3 2 300) (accI lt tt pen (offL L) 3 2 300), k0_pay378 (accV lt tt pen (offL L) 3 0 300) (accI lt tt pen (offL L) 3 0 300) (accV lt tt pen (offL L) 3 1 300) (accI lt tt pen (offL L) 3 1 300) (accV lt tt pen (offL L) 3 2 300) (accI lt tt pen (offL L) 3 2 300), k0_pay379 (accV lt tt pen (offL L) 3 0 300) (accI lt tt pen (offL L) 3 0 300) (accV lt tt pen (offL L) 3 1 300) (accI lt tt pen (offL L) 3 1 300) (accV lt tt pen (offL L) 3 2 300) (accI lt tt pen (offL L) 3 2 300) (accV lt tt pen (offL L) 3 3 300)⟩) Q)
        -∗ wp frame (wpE (defs₀ (F := F)) 𝒱₀ (thr L d) none) Set.univ (k0_part25 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 (accV lt tt pen (offL L) 1 3 300) (accI lt tt pen (offL L) 1 3 300) (accV lt tt pen (offL L) 2 0 300) (accI lt tt pen (offL L) 2 0 300) (accV lt tt pen (offL L) 2 1 300) (accI lt tt pen (offL L) 2 1 300) (accV lt tt pen (offL L) 2 2 300) (accI lt tt pen (offL L) 2 2 300) (accV lt tt pen (offL L) 2 3 300) (accI lt tt pen (offL L) 2 3 300) (accV lt tt pen (offL L) 3 0 300) (accI lt tt pen (offL L) 3 0 300) (accV lt tt pen (offL L) 3 1 300) (accI lt tt pen (offL L) 3 1 300) (accV lt tt pen (offL L) 3 2 300) (accI lt tt pen (offL L) 3 2 300) (accV lt tt pen (offL L) 3 3 300) (k0_pay356 (accV lt tt pen (offL L) 1 0 300) (accI lt tt pen (offL L) 1 0 300) (accV lt tt pen (offL L) 1 1 300) (accI lt tt pen (offL L) 1 1 300) (accV lt tt pen (offL L) 1 2 300) (accI lt tt pen (offL L) 1 2 300)) (k0_pay357 (accV lt tt pen (offL L) 1 0 300) (accI lt tt pen (offL L) 1 0 300) (accV lt tt pen (offL L) 1 1 300) (accI lt tt pen (offL L) 1 1 300) (accV lt tt pen (offL L) 1 2 300) (accI lt tt pen (offL L) 1 2 300)) (k0_pay358 (accV lt tt pen (offL L) 1 0 300) (accI lt tt pen (offL L) 1 0 300) (accV lt tt pen (offL L) 1 1 300) (accI lt tt pen (offL L) 1 1 300) (accV lt tt pen (offL L) 1 2 300) (accI lt tt pen (offL L) 1 2 300) (accV lt tt pen (offL L) 1 3 300)) (k0_pay359 (accV lt tt pen (offL L) 1 0 300) (accI lt tt pen (offL L) 1 0 300) (accV lt tt pen (offL L) 1 1 300) (accI lt tt pen (offL L) 1 1 300) (accV lt tt pen (offL L) 1 2 300) (accI lt tt pen (offL L) 1 2 300) (accV lt tt pen (offL L) 1 3 300)) (k0_pay360 (accV lt tt pen (offL L) 1 0 300) (accI lt tt pen (offL L) 1 0 300) (accV lt tt pen (offL L) 1 1 300) (accI lt tt pen (offL L) 1 1 300) (accV lt tt pen (offL L) 1 2 300) (accI lt tt pen (offL L) 1 2 300) (accI lt tt pen (offL L) 1 3 300)) >>= kk) Q) := by
  iintro ⟨HV, HI⟩ Hk
  rw [k0_part25_eq_skeleton]; unfold k0_part25_skel
  simp only [Prog.lift, Prog.bind_op, Prog.bind_ret, Prog.pure_eq_ret, Prog.bind_assoc]
  iapply (wp_peekV (L := L) (d := d) (G := (fun col => (laneOut lt tt pen (offL L) col).1)) (n := 16 * 1) (o := ![16]) inb_S128_S16_16) $$ HV
  iintro %_ HV
  iapply (wp_putV (L := L) (d := d) (G := (fun col => (laneOut lt tt pen (offL L) col).1)) (g := 1) (o := ![16]) rfl inb_S128_S16_16 rfl) $$ HV
  iintro HV
  iapply (wp_peekI (L := L) (d := d) (G := (fun col => (laneOut lt tt pen (offL L) col).2)) (n := 16 * 1) (o := ![16]) inb_S128_S16_16) $$ HI
  iintro %_ HI
  iapply (wp_putI (L := L) (d := d) (G := (fun col => (laneOut lt tt pen (offL L) col).2)) (g := 1) (o := ![16]) rfl inb_S128_S16_16 rfl) $$ HI
  iintro HI
  iapply (wp_peekV (L := L) (d := d) (G := (fun col => (laneOut lt tt pen (offL L) col).1)) (n := 16 * 2) (o := ![32]) inb_S128_S16_32) $$ HV
  iintro %_ HV
  iapply (wp_putV (L := L) (d := d) (G := (fun col => (laneOut lt tt pen (offL L) col).1)) (g := 2) (o := ![32]) rfl inb_S128_S16_32 rfl) $$ HV
  iintro HV
  iapply (wp_peekI (L := L) (d := d) (G := (fun col => (laneOut lt tt pen (offL L) col).2)) (n := 16 * 2) (o := ![32]) inb_S128_S16_32) $$ HI
  iintro %_ HI
  iapply (wp_putI (L := L) (d := d) (G := (fun col => (laneOut lt tt pen (offL L) col).2)) (g := 2) (o := ![32]) rfl inb_S128_S16_32 rfl) $$ HI
  iintro HI
  iapply Hk
  iframe

/-- Lane groups 3 to 4 stored. -/
theorem wp_part26 {α : Type} {Q : α → sProp 𝕄} {kk : _ → Prog (TpuEff nD τ sig (Elt F) Λ₀ (thr L d).2) α} :
    iprop(DoneV L d (fun col => (laneOut lt tt pen (offL L) col).1) (16 * 3) ∗ DoneI L d (fun col => (laneOut lt tt pen (offL L) col).2) (16 * 3))
      ⊢ iprop((iprop(DoneV L d (fun col => (laneOut lt tt pen (offL L) col).1) (16 * 5) ∗ DoneI L d (fun col => (laneOut lt tt pen (offL L) col).2) (16 * 5))
          -∗ wp frame (wpE (defs₀ (F := F)) 𝒱₀ (thr L d) none) Set.univ (kk ⟨k0_pay394 (accV lt tt pen (offL L) 5 0 300) (accI lt tt pen (offL L) 5 0 300) (accV lt tt pen (offL L) 5 1 300) (accI lt tt pen (offL L) 5 1 300), k0_pay395 (accV lt tt pen (offL L) 5 0 300) (accI lt tt pen (offL L) 5 0 300) (accV lt tt pen (offL L) 5 1 300) (accI lt tt pen (offL L) 5 1 300) (accV lt tt pen (offL L) 5 2 300) (accI lt tt pen (offL L) 5 2 300), k0_pay396 (accV lt tt pen (offL L) 5 0 300) (accI lt tt pen (offL L) 5 0 300) (accV lt tt pen (offL L) 5 1 300) (accI lt tt pen (offL L) 5 1 300) (accV lt tt pen (offL L) 5 2 300) (accI lt tt pen (offL L) 5 2 300)⟩) Q)
        -∗ wp frame (wpE (defs₀ (F := F)) 𝒱₀ (thr L d) none) Set.univ (k0_part26 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 (accV lt tt pen (offL L) 3 3 300) (accI lt tt pen (offL L) 3 3 300) (accV lt tt pen (offL L) 4 0 300) (accI lt tt pen (offL L) 4 0 300) (accV lt tt pen (offL L) 4 1 300) (accI lt tt pen (offL L) 4 1 300) (accV lt tt pen (offL L) 4 2 300) (accI lt tt pen (offL L) 4 2 300) (accV lt tt pen (offL L) 4 3 300) (accI lt tt pen (offL L) 4 3 300) (accV lt tt pen (offL L) 5 0 300) (accI lt tt pen (offL L) 5 0 300) (accV lt tt pen (offL L) 5 1 300) (accI lt tt pen (offL L) 5 1 300) (accV lt tt pen (offL L) 5 2 300) (accI lt tt pen (offL L) 5 2 300) (k0_pay377 (accV lt tt pen (offL L) 3 0 300) (accI lt tt pen (offL L) 3 0 300) (accV lt tt pen (offL L) 3 1 300) (accI lt tt pen (offL L) 3 1 300) (accV lt tt pen (offL L) 3 2 300) (accI lt tt pen (offL L) 3 2 300)) (k0_pay378 (accV lt tt pen (offL L) 3 0 300) (accI lt tt pen (offL L) 3 0 300) (accV lt tt pen (offL L) 3 1 300) (accI lt tt pen (offL L) 3 1 300) (accV lt tt pen (offL L) 3 2 300) (accI lt tt pen (offL L) 3 2 300)) (k0_pay379 (accV lt tt pen (offL L) 3 0 300) (accI lt tt pen (offL L) 3 0 300) (accV lt tt pen (offL L) 3 1 300) (accI lt tt pen (offL L) 3 1 300) (accV lt tt pen (offL L) 3 2 300) (accI lt tt pen (offL L) 3 2 300) (accV lt tt pen (offL L) 3 3 300)) >>= kk) Q) := by
  iintro ⟨HV, HI⟩ Hk
  rw [k0_part26_eq_skeleton]; unfold k0_part26_skel
  simp only [Prog.lift, Prog.bind_op, Prog.bind_ret, Prog.pure_eq_ret, Prog.bind_assoc]
  iapply (wp_peekV (L := L) (d := d) (G := (fun col => (laneOut lt tt pen (offL L) col).1)) (n := 16 * 3) (o := ![48]) inb_S128_S16_48) $$ HV
  iintro %_ HV
  iapply (wp_putV (L := L) (d := d) (G := (fun col => (laneOut lt tt pen (offL L) col).1)) (g := 3) (o := ![48]) rfl inb_S128_S16_48 rfl) $$ HV
  iintro HV
  iapply (wp_peekI (L := L) (d := d) (G := (fun col => (laneOut lt tt pen (offL L) col).2)) (n := 16 * 3) (o := ![48]) inb_S128_S16_48) $$ HI
  iintro %_ HI
  iapply (wp_putI (L := L) (d := d) (G := (fun col => (laneOut lt tt pen (offL L) col).2)) (g := 3) (o := ![48]) rfl inb_S128_S16_48 rfl) $$ HI
  iintro HI
  iapply (wp_peekV (L := L) (d := d) (G := (fun col => (laneOut lt tt pen (offL L) col).1)) (n := 16 * 4) (o := ![64]) inb_S128_S16_64) $$ HV
  iintro %_ HV
  iapply (wp_putV (L := L) (d := d) (G := (fun col => (laneOut lt tt pen (offL L) col).1)) (g := 4) (o := ![64]) rfl inb_S128_S16_64 rfl) $$ HV
  iintro HV
  iapply (wp_peekI (L := L) (d := d) (G := (fun col => (laneOut lt tt pen (offL L) col).2)) (n := 16 * 4) (o := ![64]) inb_S128_S16_64) $$ HI
  iintro %_ HI
  iapply (wp_putI (L := L) (d := d) (G := (fun col => (laneOut lt tt pen (offL L) col).2)) (g := 4) (o := ![64]) rfl inb_S128_S16_64 rfl) $$ HI
  iintro HI
  iapply Hk
  iframe

/-- Lane groups 5 to 6 stored. -/
theorem wp_part27 {α : Type} {Q : α → sProp 𝕄} {kk : _ → Prog (TpuEff nD τ sig (Elt F) Λ₀ (thr L d).2) α} :
    iprop(DoneV L d (fun col => (laneOut lt tt pen (offL L) col).1) (16 * 5) ∗ DoneI L d (fun col => (laneOut lt tt pen (offL L) col).2) (16 * 5))
      ⊢ iprop((iprop(DoneV L d (fun col => (laneOut lt tt pen (offL L) col).1) (16 * 7) ∗ DoneI L d (fun col => (laneOut lt tt pen (offL L) col).2) (16 * 7))
          -∗ wp frame (wpE (defs₀ (F := F)) 𝒱₀ (thr L d) none) Set.univ (kk ⟨k0_pay411 (accV lt tt pen (offL L) 7 0 300) (accI lt tt pen (offL L) 7 0 300) (accV lt tt pen (offL L) 7 1 300) (accI lt tt pen (offL L) 7 1 300), k0_pay412 (accV lt tt pen (offL L) 7 0 300) (accI lt tt pen (offL L) 7 0 300) (accV lt tt pen (offL L) 7 1 300) (accI lt tt pen (offL L) 7 1 300), k0_pay413 (accV lt tt pen (offL L) 7 0 300) (accI lt tt pen (offL L) 7 0 300) (accV lt tt pen (offL L) 7 1 300) (accI lt tt pen (offL L) 7 1 300) (accV lt tt pen (offL L) 7 2 300), k0_pay414 (accV lt tt pen (offL L) 7 0 300) (accI lt tt pen (offL L) 7 0 300) (accV lt tt pen (offL L) 7 1 300) (accI lt tt pen (offL L) 7 1 300) (accV lt tt pen (offL L) 7 2 300) (accI lt tt pen (offL L) 7 2 300)⟩) Q)
        -∗ wp frame (wpE (defs₀ (F := F)) 𝒱₀ (thr L d) none) Set.univ (k0_part27 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 (accI lt tt pen (offL L) 5 2 300) (accV lt tt pen (offL L) 5 3 300) (accI lt tt pen (offL L) 5 3 300) (accV lt tt pen (offL L) 6 0 300) (accI lt tt pen (offL L) 6 0 300) (accV lt tt pen (offL L) 6 1 300) (accI lt tt pen (offL L) 6 1 300) (accV lt tt pen (offL L) 6 2 300) (accI lt tt pen (offL L) 6 2 300) (accV lt tt pen (offL L) 6 3 300) (accI lt tt pen (offL L) 6 3 300) (accV lt tt pen (offL L) 7 0 300) (accI lt tt pen (offL L) 7 0 300) (accV lt tt pen (offL L) 7 1 300) (accI lt tt pen (offL L) 7 1 300) (accV lt tt pen (offL L) 7 2 300) (accI lt tt pen (offL L) 7 2 300) (k0_pay394 (accV lt tt pen (offL L) 5 0 300) (accI lt tt pen (offL L) 5 0 300) (accV lt tt pen (offL L) 5 1 300) (accI lt tt pen (offL L) 5 1 300)) (k0_pay395 (accV lt tt pen (offL L) 5 0 300) (accI lt tt pen (offL L) 5 0 300) (accV lt tt pen (offL L) 5 1 300) (accI lt tt pen (offL L) 5 1 300) (accV lt tt pen (offL L) 5 2 300) (accI lt tt pen (offL L) 5 2 300)) (k0_pay396 (accV lt tt pen (offL L) 5 0 300) (accI lt tt pen (offL L) 5 0 300) (accV lt tt pen (offL L) 5 1 300) (accI lt tt pen (offL L) 5 1 300) (accV lt tt pen (offL L) 5 2 300) (accI lt tt pen (offL L) 5 2 300)) >>= kk) Q) := by
  iintro ⟨HV, HI⟩ Hk
  rw [k0_part27_eq_skeleton]; unfold k0_part27_skel
  simp only [Prog.lift, Prog.bind_op, Prog.bind_ret, Prog.pure_eq_ret, Prog.bind_assoc]
  iapply (wp_peekV (L := L) (d := d) (G := (fun col => (laneOut lt tt pen (offL L) col).1)) (n := 16 * 5) (o := ![80]) inb_S128_S16_80) $$ HV
  iintro %_ HV
  iapply (wp_putV (L := L) (d := d) (G := (fun col => (laneOut lt tt pen (offL L) col).1)) (g := 5) (o := ![80]) rfl inb_S128_S16_80 rfl) $$ HV
  iintro HV
  iapply (wp_peekI (L := L) (d := d) (G := (fun col => (laneOut lt tt pen (offL L) col).2)) (n := 16 * 5) (o := ![80]) inb_S128_S16_80) $$ HI
  iintro %_ HI
  iapply (wp_putI (L := L) (d := d) (G := (fun col => (laneOut lt tt pen (offL L) col).2)) (g := 5) (o := ![80]) rfl inb_S128_S16_80 rfl) $$ HI
  iintro HI
  iapply (wp_peekV (L := L) (d := d) (G := (fun col => (laneOut lt tt pen (offL L) col).1)) (n := 16 * 6) (o := ![96]) inb_S128_S16_96) $$ HV
  iintro %_ HV
  iapply (wp_putV (L := L) (d := d) (G := (fun col => (laneOut lt tt pen (offL L) col).1)) (g := 6) (o := ![96]) rfl inb_S128_S16_96 rfl) $$ HV
  iintro HV
  iapply (wp_peekI (L := L) (d := d) (G := (fun col => (laneOut lt tt pen (offL L) col).2)) (n := 16 * 6) (o := ![96]) inb_S128_S16_96) $$ HI
  iintro %_ HI
  iapply (wp_putI (L := L) (d := d) (G := (fun col => (laneOut lt tt pen (offL L) col).2)) (g := 6) (o := ![96]) rfl inb_S128_S16_96 rfl) $$ HI
  iintro HI
  iapply Hk
  iframe

end Cert.Proof.Scan

end
-- ==== Proof.ScanDrain.lean ====
/-
  One tile's double-buffered stripe: the chunks' fetches and waits, and the outer loop's parts.
-/
module

public import proofs.«01_k».proof.Proof.ScanStore

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

local notation "pnV" => (Memref.whole Cert.KernelIdeal.main_v3_scv : Memref Cert.KernelIdeal.sig Kind.scVector Space.hbm Cert.KernelIdeal.S128 EltTy.f32)
local notation "ovV" => (Memref.whole Cert.KernelIdeal.main_v5_0_scv : Memref Cert.KernelIdeal.sig Kind.scVector Space.hbm Cert.KernelIdeal.S4096 EltTy.f32)
local notation "oiV" => (Memref.whole Cert.KernelIdeal.main_v5_1_scv : Memref Cert.KernelIdeal.sig Kind.scVector Space.hbm Cert.KernelIdeal.S4096 EltTy.i32)
local notation "pV" => (Memref.whole Cert.KernelIdeal.cc0_scratch2 : Memref Cert.KernelIdeal.sig Kind.scVector Space.vmem Cert.KernelIdeal.S128 EltTy.f32)
local notation "rvV" => (Memref.whole Cert.KernelIdeal.cc0_scratch3 : Memref Cert.KernelIdeal.sig Kind.scVector Space.vmem Cert.KernelIdeal.S128 EltTy.f32)
local notation "riV" => (Memref.whole Cert.KernelIdeal.cc0_scratch4 : Memref Cert.KernelIdeal.sig Kind.scVector Space.vmem Cert.KernelIdeal.S128 EltTy.i32)

variable {L : grid0.Coords} {d : Dev nD}
variable {lt : S100000x128.Idx → F .f32} {tt : S100000x128.Idx → BitVec 32} {pen : S128.Idx → F .f32}

set_option maxRecDepth 65536

/-- The stripe's values copied out: started and waited for. -/
theorem wp_copyV {α : Type} {Q : α → sProp 𝕄}
    {hsrc : (rvV).view.WordExact} {hdst : ((ovV).slice (Rect.unit (s := S4096) (k0_off21 L) S128.size (k0_off21_inb L)) (fun _ => rfl)).view.WordExact}
    {hsem : DmaTarget.Typed (nD := nD) (p := (thr L d).2) .vmem (.dma cc0_scoped1.sem) (.here ((ovV).slice (Rect.unit (s := S4096) (k0_off21 L) S128.size (k0_off21_inb L)) (fun _ => rfl)))}
    {h1 : (rvV).view.WordExact} {h2 : ((ovV).slice (Rect.unit (s := S4096) (k0_off21 L) S128.size (k0_off21_inb L)) (fun _ => rfl)).view.WordExact}
    {O : CellTallies nD τ sig (HIx 1)} {W : Waits sig (HIx 1)} {kk : PUnit → Prog (TpuEff nD τ sig (Elt F) Λ₀ (thr L d).2) α} :
    iprop(DoneV L d (fun col => (laneOut lt tt pen (offL L) col).1) (16 * 8) ∗ (∃ f, (ovV).view.loc (thr L d) ↦[blk (wOf L)]{fullShare} f) ∗ semVal (thr L d, .dma cc0_scoped1.sem) 0 ∗ Ow L d O W ∗ MayWaits (thr L d) (none : HIx 1) O)
      ⊢ iprop((iprop((∃ f, (rvV).view.loc (thr L d) ↦{fullShare} f) ∗ ((ovV).view.loc (thr L d) ↦[blk (wOf L)]{fullShare} (outV lt tt pen : S4096.Idx → F .f32)) ∗ semVal (thr L d, .dma cc0_scoped1.sem) 0 ∗ Ow L d O W) -∗ wp frame (wpE (defs₀ (F := F)) 𝒱₀ (thr L d) none) Set.univ (kk ⟨⟩) Q)
        -∗ wp frame (wpE (defs₀ (F := F)) 𝒱₀ (thr L d) none) Set.univ (.op (.enqueueDma rvV (.here ((ovV).slice (Rect.unit (s := S4096) (k0_off21 L) S128.size (k0_off21_inb L)) (fun _ => rfl))) (.dma cc0_scoped1.sem) hsrc hdst hsem) fun _ => .op (.waitDma2 cc0_scoped1.sem rvV ((ovV).slice (Rect.unit (s := S4096) (k0_off21 L) S128.size (k0_off21_inb L)) (fun _ => rfl)) h1 h2) kk) Q) := by
  unfold DoneV
  iintro ⟨⟨%f, %hf, Hs⟩, ⟨%fd, Hd⟩, Hv, HO, #Hm⟩ Hk
  have hP := holdsOV (lt := lt) (tt := tt) (pen := pen) L hf fd
  have h3 := wp_start (F := F) (Q := Q) (thr L d) (q := fullShare) (src := rvV) (dst := ((ovV).slice (Rect.unit (s := S4096) (k0_off21 L) S128.size (k0_off21_inb L)) (fun _ => rfl))) (sm := .dma cc0_scoped1.sem) (hsrc := hsrc) (hdst := hdst) (hsem := hsem) (k := fun _ => .op (.waitDma2 cc0_scoped1.sem rvV ((ovV).slice (Rect.unit (s := S4096) (k0_off21 L) S128.size (k0_off21_inb L)) (fun _ => rfl)) h1 h2) kk) (fs := f) (Sd := blk (wOf L)) (fd := fd) (N := NOV) rfl NOV_pos (off21V_subset L) (P := fun g => ∀ x ∈ blk (wOf L), g x = (outV lt tt pen : S4096.Idx → F .f32) x) hP
  iapply h3 $$ [Hd Hs Hv]
  · isplitl [Hs]; · iexact Hs
    isplitl [Hd]; · iexact Hd
    iexact Hv
  iintro HF
  unfold Ow
  iapply (wp_land (thr L d) (N := NOV) rfl) $$ [HF HO]
  · iframe HF HO Hm
  iintro ⟨⟨%g, %hg, Hd⟩, Hs, Hv, HO⟩
  iapply Hk
  isplitl [Hs]
  · iexists f; iexact Hs
  isplitl [Hd]
  · iapply (Entails.of_eq (pointsTo_congr hg)) $$ Hd
  iframe

/-- The stripe's indices copied out: started and waited for. -/
theorem wp_copyI {α : Type} {Q : α → sProp 𝕄}
    {hsrc : (riV).view.WordExact} {hdst : ((oiV).slice (Rect.unit (s := S4096) (k0_off21 L) S128.size (k0_off21_inb L)) (fun _ => rfl)).view.WordExact}
    {hsem : DmaTarget.Typed (nD := nD) (p := (thr L d).2) .vmem (.dma cc0_scoped2.sem) (.here ((oiV).slice (Rect.unit (s := S4096) (k0_off21 L) S128.size (k0_off21_inb L)) (fun _ => rfl)))}
    {h1 : (riV).view.WordExact} {h2 : ((oiV).slice (Rect.unit (s := S4096) (k0_off21 L) S128.size (k0_off21_inb L)) (fun _ => rfl)).view.WordExact}
    {O : CellTallies nD τ sig (HIx 1)} {W : Waits sig (HIx 1)} {kk : PUnit → Prog (TpuEff nD τ sig (Elt F) Λ₀ (thr L d).2) α} :
    iprop(DoneI L d (fun col => (laneOut lt tt pen (offL L) col).2) (16 * 8) ∗ (∃ f, (oiV).view.loc (thr L d) ↦[blk (wOf L)]{fullShare} f) ∗ semVal (thr L d, .dma cc0_scoped2.sem) 0 ∗ Ow L d O W ∗ MayWaits (thr L d) (none : HIx 1) O)
      ⊢ iprop((iprop((∃ f, (riV).view.loc (thr L d) ↦{fullShare} f) ∗ ((oiV).view.loc (thr L d) ↦[blk (wOf L)]{fullShare} (outI lt tt pen : S4096.Idx → BitVec 32)) ∗ semVal (thr L d, .dma cc0_scoped2.sem) 0 ∗ Ow L d O W) -∗ wp frame (wpE (defs₀ (F := F)) 𝒱₀ (thr L d) none) Set.univ (kk ⟨⟩) Q)
        -∗ wp frame (wpE (defs₀ (F := F)) 𝒱₀ (thr L d) none) Set.univ (.op (.enqueueDma riV (.here ((oiV).slice (Rect.unit (s := S4096) (k0_off21 L) S128.size (k0_off21_inb L)) (fun _ => rfl))) (.dma cc0_scoped2.sem) hsrc hdst hsem) fun _ => .op (.waitDma2 cc0_scoped2.sem riV ((oiV).slice (Rect.unit (s := S4096) (k0_off21 L) S128.size (k0_off21_inb L)) (fun _ => rfl)) h1 h2) kk) Q) := by
  unfold DoneI
  iintro ⟨⟨%f, %hf, Hs⟩, ⟨%fd, Hd⟩, Hv, HO, #Hm⟩ Hk
  have hP := holdsOI (lt := lt) (tt := tt) (pen := pen) L hf fd
  have h3 := wp_start (F := F) (Q := Q) (thr L d) (q := fullShare) (src := riV) (dst := ((oiV).slice (Rect.unit (s := S4096) (k0_off21 L) S128.size (k0_off21_inb L)) (fun _ => rfl))) (sm := .dma cc0_scoped2.sem) (hsrc := hsrc) (hdst := hdst) (hsem := hsem) (k := fun _ => .op (.waitDma2 cc0_scoped2.sem riV ((oiV).slice (Rect.unit (s := S4096) (k0_off21 L) S128.size (k0_off21_inb L)) (fun _ => rfl)) h1 h2) kk) (fs := f) (Sd := blk (wOf L)) (fd := fd) (N := NOI) rfl NOI_pos (off21I_subset L) (P := fun g => ∀ x ∈ blk (wOf L), g x = (outI lt tt pen : S4096.Idx → BitVec 32) x) hP
  iapply h3 $$ [Hd Hs Hv]
  · isplitl [Hs]; · iexact Hs
    isplitl [Hd]; · iexact Hd
    iexact Hv
  iintro HF
  unfold Ow
  iapply (wp_land (thr L d) (N := NOI) rfl) $$ [HF HO]
  · iframe HF HO Hm
  iintro ⟨⟨%g, %hg, Hd⟩, Hs, Hv, HO⟩
  iapply Hk
  isplitl [Hs]
  · iexists f; iexact Hs
  isplitl [Hd]
  · iapply (Entails.of_eq (pointsTo_congr hg)) $$ Hd
  iframe

theorem part22_eq : k0_part22 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 = pure ⟨(accI lt tt pen (offL L) 0 0 0), (accV lt tt pen (offL L) 0 1 0), (accI lt tt pen (offL L) 0 1 0), (accV lt tt pen (offL L) 0 2 0), (accI lt tt pen (offL L) 0 2 0), (accV lt tt pen (offL L) 0 3 0), (accI lt tt pen (offL L) 0 3 0), (accV lt tt pen (offL L) 1 0 0), (accI lt tt pen (offL L) 1 0 0), (accV lt tt pen (offL L) 1 1 0), (accI lt tt pen (offL L) 1 1 0), (accV lt tt pen (offL L) 1 2 0), (accI lt tt pen (offL L) 1 2 0), (accV lt tt pen (offL L) 1 3 0), (accI lt tt pen (offL L) 1 3 0), (accV lt tt pen (offL L) 2 0 0), (accI lt tt pen (offL L) 2 0 0), (accV lt tt pen (offL L) 2 1 0), (accI lt tt pen (offL L) 2 1 0), (accV lt tt pen (offL L) 2 2 0), (accI lt tt pen (offL L) 2 2 0), (accV lt tt pen (offL L) 2 3 0), (accI lt tt pen (offL L) 2 3 0), (accV lt tt pen (offL L) 3 0 0), (accI lt tt pen (offL L) 3 0 0), (accV lt tt pen (offL L) 3 1 0), (accI lt tt pen (offL L) 3 1 0), (accV lt tt pen (offL L) 3 2 0), (accI lt tt pen (offL L) 3 2 0), (accV lt tt pen (offL L) 3 3 0)⟩ := rfl

theorem part23_eq : k0_part23 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 = pure ⟨(accI lt tt pen (offL L) 3 3 0), (accV lt tt pen (offL L) 4 0 0), (accI lt tt pen (offL L) 4 0 0), (accV lt tt pen (offL L) 4 1 0), (accI lt tt pen (offL L) 4 1 0), (accV lt tt pen (offL L) 4 2 0), (accI lt tt pen (offL L) 4 2 0), (accV lt tt pen (offL L) 4 3 0), (accI lt tt pen (offL L) 4 3 0), (accV lt tt pen (offL L) 5 0 0), (accI lt tt pen (offL L) 5 0 0), (accV lt tt pen (offL L) 5 1 0), (accI lt tt pen (offL L) 5 1 0), (accV lt tt pen (offL L) 5 2 0), (accI lt tt pen (offL L) 5 2 0), (accV lt tt pen (offL L) 5 3 0), (accI lt tt pen (offL L) 5 3 0), (accV lt tt pen (offL L) 6 0 0), (accI lt tt pen (offL L) 6 0 0), (accV lt tt pen (offL L) 6 1 0), (accI lt tt pen (offL L) 6 1 0), (accV lt tt pen (offL L) 6 2 0), (accI lt tt pen (offL L) 6 2 0), (accV lt tt pen (offL L) 6 3 0), (accI lt tt pen (offL L) 6 3 0), (accV lt tt pen (offL L) 7 0 0), (accI lt tt pen (offL L) 7 0 0), (accV lt tt pen (offL L) 7 1 0), (accI lt tt pen (offL L) 7 1 0), (accV lt tt pen (offL L) 7 2 0)⟩ := rfl

/-- The stripe scanned and its first lane group stored. -/
theorem wp_part24 {α : Type} {Q : α → sProp 𝕄} (v22 : BitVec 32) (hv22 : v22 = BitVec.ofNat 32 (offL L)) {q q' : PosShare TreeShare}
    {O : CellTallies nD τ sig (HIx 1)} {W : Waits sig (HIx 1)} {kk : _ → Prog (TpuEff nD τ sig (Elt F) Λ₀ (thr L d).2) α} :
    iprop((Next L d lt tt 0 q ∗ (Home7 L d lt 1 q' cc0_scratch6.sem ∗ Home8 L d tt 1 q' cc0_scratch8.sem) ∗ Ow L d O W) ∗ MayWaits (thr L d) (none : HIx 1) O ∗ DoneV L d (fun col => (laneOut lt tt pen (offL L) col).1) (16 * 0) ∗ DoneI L d (fun col => (laneOut lt tt pen (offL L) col).2) (16 * 0))
      ⊢ iprop((iprop((Home7 L d lt 0 q cc0_scratch5.sem ∗ Home8 L d tt 0 q cc0_scratch7.sem) ∗ (Home7 L d lt 1 q' cc0_scratch6.sem ∗ Home8 L d tt 1 q' cc0_scratch8.sem) ∗ Ow L d O W ∗ DoneV L d (fun col => (laneOut lt tt pen (offL L) col).1) (16 * 1) ∗ DoneI L d (fun col => (laneOut lt tt pen (offL L) col).2) (16 * 1))
          -∗ wp frame (wpE (defs₀ (F := F)) 𝒱₀ (thr L d) none) Set.univ (kk ⟨(accV lt tt pen (offL L) 1 3 300), (accI lt tt pen (offL L) 1 3 300), (accV lt tt pen (offL L) 2 0 300), (accI lt tt pen (offL L) 2 0 300), (accV lt tt pen (offL L) 2 1 300), (accI lt tt pen (offL L) 2 1 300), (accV lt tt pen (offL L) 2 2 300), (accI lt tt pen (offL L) 2 2 300), (accV lt tt pen (offL L) 2 3 300), (accI lt tt pen (offL L) 2 3 300), (accV lt tt pen (offL L) 3 0 300), (accI lt tt pen (offL L) 3 0 300), (accV lt tt pen (offL L) 3 1 300), (accI lt tt pen (offL L) 3 1 300), (accV lt tt pen (offL L) 3 2 300), (accI lt tt pen (offL L) 3 2 300), (accV lt tt pen (offL L) 3 3 300), (accI lt tt pen (offL L) 3 3 300), (accV lt tt pen (offL L) 4 0 300), (accI lt tt pen (offL L) 4 0 300), (accV lt tt pen (offL L) 4 1 300), (accI lt tt pen (offL L) 4 1 300), (accV lt tt pen (offL L) 4 2 300), (accI lt tt pen (offL L) 4 2 300), (accV lt tt pen (offL L) 4 3 300), (accI lt tt pen (offL L) 4 3 300), (accV lt tt pen (offL L) 5 0 300), (accI lt tt pen (offL L) 5 0 300), (accV lt tt pen (offL L) 5 1 300), (accI lt tt pen (offL L) 5 1 300), (accV lt tt pen (offL L) 5 2 300), (accI lt tt pen (offL L) 5 2 300), (accV lt tt pen (offL L) 5 3 300), (accI lt tt pen (offL L) 5 3 300), (accV lt tt pen (offL L) 6 0 300), (accI lt tt pen (offL L) 6 0 300), (accV lt tt pen (offL L) 6 1 300), (accI lt tt pen (offL L) 6 1 300), (accV lt tt pen (offL L) 6 2 300), (accI lt tt pen (offL L) 6 2 300), (accV lt tt pen (offL L) 6 3 300), (accI lt tt pen (offL L) 6 3 300), (accV lt tt pen (offL L) 7 0 300), (accI lt tt pen (offL L) 7 0 300), (accV lt tt pen (offL L) 7 1 300), (accI lt tt pen (offL L) 7 1 300), (accV lt tt pen (offL L) 7 2 300), (accI lt tt pen (offL L) 7 2 300), (accV lt tt pen (offL L) 7 3 300), (accI lt tt pen (offL L) 7 3 300), (k0_pay356 (accV lt tt pen (offL L) 1 0 300) (accI lt tt pen (offL L) 1 0 300) (accV lt tt pen (offL L) 1 1 300) (accI lt tt pen (offL L) 1 1 300) (accV lt tt pen (offL L) 1 2 300) (accI lt tt pen (offL L) 1 2 300)), (k0_pay357 (accV lt tt pen (offL L) 1 0 300) (accI lt tt pen (offL L) 1 0 300) (accV lt tt pen (offL L) 1 1 300) (accI lt tt pen (offL L) 1 1 300) (accV lt tt pen (offL L) 1 2 300) (accI lt tt pen (offL L) 1 2 300)), (k0_pay358 (accV lt tt pen (offL L) 1 0 300) (accI lt tt pen (offL L) 1 0 300) (accV lt tt pen (offL L) 1 1 300) (accI lt tt pen (offL L) 1 1 300) (accV lt tt pen (offL L) 1 2 300) (accI lt tt pen (offL L) 1 2 300) (accV lt tt pen (offL L) 1 3 300)), (k0_pay359 (accV lt tt pen (offL L) 1 0 300) (accI lt tt pen (offL L) 1 0 300) (accV lt tt pen (offL L) 1 1 300) (accI lt tt pen (offL L) 1 1 300) (accV lt tt pen (offL L) 1 2 300) (accI lt tt pen (offL L) 1 2 300) (accV lt tt pen (offL L) 1 3 300)), (k0_pay360 (accV lt tt pen (offL L) 1 0 300) (accI lt tt pen (offL L) 1 0 300) (accV lt tt pen (offL L) 1 1 300) (accI lt tt pen (offL L) 1 1 300) (accV lt tt pen (offL L) 1 2 300) (accI lt tt pen (offL L) 1 2 300) (accI lt tt pen (offL L) 1 3 300))⟩) Q)
        -∗ wp frame (wpE (defs₀ (F := F)) 𝒱₀ (thr L d) none) Set.univ (k0_part24 (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2 v22 (penV pen 0) (penV pen 1) (penV pen 2) (penV pen 3) (penV pen 4) (penV pen 5) (penV pen 6) (penV pen 7) (rpV pen 0) (rpV pen 1) (rpV pen 2) (rpV pen 3) (rpV pen 4) (rpV pen 5) (rpV pen 6) (rpV pen 7) (accV lt tt pen (offL L) 0 0 0) (accI lt tt pen (offL L) 0 0 0) (accV lt tt pen (offL L) 0 1 0) (accI lt tt pen (offL L) 0 1 0) (accV lt tt pen (offL L) 0 2 0) (accI lt tt pen (offL L) 0 2 0) (accV lt tt pen (offL L) 0 3 0) (accI lt tt pen (offL L) 0 3 0) (accV lt tt pen (offL L) 1 0 0) (accI lt tt pen (offL L) 1 0 0) (accV lt tt pen (offL L) 1 1 0) (accI lt tt pen (offL L) 1 1 0) (accV lt tt pen (offL L) 1 2 0) (accI lt tt pen (offL L) 1 2 0) (accV lt tt pen (offL L) 1 3 0) (accI lt tt pen (offL L) 1 3 0) (accV lt tt pen (offL L) 2 0 0) (accI lt tt pen (offL L) 2 0 0) (accV lt tt pen (offL L) 2 1 0) (accI lt tt pen (offL L) 2 1 0) (accV lt tt pen (offL L) 2 2 0) (accI lt tt pen (offL L) 2 2 0) (accV lt tt pen (offL L) 2 3 0) (accI lt tt pen (offL L) 2 3 0) (accV lt tt pen (offL L) 3 0 0) (accI lt tt pen (offL L) 3 0 0) (accV lt tt pen (offL L) 3 1 0) (accI lt tt pen (offL L) 3 1 0) (accV lt tt pen (offL L) 3 2 0) (accI lt tt pen (offL L) 3 2 0) (accV lt tt pen (offL L) 3 3 0) (accI lt tt pen (offL L) 3 3 0) (accV lt tt pen (offL L) 4 0 0) (accI lt tt pen (offL L) 4 0 0) (accV lt tt pen (offL L) 4 1 0) (accI lt tt pen (offL L) 4 1 0) (accV lt tt pen (offL L) 4 2 0) (accI lt tt pen (offL L) 4 2 0) (accV lt tt pen (offL L) 4 3 0) (accI lt tt pen (offL L) 4 3 0) (accV lt tt pen (offL L) 5 0 0) (accI lt tt pen (offL L) 5 0 0) (accV lt tt pen (offL L) 5 1 0) (accI lt tt pen (offL L) 5 1 0) (accV lt tt pen (offL L) 5 2 0) (accI lt tt pen (offL L) 5 2 0) (accV lt tt pen (offL L) 5 3 0) (accI lt tt pen (offL L) 5 3 0) (accV lt tt pen (offL L) 6 0 0) (accI lt tt pen (offL L) 6 0 0) (accV lt tt pen (offL L) 6 1 0) (accI lt tt pen (offL L) 6 1 0) (accV lt tt pen (offL L) 6 2 0) (accI lt tt pen (offL L) 6 2 0) (accV lt tt pen (offL L) 6 3 0) (accI lt tt pen (offL L) 6 3 0) (accV lt tt pen (offL L) 7 0 0) (accI lt tt pen (offL L) 7 0 0) (accV lt tt pen (offL L) 7 1 0) (accI lt tt pen (offL L) 7 1 0) (accV lt tt pen (offL L) 7 2 0) >>= kk) Q) := by
  iintro ⟨⟨HN, HH, HO⟩, #Hm, HV, HI⟩ Hk
  rw [k0_part24_eq_skeleton]; unfold k0_part24_skel
  simp only [Prog.lift, Prog.bind_op, Prog.bind_ret, Prog.pure_eq_ret, Prog.bind_assoc]
  iapply (wp_outer (pen := pen) v22 hv22 (hinit := rfl)) $$ [HN HH HO]
  · iframe HN HH HO Hm
  iintro ⟨HB, HH, HO⟩
  dsimp only [All]
  iapply (wp_peekV (L := L) (d := d) (G := (fun col => (laneOut lt tt pen (offL L) col).1)) (n := 16 * 0) (o := ![0]) inb_S128_S16_0) $$ HV
  iintro %_ HV
  iapply (wp_putV (L := L) (d := d) (G := (fun col => (laneOut lt tt pen (offL L) col).1)) (g := 0) (o := ![0]) rfl inb_S128_S16_0 rfl) $$ HV
  iintro HV
  iapply (wp_peekI (L := L) (d := d) (G := (fun col => (laneOut lt tt pen (offL L) col).2)) (n := 16 * 0) (o := ![0]) inb_S128_S16_0) $$ HI
  iintro %_ HI
  iapply (wp_putI (L := L) (d := d) (G := (fun col => (laneOut lt tt pen (offL L) col).2)) (g := 0) (o := ![0]) rfl inb_S128_S16_0 rfl) $$ HI
  iintro HI
  iapply Hk
  iframe

end Cert.Proof.Scan

end
-- ==== Proof.ScanRun.lean ====
/-
  One tile's double-buffered stripe: the chunks' fetches and waits, and the outer loop's parts.
-/
module

public import proofs.«01_k».proof.Proof.ScanDrain

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

local notation "pnV" => (Memref.whole Cert.KernelIdeal.main_v3_scv : Memref Cert.KernelIdeal.sig Kind.scVector Space.hbm Cert.KernelIdeal.S128 EltTy.f32)
local notation "ovV" => (Memref.whole Cert.KernelIdeal.main_v5_0_scv : Memref Cert.KernelIdeal.sig Kind.scVector Space.hbm Cert.KernelIdeal.S4096 EltTy.f32)
local notation "oiV" => (Memref.whole Cert.KernelIdeal.main_v5_1_scv : Memref Cert.KernelIdeal.sig Kind.scVector Space.hbm Cert.KernelIdeal.S4096 EltTy.i32)
local notation "pV" => (Memref.whole Cert.KernelIdeal.cc0_scratch2 : Memref Cert.KernelIdeal.sig Kind.scVector Space.vmem Cert.KernelIdeal.S128 EltTy.f32)
local notation "rvV" => (Memref.whole Cert.KernelIdeal.cc0_scratch3 : Memref Cert.KernelIdeal.sig Kind.scVector Space.vmem Cert.KernelIdeal.S128 EltTy.f32)
local notation "riV" => (Memref.whole Cert.KernelIdeal.cc0_scratch4 : Memref Cert.KernelIdeal.sig Kind.scVector Space.vmem Cert.KernelIdeal.S128 EltTy.i32)

variable {L : grid0.Coords} {d : Dev nD}
variable {lt : S100000x128.Idx → F .f32} {tt : S100000x128.Idx → BitVec 32} {pen : S128.Idx → F .f32}

set_option maxRecDepth 65536

theorem halves : Finset.univ \ half 0 = half 1 := by
  ext x
  have : (x 0).val < 2 := (x 0).isLt
  simp only [half, Finset.mem_sdiff, Finset.mem_filter, Finset.mem_univ, true_and]
  omega

theorem half_disjoint : Disjoint (half 0) (half 1) := by rw [← halves]; exact Finset.disjoint_sdiff

theorem half_union : half 0 ∪ half 1 = Finset.univ := by rw [← halves]; exact Finset.union_sdiff_of_subset (Finset.subset_univ _)

/-- A two-buffer scratch, the array's share and the two semaphores, seen as its two halves. -/
theorem homes7 (q : PosShare TreeShare) (a b : DmaSem sig) :
    (iprop((∃ f : S2x200x128.Idx → Elt F .f32, (lV).view.loc (thr L d) ↦{fullShare} f) ∗ ((ltV).view.loc (thr L d) ↦{q} lt) ∗ semVal (thr L d, .dma a) 0 ∗ semVal (thr L d, .dma b) 0) : sProp 𝕄)
      ⊢ iprop(Home7 (F := F) L d lt 0 q.left a ∗ Home7 (F := F) L d lt 1 q.right b) := by
  unfold Home7
  iintro ⟨⟨%f, H⟩, Hs, Ha, Hb⟩
  ihave H := (pointsTo_split_subset (S := Finset.univ) (Finset.subset_univ (half 0))).1 $$ H
  icases H with ⟨H0, H1⟩
  ihave Hs := (pointsTo_share (PosShare.mem_left_op_right q)).1 $$ Hs
  icases Hs with ⟨Hs0, Hs1⟩
  rw [halves]
  isplitl [H0 Hs0 Ha]
  · iframe Hs0 Ha; iexists f; iexact H0
  · iframe Hs1 Hb; iexists f; iexact H1

/-- The two halves seen as the scratch, the array's share and the semaphores. -/
theorem whole7 (q : PosShare TreeShare) (a b : DmaSem sig) :
    iprop(Home7 (F := F) L d lt 0 q.left a ∗ Home7 (F := F) L d lt 1 q.right b)
      ⊢ (iprop((∃ f : S2x200x128.Idx → Elt F .f32, (lV).view.loc (thr L d) ↦{fullShare} f) ∗ ((ltV).view.loc (thr L d) ↦{q} lt) ∗ semVal (thr L d, .dma a) 0 ∗ semVal (thr L d, .dma b) 0) : sProp 𝕄) := by
  unfold Home7
  iintro ⟨⟨⟨%f, H0⟩, Hs0, Ha⟩, ⟨%g, H1⟩, Hs1, Hb⟩
  iframe Ha Hb
  isplitl [H0 H1]
  · iexists _
    rw [← half_union]
    iapply (pointsTo_join half_disjoint) $$ [H0 H1]
    iframe
  · iapply (pointsTo_share (PosShare.mem_left_op_right q)).2 $$ [Hs0 Hs1]
    iframe

/-- A two-buffer scratch, the array's share and the two semaphores, seen as its two halves. -/
theorem homes8 (q : PosShare TreeShare) (a b : DmaSem sig) :
    (iprop((∃ f : S2x200x128.Idx → Elt F .i32, (tV).view.loc (thr L d) ↦{fullShare} f) ∗ ((ttV).view.loc (thr L d) ↦{q} tt) ∗ semVal (thr L d, .dma a) 0 ∗ semVal (thr L d, .dma b) 0) : sProp 𝕄)
      ⊢ iprop(Home8 (F := F) L d tt 0 q.left a ∗ Home8 (F := F) L d tt 1 q.right b) := by
  unfold Home8
  iintro ⟨⟨%f, H⟩, Hs, Ha, Hb⟩
  ihave H := (pointsTo_split_subset (S := Finset.univ) (Finset.subset_univ (half 0))).1 $$ H
  icases H with ⟨H0, H1⟩
  ihave Hs := (pointsTo_share (PosShare.mem_left_op_right q)).1 $$ Hs
  icases Hs with ⟨Hs0, Hs1⟩
  rw [halves]
  isplitl [H0 Hs0 Ha]
  · iframe Hs0 Ha; iexists f; iexact H0
  · iframe Hs1 Hb; iexists f; iexact H1

/-- The two halves seen as the scratch, the array's share and the semaphores. -/
theorem whole8 (q : PosShare TreeShare) (a b : DmaSem sig) :
    iprop(Home8 (F := F) L d tt 0 q.left a ∗ Home8 (F := F) L d tt 1 q.right b)
      ⊢ (iprop((∃ f : S2x200x128.Idx → Elt F .i32, (tV).view.loc (thr L d) ↦{fullShare} f) ∗ ((ttV).view.loc (thr L d) ↦{q} tt) ∗ semVal (thr L d, .dma a) 0 ∗ semVal (thr L d, .dma b) 0) : sProp 𝕄) := by
  unfold Home8
  iintro ⟨⟨⟨%f, H0⟩, Hs0, Ha⟩, ⟨%g, H1⟩, Hs1, Hb⟩
  iframe Ha Hb
  isplitl [H0 H1]
  · iexists _
    rw [← half_union]
    iapply (pointsTo_join half_disjoint) $$ [H0 H1]
    iframe
  · iapply (pointsTo_share (PosShare.mem_left_op_right q)).2 $$ [Hs0 Hs1]
    iframe

/-- One tile's task: from shares of the arrays, its scratch and its two output blocks, it leaves in the blocks what its
    stripe's scan says. -/
theorem tile_run {q : PosShare TreeShare} {O : CellTallies nD τ sig (HIx 1)} {W : Waits sig (HIx 1)} :
    iprop(((((ltV).view.loc (thr L d) ↦{q} lt) ∗ ((ttV).view.loc (thr L d) ↦{q} tt) ∗ ((pnV).view.loc (thr L d) ↦{q} pen)
        ∗ (∃ f, (ovV).view.loc (thr L d) ↦[blk (wOf L)]{fullShare} f) ∗ (∃ f, (oiV).view.loc (thr L d) ↦[blk (wOf L)]{fullShare} f))
      ∗ ((∃ f, (lV).view.loc (thr L d) ↦{fullShare} f) ∗ (∃ f, (tV).view.loc (thr L d) ↦{fullShare} f) ∗ (∃ f, (pV).view.loc (thr L d) ↦{fullShare} f)
        ∗ (∃ f, (rvV).view.loc (thr L d) ↦{fullShare} f) ∗ (∃ f, (riV).view.loc (thr L d) ↦{fullShare} f))
      ∗ (semVal (thr L d, .dma cc0_scratch5.sem) 0 ∗ semVal (thr L d, .dma cc0_scratch6.sem) 0 ∗ semVal (thr L d, .dma cc0_scratch7.sem) 0 ∗ semVal (thr L d, .dma cc0_scratch8.sem) 0 ∗ semVal (thr L d, .dma cc0_scoped0.sem) 0 ∗ semVal (thr L d, .dma cc0_scoped1.sem) 0 ∗ semVal (thr L d, .dma cc0_scoped2.sem) 0)
      ∗ Ow L d O W) ∗ MayWaits (thr L d) (none : HIx 1) O)
      ⊢ wp frame (wpE (defs₀ (F := F)) 𝒱₀ (thr L d) none) Set.univ (cc0__sc_scan (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2)
        (fun _ => iprop((((ltV).view.loc (thr L d) ↦{q} lt) ∗ ((ttV).view.loc (thr L d) ↦{q} tt) ∗ ((pnV).view.loc (thr L d) ↦{q} pen)
        ∗ ((ovV).view.loc (thr L d) ↦[blk (wOf L)]{fullShare} (outV lt tt pen : S4096.Idx → F .f32)) ∗ ((oiV).view.loc (thr L d) ↦[blk (wOf L)]{fullShare} (outI lt tt pen : S4096.Idx → BitVec 32)))
      ∗ ((∃ f, (lV).view.loc (thr L d) ↦{fullShare} f) ∗ (∃ f, (tV).view.loc (thr L d) ↦{fullShare} f) ∗ (∃ f, (pV).view.loc (thr L d) ↦{fullShare} f)
        ∗ (∃ f, (rvV).view.loc (thr L d) ↦{fullShare} f) ∗ (∃ f, (riV).view.loc (thr L d) ↦{fullShare} f))
      ∗ (semVal (thr L d, .dma cc0_scratch5.sem) 0 ∗ semVal (thr L d, .dma cc0_scratch6.sem) 0 ∗ semVal (thr L d, .dma cc0_scratch7.sem) 0 ∗ semVal (thr L d, .dma cc0_scratch8.sem) 0 ∗ semVal (thr L d, .dma cc0_scoped0.sem) 0 ∗ semVal (thr L d, .dma cc0_scoped1.sem) 0 ∗ semVal (thr L d, .dma cc0_scoped2.sem) 0)
      ∗ Ow L d O W)) := by
  iintro ⟨⟨⟨Hlt, Htt, Hpn, Hov, Hoi⟩, ⟨Hl, Ht, Hp, ⟨%fv, Hrv⟩, ⟨%fi, Hri⟩⟩, ⟨S5, S6, S7, S8, C0, C1, C2⟩, HO⟩, #Hm⟩
  rw [cc0__sc_scan_eq_skeleton]; unfold cc0__sc_scan_skel
  iapply wp_part20 $$ [Hpn Hp C0 HO]
  · iframe Hpn Hp C0 HO Hm
  iintro ⟨HP, HO⟩
  dsimp only
  ihave H7 := (homes7 q cc0_scratch5.sem cc0_scratch6.sem) $$ [Hl Hlt S5 S6]
  · iframe
  icases H7 with ⟨H70, H71⟩
  ihave H8 := (homes8 q cc0_scratch7.sem cc0_scratch8.sem) $$ [Ht Htt S7 S8]
  · iframe
  icases H8 with ⟨H80, H81⟩
  iapply (wp_part21 (w22 L)) $$ [HP H70 H80]
  · iframe
  iintro ⟨HP, HN⟩
  dsimp only
  rw [part22_eq]
  simp only [Prog.pure_eq_ret, Prog.bind_ret]
  rw [part23_eq]
  simp only [Prog.pure_eq_ret, Prog.bind_ret]
  ihave HV := (show _ ⊢ DoneV L d (fun col => (laneOut lt tt pen (offL L) col).1) (16 * 0) by
    unfold DoneV; iintro H; iexists fv; iframe H; ipureintro; exact fun x h => absurd h (Nat.not_lt_zero _)) $$ Hrv
  ihave HI := (show _ ⊢ DoneI L d (fun col => (laneOut lt tt pen (offL L) col).2) (16 * 0) by
    unfold DoneI; iintro H; iexists fi; iframe H; ipureintro; exact fun x h => absurd h (Nat.not_lt_zero _)) $$ Hri
  iapply (wp_part24 (w22 L) (w22_eq L)) $$ [HN H71 H81 HO HV HI]
  · iframe HN H71 H81 HO HV HI Hm
  iintro ⟨⟨H70, H80⟩, ⟨H71, H81⟩, HO, HV, HI⟩
  dsimp only
  iapply wp_part25 $$ [HV HI]
  · iframe
  iintro ⟨HV, HI⟩
  dsimp only
  iapply wp_part26 $$ [HV HI]
  · iframe
  iintro ⟨HV, HI⟩
  dsimp only
  iapply wp_part27 $$ [HV HI]
  · iframe
  iintro ⟨HV, HI⟩
  dsimp only
  simp only [Prog.lift, Prog.bind_op, Prog.bind_ret, Prog.pure_eq_ret, Prog.bind_assoc]
  iapply (wp_peekV (L := L) (d := d) (G := (fun col => (laneOut lt tt pen (offL L) col).1)) (n := 16 * 7) (o := ![112]) inb_S128_S16_112) $$ HV
  iintro %_ HV
  iapply (wp_putV (L := L) (d := d) (G := (fun col => (laneOut lt tt pen (offL L) col).1)) (g := 7) (o := ![112]) rfl inb_S128_S16_112 rfl) $$ HV
  iintro HV
  iapply (wp_peekI (L := L) (d := d) (G := (fun col => (laneOut lt tt pen (offL L) col).2)) (n := 16 * 7) (o := ![112]) inb_S128_S16_112) $$ HI
  iintro %_ HI
  iapply (wp_putI (L := L) (d := d) (G := (fun col => (laneOut lt tt pen (offL L) col).2)) (g := 7) (o := ![112]) rfl inb_S128_S16_112 rfl) $$ HI
  iintro HI
  iapply wp_copyV $$ [HV Hov C1 HO]
  · iframe HV Hov C1 HO Hm
  iintro ⟨Hrv, Hov, C1, HO⟩
  iapply wp_copyI $$ [HI Hoi C2 HO]
  · iframe HI Hoi C2 HO Hm
  iintro ⟨Hri, Hoi, C2, HO⟩
  ihave H7 := (whole7 q cc0_scratch5.sem cc0_scratch6.sem) $$ [H70 H71]
  · iframe
  icases H7 with ⟨Hl, Hlt, S5, S6⟩
  ihave H8 := (whole8 q cc0_scratch7.sem cc0_scratch8.sem) $$ [H80 H81]
  · iframe
  icases H8 with ⟨Ht, Htt, S7, S8⟩
  unfold Pens
  icases HP with ⟨Hpn, Hp, C0⟩
  iapply (le_wp_ret _ _ _ _ _)
  iframe
  iexists pen; iexact Hp

end Cert.Proof.Scan

end
-- ==== Proof.ScanTask.lean ====
/-
  One tile's double-buffered stripe: the chunks' fetches and waits, and the outer loop's parts.
-/
module

public import proofs.«01_k».proof.Proof.ScanRun

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

local notation "pnV" => (Memref.whole Cert.KernelIdeal.main_v3_scv : Memref Cert.KernelIdeal.sig Kind.scVector Space.hbm Cert.KernelIdeal.S128 EltTy.f32)
local notation "ovV" => (Memref.whole Cert.KernelIdeal.main_v5_0_scv : Memref Cert.KernelIdeal.sig Kind.scVector Space.hbm Cert.KernelIdeal.S4096 EltTy.f32)
local notation "oiV" => (Memref.whole Cert.KernelIdeal.main_v5_1_scv : Memref Cert.KernelIdeal.sig Kind.scVector Space.hbm Cert.KernelIdeal.S4096 EltTy.i32)
local notation "pV" => (Memref.whole Cert.KernelIdeal.cc0_scratch2 : Memref Cert.KernelIdeal.sig Kind.scVector Space.vmem Cert.KernelIdeal.S128 EltTy.f32)
local notation "rvV" => (Memref.whole Cert.KernelIdeal.cc0_scratch3 : Memref Cert.KernelIdeal.sig Kind.scVector Space.vmem Cert.KernelIdeal.S128 EltTy.f32)
local notation "riV" => (Memref.whole Cert.KernelIdeal.cc0_scratch4 : Memref Cert.KernelIdeal.sig Kind.scVector Space.vmem Cert.KernelIdeal.S128 EltTy.i32)

variable {L : grid0.Coords} {d : Dev nD}
variable {lt : S100000x128.Idx → F .f32} {tt : S100000x128.Idx → BitVec 32} {pen : S128.Idx → F .f32}

set_option maxRecDepth 65536

omit [FloatOps F] [Named F] in
/-- Some distinct members of a separating product taken out, one after another. -/
theorem bigSep_picks {γ : Type} [DecidableEq γ] (Φ : γ → sProp 𝕄) : ∀ (l : List γ) (S : Finset γ), l.Nodup → (∀ x ∈ l, x ∈ S) →
    bigSep S Φ = l.foldr (fun x R => iprop(Φ x ∗ R)) (bigSep (S \ l.toFinset) Φ)
  | [], S, _, _ => by rw [List.toFinset_nil, Finset.sdiff_empty]; rfl
  | x :: l, S, hn, hs => by
    have hn' := List.nodup_cons.mp hn
    rw [SparseCore.bigSep_erase' (hs x (List.mem_cons_self ..)), bigSep_picks Φ l (S.erase x) hn'.2
      (fun y hy => Finset.mem_erase.mpr ⟨fun e => hn'.1 (e ▸ hy), hs y (List.mem_cons_of_mem _ hy)⟩)]
    rw [List.foldr_cons, show S.erase x \ l.toFinset = S \ (x :: l).toFinset by ext y; simp only [List.toFinset_cons, Finset.mem_sdiff, Finset.mem_erase, Finset.mem_insert]; tauto]

/-- The semaphores a tile's task uses. -/
def tileSems (L : grid0.Coords) (d : Dev nD) : List (GSem nD τ sig) := ([.dma cc0_scratch5.sem, .dma cc0_scratch6.sem, .dma cc0_scratch7.sem, .dma cc0_scratch8.sem, .dma cc0_scoped0.sem, .dma cc0_scoped1.sem, .dma cc0_scoped2.sem] : List (SemLoc sig)).map fun s => (thr L d, s)
/-- The buffers a tile's task uses. -/
def tileRefs (L : grid0.Coords) : List (DevRef τ sig) := ([cc0_scratch0, cc0_scratch1, cc0_scratch2, cc0_scratch3, cc0_scratch4] : List (Ref sig .scVector)).map (Proc.scVector (cV L) (jV L)).devRef

theorem tileSems_ok : ∀ s ∈ ([.dma cc0_scratch5.sem, .dma cc0_scratch6.sem, .dma cc0_scratch7.sem, .dma cc0_scratch8.sem, .dma cc0_scoped0.sem, .dma cc0_scoped1.sem, .dma cc0_scoped2.sem] : List (SemLoc sig)), s.isScoped .scVector = true := by decide

omit [FloatOps F] [Named F] in
/-- The task's semaphores out of the tile's. -/
theorem ownSems0_V : (ownSems0 (V d (cV L) (jV L)) : sProp 𝕄)
    = iprop(semVal (thr L d, .dma cc0_scratch5.sem) 0 ∗ semVal (thr L d, .dma cc0_scratch6.sem) 0 ∗ semVal (thr L d, .dma cc0_scratch7.sem) 0 ∗ semVal (thr L d, .dma cc0_scratch8.sem) 0 ∗ semVal (thr L d, .dma cc0_scoped0.sem) 0 ∗ semVal (thr L d, .dma cc0_scoped1.sem) 0 ∗ semVal (thr L d, .dma cc0_scoped2.sem) 0 ∗ bigSep (ownCells (V d (cV L) (jV L)) \ (tileSems L d).toFinset) fun g => semVal g 0) := by
  unfold SparseCore.Cfg.ownSems0
  rw [bigSep_picks _ (tileSems L d) _ (List.Nodup.map (fun a b e => (Prod.mk.inj e).2) (by decide))
    (fun x hx => by obtain ⟨s, hs, rfl⟩ := List.mem_map.mp hx; exact mem_ownCells.mpr ⟨rfl, tileSems_ok s hs⟩)]
  rfl

omit [FloatOps F] [Named F] in
/-- The task's buffers out of the tile's. -/
theorem ownBufs_V : (ownBufs (V d (cV L) (jV L)) : sProp 𝕄)
    = iprop((∃ f, (lV).view.loc (thr L d) ↦{fullShare} f) ∗ (∃ f, (tV).view.loc (thr L d) ↦{fullShare} f) ∗ (∃ f, (pV).view.loc (thr L d) ↦{fullShare} f)
        ∗ (∃ f, (rvV).view.loc (thr L d) ↦{fullShare} f) ∗ (∃ f, (riV).view.loc (thr L d) ↦{fullShare} f)
        ∗ bigSep (ownRefs (τ := τ) (.scVector (cV L) (jV L)) \ (tileRefs L).toFinset) fun b => iprop(∃ f, ((d, b) : Loc nD τ sig) ↦{fullShare} f)) := by
  unfold SparseCore.Cfg.ownBufs
  rw [bigSep_picks _ (tileRefs L) _ (List.Nodup.map (Proc.devRef_injective _) (show ([cc0_scratch0, cc0_scratch1, cc0_scratch2, cc0_scratch3, cc0_scratch4] : List (Ref sig .scVector)).Nodup by decide)) ?_]
  · rfl
  · intro x hx
    obtain ⟨s, hs, rfl⟩ := List.mem_map.mp hx
    simp only [List.mem_cons, List.not_mem_nil, _root_.or_false] at hs
    refine SparseCore.Cfg.mem_ownRefs_of_owner (p := Proc.scVector (cV L) (jV L)) ?_
    rcases hs with rfl | rfl | rfl | rfl | rfl <;> rfl

abbrev ltLoc (d : Dev nD) : Loc nD τ sig := (SparseCore.T d).loc main_v1
abbrev ttLoc (d : Dev nD) : Loc nD τ sig := (SparseCore.T d).loc main_v2
abbrev pnLoc (d : Dev nD) : Loc nD τ sig := (SparseCore.T d).loc main_v3
abbrev ovLoc (d : Dev nD) : Loc nD τ sig := (SparseCore.T d).loc main_v5_0
abbrev oiLoc (d : Dev nD) : Loc nD τ sig := (SparseCore.T d).loc main_v5_1

section
variable (lt : S100000x128.Idx → F .f32) (tt : S100000x128.Idx → BitVec 32) (pen : S128.Idx → F .f32)

/-- What tile `w` is given: read shares of the three arrays and its blocks of the two outputs. -/
def goR (d : Dev nD) (w : ℕ) : sProp 𝕄 :=
  iprop((ltLoc d ↦{Transfers.shareTokN fullShare w} lt) ∗ (ttLoc d ↦{Transfers.shareTokN fullShare w} tt) ∗ (pnLoc d ↦{Transfers.shareTokN fullShare w} pen)
    ∗ (∃ f, ovLoc d ↦[blk w]{fullShare} f) ∗ (∃ f, oiLoc d ↦[blk w]{fullShare} f))
/-- What it gives back: the shares, and its blocks holding its stripe's results. -/
def tdR (d : Dev nD) (w : ℕ) : sProp 𝕄 :=
  iprop((ltLoc d ↦{Transfers.shareTokN fullShare w} lt) ∗ (ttLoc d ↦{Transfers.shareTokN fullShare w} tt) ∗ (pnLoc d ↦{Transfers.shareTokN fullShare w} pen)
    ∗ (ovLoc d ↦[blk w]{fullShare} (outV lt tt pen : S4096.Idx → F .f32)) ∗ (oiLoc d ↦[blk w]{fullShare} (outI lt tt pen : S4096.Idx → BitVec 32)))

instance goR_storable (d : Dev nD) (w : ℕ) : BI.Storable (upEmb : UEmb _ 𝕄) (goR lt tt pen d w) := by unfold goR; infer_instance
instance tdR_storable (d : Dev nD) (w : ℕ) : BI.Storable (upEmb : UEmb _ 𝕄) (tdR lt tt pen d w) := by unfold tdR; infer_instance
end

/-- The task of tile `L`, from what the launch gives it to what it gives back. -/
theorem tile_body (hF : (K (F := F)).Facts) (O : CellTallies nD τ sig (HIx 1)) (W : Waits sig (HIx 1)) (hO : ∀ g, O g none = 0) :
    iprop(levAts (K (F := F)).L (K (F := F)).lev ∗ emp ∗ goR lt tt pen d (wOf L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_scan (F := F) L ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2)
          fun _ => iprop(tdR lt tt pen d (wOf L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goR tdR
  iintro ⟨#Hlv, -, Hgo, ⟨B0, B1, B2, B3, B4, Hbufs⟩, ⟨S0, S1, S2, S3, S4, S5, S6, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  have hR := tile_run (F := F) (L := L) (d := d) (lt := lt) (tt := tt) (pen := pen) (q := Transfers.shareTokN fullShare (wOf L)) (O := O) (W := W)
  unfold Ow at hR
  iapply (wp_wand_r frame _ _) $$ [Hgo B0 B1 B2 B3 B4 S0 S1 S2 S3 S4 S5 S6 HO Hbufs Hsems]
  isplitl [Hgo B0 B1 B2 B3 B4 S0 S1 S2 S3 S4 S5 S6 HO]
  · iapply hR
    isplitl [Hgo B0 B1 B2 B3 B4 S0 S1 S2 S3 S4 S5 S6 HO]
    · isplitl [Hgo]; · iexact Hgo
      isplitl [B0 B1 B2 B3 B4]
      · iframe
      isplitl [S0 S1 S2 S3 S4 S5 S6]
      · iframe
      iexists W; iframe HO; ipureintro; exact fun p hp => .inl hp
    · iexact Hmw
  iintro %_ ⟨Hgo, ⟨B0, B1, B2, B3, B4⟩, ⟨S0, S1, S2, S3, S4, S5, S6⟩, HO⟩
  isplitl [Hgo]; · iexact Hgo
  isplitl [B0 B1 B2 B3 B4 Hbufs]
  · iframe
  isplitl [S0 S1 S2 S3 S4 S5 S6 Hsems]
  · iframe
  iexact HO

end Cert.Proof.Scan

end
-- ==== Proof.ScanDeal.lean ====
/-
  One tile's double-buffered stripe: the chunks' fetches and waits, and the outer loop's parts.
-/
module

public import proofs.«01_k».proof.Proof.ScanTask

@[expose] public section

noncomputable section

namespace Cert.Proof.Scan

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (Flight wp_dmaLocal wp_waitLocalO MayWaits Flight_mono)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "lV" => (Memref.whole Cert.KernelIdeal.cc0_scratch0 : Memref Cert.KernelIdeal.sig Kind.scVector Space.vmem Cert.KernelIdeal.S2x200x128 EltTy.f32)
local notation "tV" => (Memref.whole Cert.KernelIdeal.cc0_scratch1 : Memref Cert.KernelIdeal.sig Kind.scVector Space.vmem Cert.KernelIdeal.S2x200x128 EltTy.i32)
local notation "ltV" => (Memref.whole Cert.KernelIdeal.main_v1_scv : Memref Cert.KernelIdeal.sig Kind.scVector Space.hbm Cert.KernelIdeal.S100000x128 EltTy.f32)
local notation "ttV" => (Memref.whole Cert.KernelIdeal.main_v2_scv : Memref Cert.KernelIdeal.sig Kind.scVector Space.hbm Cert.KernelIdeal.S100000x128 EltTy.i32)

local notation "pnV" => (Memref.whole Cert.KernelIdeal.main_v3_scv : Memref Cert.KernelIdeal.sig Kind.scVector Space.hbm Cert.KernelIdeal.S128 EltTy.f32)
local notation "ovV" => (Memref.whole Cert.KernelIdeal.main_v5_0_scv : Memref Cert.KernelIdeal.sig Kind.scVector Space.hbm Cert.KernelIdeal.S4096 EltTy.f32)
local notation "oiV" => (Memref.whole Cert.KernelIdeal.main_v5_1_scv : Memref Cert.KernelIdeal.sig Kind.scVector Space.hbm Cert.KernelIdeal.S4096 EltTy.i32)
local notation "pV" => (Memref.whole Cert.KernelIdeal.cc0_scratch2 : Memref Cert.KernelIdeal.sig Kind.scVector Space.vmem Cert.KernelIdeal.S128 EltTy.f32)
local notation "rvV" => (Memref.whole Cert.KernelIdeal.cc0_scratch3 : Memref Cert.KernelIdeal.sig Kind.scVector Space.vmem Cert.KernelIdeal.S128 EltTy.f32)
local notation "riV" => (Memref.whole Cert.KernelIdeal.cc0_scratch4 : Memref Cert.KernelIdeal.sig Kind.scVector Space.vmem Cert.KernelIdeal.S128 EltTy.i32)

variable {L : grid0.Coords} {d : Dev nD}
variable {lt : S100000x128.Idx → F .f32} {tt : S100000x128.Idx → BitVec 32} {pen : S128.Idx → F .f32}

set_option maxRecDepth 65536

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_scan (F := F) (coordsV c s) ltV (Memref.isWhole_whole _) ttV (Memref.isWhole_whole _) pnV (Memref.isWhole_whole _) ovV (Memref.isWhole_whole _) oiV (Memref.isWhole_whole _) lV (Memref.isWhole_whole _) tV (Memref.isWhole_whole _) pV (Memref.isWhole_whole _) rvV (Memref.isWhole_whole _) riV (Memref.isWhole_whole _) cc0_scratch5 cc0_scratch6 cc0_scratch7 cc0_scratch8 cc0_scoped0 cc0_scoped1 cc0_scoped2) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; iframe HO
  ipureintro; exact fun p hp => (hW' p hp).imp_right Or.inl

section
variable (lt : Dev nD → S100000x128.Idx → F .f32) (tt : Dev nD → S100000x128.Idx → BitVec 32) (pen : Dev nD → S128.Idx → F .f32)

/-- What the one SparseCore call carries: each task its read shares and output blocks, and back with the results. -/
def P : (K (F := F)).Pay (nD := nD) (Val := Elt F) (Name := ℕ) (U := UU) where
  st := fun q d c => match q with | 0 => bigSep Finset.univ fun i : Fin ((K (F := F)).nSub 0) => goR (lt d) (tt d) (pen d) d (2 * i.val + c.val)
  dn := fun q d c => match q with | 0 => bigSep Finset.univ fun i : Fin ((K (F := F)).nSub 0) => tdR (lt d) (tt d) (pen d) d (2 * i.val + c.val)
  go := fun q d c i => match q with | 0 => goR (lt d) (tt d) (pen d) d (2 * i.val + c.val)
  td := fun q d c i => match q with | 0 => tdR (lt d) (tt d) (pen d) d (2 * i.val + c.val)
  x := fun _ _ => iprop(emp)

instance P_storable : (P lt tt pen).IsStorable where
  st q d c := match q with
    | 0 => (inferInstance : BI.Storable (upEmb : UEmb _ 𝕄) (bigSep Finset.univ fun i : Fin ((K (F := F)).nSub 0) => goR (lt d) (tt d) (pen d) d (2 * i.val + c.val)))
  dn q d c := match q with
    | 0 => (inferInstance : BI.Storable (upEmb : UEmb _ 𝕄) (bigSep Finset.univ fun i : Fin ((K (F := F)).nSub 0) => tdR (lt d) (tt d) (pen d) d (2 * i.val + c.val)))
  go q d c i := match q with
    | 0 => (inferInstance : BI.Storable (upEmb : UEmb _ 𝕄) (goR (lt d) (tt d) (pen d) d (2 * i.val + c.val)))
  td q d c i := match q with
    | 0 => (inferInstance : BI.Storable (upEmb : UEmb _ 𝕄) (tdR (lt d) (tt d) (pen d) d (2 * i.val + c.val)))

theorem tileObl (hF : (K (F := F)).Facts) : (K (F := F)).TileObl (D (F := F)) 𝒱 (P lt tt pen) v₀ 0 := by
  intro d c i O W hO _ _
  simp only [show (P lt tt pen).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (L := coordsV ⟨_, hci.1⟩ ⟨_, hci.2⟩) (d := d) (lt := lt d) (tt := tt d) (pen := pen d) hF O W hO).trans (wp_mono frame _ _ fun _ => obl_post)

theorem vecSplit : (K (F := F)).VecSplit' (P lt tt pen) 0 := by
  intro d c
  show (bigSep Finset.univ fun i : Fin ((K (F := F)).nSub 0) => goR (lt d) (tt d) (pen d) d (2 * i.val + c.val)) ⊢ |={Set.univ}=> iprop(
    (bigSep Finset.univ fun i : Fin ((K (F := F)).nSub 0) => goR (lt d) (tt d) (pen d) d (2 * i.val + c.val))
    ∗ ((bigSep Finset.univ fun i : Fin ((K (F := F)).nSub 0) => tdR (lt d) (tt d) (pen d) d (2 * i.val + c.val))
        -∗ bigSep Finset.univ fun i : Fin ((K (F := F)).nSub 0) => tdR (lt d) (tt d) (pen d) d (2 * i.val + c.val)))
  iintro H; imodintro
  isplitl [H]; · iexact H
  iintro H; iexact H

end

omit [FloatOps F] [Named F] in
theorem blk_disjoint : ∀ i ∈ (Finset.univ : Finset (Fin 32)), ∀ j ∈ (Finset.univ : Finset (Fin 32)), i ≠ j → Disjoint (blk i.val) (blk j.val) := by
  intro i _ j _ h
  refine Finset.disjoint_left.mpr fun x hi hj => h (Fin.ext ?_)
  exact (Finset.mem_filter.mp hi).2.symm.trans (Finset.mem_filter.mp hj).2

omit [FloatOps F] [Named F] in
theorem blk_cover : (Finset.univ : Finset (Fin 32)).biUnion (fun i => blk i.val) = Finset.univ := by
  refine Finset.eq_univ_iff_forall.mpr fun x => Finset.mem_biUnion.mpr ?_
  have hx : (x 0).val < 4096 := (x 0).isLt
  exact ⟨⟨(x 0).val / 128, by omega⟩, Finset.mem_univ _, Finset.mem_filter.mpr ⟨Finset.mem_univ _, rfl⟩⟩

omit [FloatOps F] [Named F] in
/-- A product over the tiles, core by core, is one over their numbers. -/
theorem bigSep_tiles (Φ : ℕ → sProp 𝕄) :
    (bigSep Finset.univ fun c : Fin 2 => bigSep Finset.univ fun i : Fin 16 => Φ (2 * i.val + c.val)) = bigSep Finset.univ fun w : Fin 32 => Φ w.val := by
  rw [bigSep_univ_comm, ← bigSep_univ_prod (fun p : Fin 16 × Fin 2 => Φ (2 * p.1.val + p.2.val)), bigSep_univ_equiv (finProdFinEquiv : Fin 16 × Fin 2 ≃ Fin 32)]
  refine bigSep_congr fun p _ => congrArg Φ ?_
  show _ = p.2.val + 2 * p.1.val
  omega

omit [FloatOps F] [Named F] in
theorem blocks_out {ℓ : Loc nD τ sig} (B : ℕ → Finset (Idx ℓ))
    (hd : ∀ i ∈ (Finset.univ : Finset (Fin 32)), ∀ j ∈ (Finset.univ : Finset (Fin 32)), i ≠ j → Disjoint (B i.val) (B j.val))
    (hc : (Finset.univ : Finset (Fin 32)).biUnion (fun i => B i.val) = Finset.univ) (f : Buf (Elt F) ℓ) :
    (ℓ ↦{fullShare} f : sProp 𝕄) = bigSep Finset.univ fun w : Fin 32 => ℓ ↦[B w.val]{fullShare} f := by
  rw [← pointsTo_biUnion Finset.univ (ℓ := ℓ) (fun i : Fin 32 => B i.val) hd, hc]

/-- The arrays and outputs dealt to the 32 tiles; what remains of the arrays' shares is kept. -/
theorem deal : iprop((ltLoc d ↦{fullShare} lt) ∗ (ttLoc d ↦{fullShare} tt) ∗ (pnLoc d ↦{fullShare} pen) ∗ (∃ f, ovLoc d ↦{fullShare} f) ∗ (∃ f, oiLoc d ↦{fullShare} f))
    ⊢ (iprop(((ltLoc d ↦{Transfers.shareDrop fullShare 32} lt) ∗ (ttLoc d ↦{Transfers.shareDrop fullShare 32} tt) ∗ (pnLoc d ↦{Transfers.shareDrop fullShare 32} pen))
      ∗ bigSep Finset.univ fun c : Fin 2 => bigSep Finset.univ fun i : Fin 16 => goR lt tt pen d (2 * i.val + c.val)) : sProp 𝕄) := by
  rw [bigSep_tiles]
  unfold goR
  rw [bigSep_sep', bigSep_sep', bigSep_sep', bigSep_sep']
  iintro ⟨Hl, Ht, Hp, ⟨%f, Hv⟩, ⟨%g, Hi⟩⟩
  ihave Hl := (Transfers.pointsTo_toks_split fullShare 32) $$ Hl
  icases Hl with ⟨Hl, Hls⟩
  ihave Ht := (Transfers.pointsTo_toks_split fullShare 32) $$ Ht
  icases Ht with ⟨Ht, Hts⟩
  ihave Hp := (Transfers.pointsTo_toks_split fullShare 32) $$ Hp
  icases Hp with ⟨Hp, Hps⟩
  ihave Hv := (Entails.of_eq (blocks_out (ℓ := ovLoc d) blk blk_disjoint blk_cover f)) $$ Hv
  ihave Hi := (Entails.of_eq (blocks_out (ℓ := oiLoc d) blk blk_disjoint blk_cover g)) $$ Hi
  iframe Hl Ht Hp Hls Hts Hps
  isplitl [Hv]
  · iapply (show (bigSep Finset.univ fun w : Fin 32 => (ovLoc d ↦[blk w.val]{fullShare} f : sProp 𝕄)) ⊢ bigSep Finset.univ fun w : Fin 32 => iprop(∃ f, ovLoc d ↦[blk w.val]{fullShare} f) from bigSep_mono fun w _ => sProp.exists_intro f) $$ Hv
  · iapply (show (bigSep Finset.univ fun w : Fin 32 => (oiLoc d ↦[blk w.val]{fullShare} g : sProp 𝕄)) ⊢ bigSep Finset.univ fun w : Fin 32 => iprop(∃ f, oiLoc d ↦[blk w.val]{fullShare} f) from bigSep_mono fun w _ => sProp.exists_intro g) $$ Hi

/-- What the tiles give back, with the kept shares: the arrays whole and the outputs holding every stripe's results. -/
theorem gather : iprop(((ltLoc d ↦{Transfers.shareDrop fullShare 32} lt) ∗ (ttLoc d ↦{Transfers.shareDrop fullShare 32} tt) ∗ (pnLoc d ↦{Transfers.shareDrop fullShare 32} pen))
      ∗ bigSep Finset.univ fun c : Fin 2 => bigSep Finset.univ fun i : Fin 16 => tdR lt tt pen d (2 * i.val + c.val))
    ⊢ (iprop((ltLoc d ↦{fullShare} lt) ∗ (ttLoc d ↦{fullShare} tt) ∗ (pnLoc d ↦{fullShare} pen)
      ∗ (ovLoc d ↦{fullShare} (outV lt tt pen : S4096.Idx → F .f32)) ∗ (oiLoc d ↦{fullShare} (outI lt tt pen : S4096.Idx → BitVec 32))) : sProp 𝕄) := by
  rw [bigSep_tiles]
  unfold tdR
  rw [bigSep_sep', bigSep_sep', bigSep_sep', bigSep_sep']
  iintro ⟨⟨Hl, Ht, Hp⟩, Hls, Hts, Hps, Hv, Hi⟩
  isplitl [Hl Hls]
  · iapply (Transfers.pointsTo_toks_join fullShare 32); iframe
  isplitl [Ht Hts]
  · iapply (Transfers.pointsTo_toks_join fullShare 32); iframe
  isplitl [Hp Hps]
  · iapply (Transfers.pointsTo_toks_join fullShare 32); iframe
  isplitl [Hv]
  · iapply (Entails.of_eq (blocks_out (ℓ := ovLoc d) blk blk_disjoint blk_cover _).symm) $$ Hv
  · iapply (Entails.of_eq (blocks_out (ℓ := oiLoc d) blk blk_disjoint blk_cover _).symm) $$ Hi

end Cert.Proof.Scan

end
-- ==== Proof.BlockSpec.lean ====
/-
  The TensorCore call's block step: what the kernel does with one block of 8000 rows, as a function of the block and of the kept pair of
  8 × 128 vectors, and its run on any staging buffers.
-/
module

public import proofs.«01_k».proof.Proof.ScanDeal

@[expose] public section

noncomputable section

namespace Cert.Proof.Scan

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## Values -/

/-- Block `t`'s 8000 rows of the vocabulary-major logits. -/
def blkL (lt : S100000x128.Idx → F .f32) (t : ℕ) : Vec F S8000x128 .f32 := fun x => lt (ix2 (8000 * t + (x 0).val) (x 1).val)

/-- Block `t`'s 8000 rows of the vocabulary-major counts. -/
def blkT (tt : S100000x128.Idx → BitVec 32) (t : ℕ) : Vec F S8000x128 .i32 := fun x => tt (ix2 (8000 * t + (x 0).val) (x 1).val)

/-- The grid's coordinates at step `n`. -/
def coordsN (n : ℕ) : grid1.Coords := fun _ => ⟨n % 8, by rename_i a; fin_cases a; exact Nat.mod_lt _ (by decide)⟩

/-- The pair kept after a block: the block's own at the first step, afterwards the block's where strictly greater. -/
def blkStep (i : grid1.Coords) (p : Vec F S1x128 .f32) (l : Vec F S8000x128 .f32) (t : Vec F S8000x128 .i32)
    (s : Vec F S8x128 .f32 × Vec F S8x128 .i32) : Vec F S8x128 .f32 × Vec F S8x128 .i32 :=
  if (i 0).val = 0 then (k1_pay6 p l t, k1_pay7 i p l t) else (k1_pay9 p l t s.1, k1_pay10 i p l t s.1 s.2)

/-- The pair kept after `n + 1` blocks. -/
def blkAcc (lt : S100000x128.Idx → F .f32) (tt : S100000x128.Idx → BitVec 32) (p : Vec F S1x128 .f32) : ℕ → Vec F S8x128 .f32 × Vec F S8x128 .i32
  | 0 => (k1_pay6 p (blkL lt 0) (blkT tt 0), k1_pay7 (coordsN 0) p (blkL lt 0) (blkT tt 0))
  | n + 1 => blkStep (coordsN (n + 1)) p (blkL lt (n + 1)) (blkT tt (n + 1)) (blkAcc lt tt p n)

/-! ## A whole buffer's load and store -/

theorem zero2 : (![0, 0] : Fin 2 → Nat) = fun _ => 0 := funext fun a => by fin_cases a <;> rfl

section Access

/-- A load of a whole staging buffer reads what it is known to hold. -/
theorem wp_loadAll (d : Dev nD) {S : Shape} {e : EltTy} (M : Memref sig .tc .vmem S e) {off : Fin S.rank → Nat} (hz : off = fun _ => 0)
    (inb : ∀ a, off a + S.size a ≤ S.size a) (X : S.Idx → Elt F e) {hl} {α : Type} {Q : α → sProp 𝕄}
    (k : (S.Idx → Elt F e) → Prog (TpuEff nD τ sig (Elt F) Λ₀ .tc) α) :
    iprop(owns (d : Thread nD τ) M fullShare X ∗ (owns (d : Thread nD τ) M fullShare X -∗ wp frame (wpE (defs₀ (F := F)) 𝒱₀ (d : Thread nD τ) none) Set.univ (k X) Q))
      ⊢ wp frame (wpE (defs₀ (F := F)) 𝒱₀ (d : Thread nD τ) none) Set.univ (.op (.load M (Rect.unit (s := S) off S.size inb).toLoadRect hl) k) Q := by
  unfold owns
  iintro ⟨⟨%f, %hf, H⟩, Hk⟩
  iapply (wp_load_rect 𝒱₀ (d : Thread nD τ) none Set.univ (m := M) (r := Rect.unit (s := S) off S.size inb) (View.set_slice_subset _ _)) $$ H
  iintro H
  have e : (M.access (Rect.unit (s := S) off S.size inb)).read (Elt F) f = X := by
    rw [← hf]; exact View.ld_unit_zero hz inb (M.view.read (Elt F) f)
  rw [e]
  iapply Hk
  iexists f
  isplitr
  · ipureintro; exact hf
  iexact H

/-- A store over a whole staging buffer leaves what is stored. -/
theorem wp_storeAll (d : Dev nD) {S : Shape} {e : EltTy} (M : Memref sig .tc .vmem S e) {off : Fin S.rank → Nat} (hz : off = fun _ => 0)
    (inb : ∀ a, off a + S.size a ≤ S.size a) (X w : S.Idx → Elt F e) {hx} {hm} {α : Type} {Q : α → sProp 𝕄}
    (k : PUnit → Prog (TpuEff nD τ sig (Elt F) Λ₀ .tc) α) :
    iprop(owns (d : Thread nD τ) M fullShare X ∗ (owns (d : Thread nD τ) M fullShare w -∗ wp frame (wpE (defs₀ (F := F)) 𝒱₀ (d : Thread nD τ) none) Set.univ (k ⟨⟩) Q))
      ⊢ wp frame (wpE (defs₀ (F := F)) 𝒱₀ (d : Thread nD τ) none) Set.univ (.op (.store M (Rect.unit (s := S) off S.size inb) w Finset.univ hx hm) k) Q := by
  unfold owns
  iintro ⟨⟨%f, %hf, H⟩, Hk⟩
  iapply (wp_store 𝒱₀ (d : Thread nD τ) none Set.univ (m := M) (r := Rect.unit (s := S) off S.size inb) (by
    rw [View.setOn_univ]; exact View.set_slice_subset _ _)) $$ H
  iintro H
  iapply Hk
  iexists ((M.access (Rect.unit (s := S) off S.size inb)).write (Elt F) f w Finset.univ)
  isplitr
  · ipureintro
    haveI : ∀ e, Nonempty (Elt F e) := fun e => ⟨by cases e <;> first | exact (0#_) | exact FloatOps.ofBits _ 0⟩
    have e := View.read_writes_eq_canon M.view f [(⟨Rect.unit (s := S) off S.size inb, w⟩ : View.Piece (Elt F) S e)] (fun y => ⟨_, List.mem_singleton_self _, by
      subst hz; show y ∈ (Rect.whole S).set; rw [Rect.set_whole]; exact Finset.mem_univ y⟩)
    rw [View.canon_unit_zero hz] at e
    exact e
  iexact H

end Access

end Cert.Proof.Scan

end
-- ==== Proof.BlockBody.lean ====
/-
  One step of the TensorCore call run on any staging buffers: the block, the counts and the penalties stay, the kept pair takes the block in, and
  at the last step the two results are stored.
-/
module

public import proofs.«01_k».proof.Proof.BlockSpec

@[expose] public section

noncomputable section

namespace Cert.Proof.Scan

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## The body's three tests -/

theorem atFirst_iff (i : grid1.Coords) : Scalar.cmpi .ne (Scalar.extui (Scalar.cmpi .eq (BitVec.ofNat 32 (i 0).val) 0#32) : BitVec 32) 0#32 = 1#1 ↔ (i 0).val = 0 := by
  have h : ∀ x : Fin 8, Scalar.cmpi .ne (Scalar.extui (Scalar.cmpi .eq (BitVec.ofNat 32 x.val) 0#32) : BitVec 32) 0#32 = 1#1 ↔ x.val = 0 := by decide
  exact h (i 0)

theorem atLater_iff (i : grid1.Coords) : Scalar.cmpi .ne (Scalar.extui (Scalar.cmpi .sgt (BitVec.ofNat 32 (i 0).val) 0#32) : BitVec 32) 0#32 = 1#1 ↔ ¬ (i 0).val = 0 := by
  have h : ∀ x : Fin 8, Scalar.cmpi .ne (Scalar.extui (Scalar.cmpi .sgt (BitVec.ofNat 32 x.val) 0#32) : BitVec 32) 0#32 = 1#1 ↔ ¬ x.val = 0 := by decide
  exact h (i 0)

theorem atLast_iff (i : grid1.Coords) : k1_cond3 i = 1#1 ↔ (i 0).val = 7 := by
  have h : ∀ x : Fin 8, Scalar.cmpi .ne (Scalar.extui (Scalar.cmpi .eq (BitVec.ofNat 32 x.val) 7#32) : BitVec 32) 0#32 = 1#1 ↔ x.val = 7 := by decide
  exact h (i 0)

section Body

variable (d : Dev nD) (i : grid1.Coords)
  (M1 : Memref sig .tc .vmem S8000x128 .f32) (h1 : M1.IsWhole) (M2 : Memref sig .tc .vmem S8000x128 .i32) (h2 : M2.IsWhole)
  (M3 : Memref sig .tc .vmem S1x128 .f32) (h3 : M3.IsWhole) (M4 : Memref sig .tc .vmem S1x128 .f32) (h4 : M4.IsWhole)
  (M5 : Memref sig .tc .vmem S1x128 .i32) (h5 : M5.IsWhole) (M6 : Memref sig .tc .vmem S8x128 .f32) (h6 : M6.IsWhole)
  (M7 : Memref sig .tc .vmem S8x128 .i32) (h7 : M7.IsWhole)
  (l : Vec F S8000x128 .f32) (t : Vec F S8000x128 .i32) (p : Vec F S1x128 .f32)

/-- The step's first part takes the block into the kept pair, and leaves the block, the counts and the penalties. -/
theorem part_run (s : Vec F S8x128 .f32 × Vec F S8x128 .i32) :
    iprop(owns (d : Thread nD τ) M1 fullShare l ∗ owns (d : Thread nD τ) M2 fullShare t ∗ owns (d : Thread nD τ) M3 fullShare p
        ∗ owns (d : Thread nD τ) M6 fullShare s.1 ∗ owns (d : Thread nD τ) M7 fullShare s.2)
      ⊢ (wp frame (wpE (defs₀ (F := F)) 𝒱₀ (d : Thread nD τ) none) Set.univ (k1_part1 i M1 h1 M2 h2 M3 h3 M4 h4 M5 h5 M6 h6 M7 h7) fun _ =>
        iprop(owns (d : Thread nD τ) M1 fullShare l ∗ owns (d : Thread nD τ) M2 fullShare t ∗ owns (d : Thread nD τ) M3 fullShare p
          ∗ owns (d : Thread nD τ) M6 fullShare (blkStep i p l t s).1 ∗ owns (d : Thread nD τ) M7 fullShare (blkStep i p l t s).2) : sProp 𝕄) := by
  rw [k1_part1_eq_skeleton]
  unfold k1_part1_skel
  simp only [Prog.lift, Prog.bind_op, Prog.bind_ret, Prog.pure_eq_ret, Prog.bind_assoc]
  have H1 := atFirst_iff i
  have H2 := atLater_iff i
  iintro ⟨O1, O2, O3, O6, O7⟩
  iapply (wp_loadAll d M3 zero2 _ p _)
  isplitl [O3]
  · iexact O3
  iintro O3
  iapply (wp_loadAll d M1 zero2 _ l _)
  isplitl [O1]
  · iexact O1
  iintro O1
  iapply (wp_loadAll d M2 zero2 _ t _)
  isplitl [O2]
  · iexact O2
  iintro O2
  by_cases h0 : (i 0).val = 0
  · have e : blkStep i p l t s = (k1_pay6 p l t, k1_pay7 i p l t) := if_pos h0
    rw [e]
    simp only [dif_pos (H1.2 h0), dif_neg (fun h => H2.1 h h0), Prog.bind_op, Prog.bind_ret, Prog.pure_eq_ret]
    iapply (wp_loadAll d M6 zero2 _ s.1 _)
    isplitl [O6]
    · iexact O6
    iintro O6
    iapply (wp_storeAll d M6 zero2 _ s.1 _ _)
    isplitl [O6]
    · iexact O6
    iintro O6
    iapply (wp_loadAll d M7 zero2 _ s.2 _)
    isplitl [O7]
    · iexact O7
    iintro O7
    iapply (wp_storeAll d M7 zero2 _ s.2 _ _)
    isplitl [O7]
    · iexact O7
    iintro O7
    iapply (le_wp_ret _ _ _ _ _)
    iframe
  · have e : blkStep i p l t s = (k1_pay9 p l t s.1, k1_pay10 i p l t s.1 s.2) := if_neg h0
    rw [e]
    simp only [dif_neg (fun h => h0 (H1.1 h)), dif_pos (H2.2 h0), Prog.bind_op, Prog.bind_ret, Prog.pure_eq_ret]
    iapply (wp_loadAll d M6 zero2 _ s.1 _)
    isplitl [O6]
    · iexact O6
    iintro O6
    iapply (wp_loadAll d M6 zero2 _ s.1 _)
    isplitl [O6]
    · iexact O6
    iintro O6
    iapply (wp_storeAll d M6 zero2 _ s.1 _ _)
    isplitl [O6]
    · iexact O6
    iintro O6
    iapply (wp_loadAll d M7 zero2 _ s.2 _)
    isplitl [O7]
    · iexact O7
    iintro O7
    iapply (wp_loadAll d M7 zero2 _ s.2 _)
    isplitl [O7]
    · iexact O7
    iintro O7
    iapply (wp_storeAll d M7 zero2 _ s.2 _ _)
    isplitl [O7]
    · iexact O7
    iintro O7
    iapply (le_wp_ret _ _ _ _ _)
    iframe

/-- What the two result buffers hold after a step: the results at the last step, what they held before otherwise. -/
def resAfter (i : grid1.Coords) (s : Vec F S8x128 .f32 × Vec F S8x128 .i32) (y : Vec F S1x128 .f32 × Vec F S1x128 .i32) : Vec F S1x128 .f32 × Vec F S1x128 .i32 :=
  if (i 0).val = 7 then (k1_pay1 s.1, k1_pay2 s.1 s.2) else y

/-- A step of the TensorCore call. -/
theorem step_run (s : Vec F S8x128 .f32 × Vec F S8x128 .i32) (y : Vec F S1x128 .f32 × Vec F S1x128 .i32) :
    iprop(owns (d : Thread nD τ) M1 fullShare l ∗ owns (d : Thread nD τ) M2 fullShare t ∗ owns (d : Thread nD τ) M3 fullShare p
        ∗ owns (d : Thread nD τ) M4 fullShare y.1 ∗ owns (d : Thread nD τ) M5 fullShare y.2
        ∗ owns (d : Thread nD τ) M6 fullShare s.1 ∗ owns (d : Thread nD τ) M7 fullShare s.2)
      ⊢ (wp frame (wpE (defs₀ (F := F)) 𝒱₀ (d : Thread nD τ) none) Set.univ (cc1__tc_body i M1 h1 M2 h2 M3 h3 M4 h4 M5 h5 M6 h6 M7 h7) fun _ =>
        iprop(owns (d : Thread nD τ) M1 fullShare l ∗ owns (d : Thread nD τ) M2 fullShare t ∗ owns (d : Thread nD τ) M3 fullShare p
          ∗ owns (d : Thread nD τ) M4 fullShare (resAfter i (blkStep i p l t s) y).1 ∗ owns (d : Thread nD τ) M5 fullShare (resAfter i (blkStep i p l t s) y).2
          ∗ owns (d : Thread nD τ) M6 fullShare (blkStep i p l t s).1 ∗ owns (d : Thread nD τ) M7 fullShare (blkStep i p l t s).2) : sProp 𝕄) := by
  rw [cc1__tc_body_eq_skeleton]
  unfold cc1__tc_body_skel
  rw [wp_bind]
  have H3 := atLast_iff i
  iintro ⟨O1, O2, O3, O4, O5, O6, O7⟩
  iapply (wp_wand_r frame _ _)
  isplitl [O1 O2 O3 O6 O7]
  · iapply (part_run d i M1 h1 M2 h2 M3 h3 M4 h4 M5 h5 M6 h6 M7 h7 l t p s)
    iframe
  iintro %v ⟨O1, O2, O3, O6, O7⟩
  generalize blkStep i p l t s = s'
  simp only [Prog.lift, Prog.bind_op, Prog.bind_ret, Prog.pure_eq_ret, Prog.bind_assoc]
  by_cases h0 : (i 0).val = 7
  · have e : resAfter i s' y = (k1_pay1 s'.1, k1_pay2 s'.1 s'.2) := if_pos h0
    rw [e]
    simp only [dif_pos (H3.2 h0), Prog.bind_op, Prog.bind_ret, Prog.pure_eq_ret]
    iapply (wp_loadAll d M6 zero2 _ s'.1 _)
    isplitl [O6]
    · iexact O6
    iintro O6
    iapply (wp_loadAll d M7 zero2 _ s'.2 _)
    isplitl [O7]
    · iexact O7
    iintro O7
    iapply (wp_loadAll d M4 zero2 _ y.1 _)
    isplitl [O4]
    · iexact O4
    iintro O4
    iapply (wp_storeAll d M4 zero2 _ y.1 _ _)
    isplitl [O4]
    · iexact O4
    iintro O4
    iapply (wp_loadAll d M5 zero2 _ y.2 _)
    isplitl [O5]
    · iexact O5
    iintro O5
    iapply (wp_storeAll d M5 zero2 _ y.2 _ _)
    isplitl [O5]
    · iexact O5
    iintro O5
    iapply (le_wp_ret _ _ _ _ _)
    iframe
  · have e : resAfter i s' y = y := if_neg h0
    rw [e]
    simp only [dif_neg (fun h => h0 (H3.1 h)), Prog.bind_op, Prog.bind_ret, Prog.pure_eq_ret]
    iapply (le_wp_ret _ _ _ _ _)
    iframe

end Body

section Merge

variable (d : Dev nD)
  (M0 : Memref sig .tc .vmem S32x128 .f32) (h0 : M0.IsWhole) (M1 : Memref sig .tc .vmem S32x128 .i32) (h1 : M1.IsWhole)
  (M2 : Memref sig .tc .vmem S1x128 .f32) (h2 : M2.IsWhole) (M3 : Memref sig .tc .vmem S1x128 .i32) (h3 : M3.IsWhole)
  (M4 : Memref sig .tc .vmem S1x128 .i32) (h4 : M4.IsWhole)

/-- The merging call's one step stores the merged index. -/
theorem merge_run (a : Vec F S32x128 .f32) (b : Vec F S32x128 .i32) (x : Vec F S1x128 .f32) (z y : Vec F S1x128 .i32) :
    iprop(owns (d : Thread nD τ) M0 fullShare a ∗ owns (d : Thread nD τ) M1 fullShare b ∗ owns (d : Thread nD τ) M2 fullShare x
        ∗ owns (d : Thread nD τ) M3 fullShare z ∗ owns (d : Thread nD τ) M4 fullShare y)
      ⊢ (wp frame (wpE (defs₀ (F := F)) 𝒱₀ (d : Thread nD τ) none) Set.univ (cc2__merge_body M0 h0 M1 h1 M2 h2 M3 h3 M4 h4) fun _ =>
        iprop(owns (d : Thread nD τ) M0 fullShare a ∗ owns (d : Thread nD τ) M1 fullShare b ∗ owns (d : Thread nD τ) M2 fullShare x
        ∗ owns (d : Thread nD τ) M3 fullShare z ∗ owns (d : Thread nD τ) M4 fullShare (k2_pay1 a b x z)) : sProp 𝕄) := by
  rw [cc2__merge_body_eq_skeleton]
  unfold cc2__merge_body_skel
  simp only [Prog.lift, Prog.bind_op, Prog.bind_ret, Prog.pure_eq_ret, Prog.bind_assoc]
  iintro ⟨O0, O1, O2, O3, O4⟩
  iapply (wp_loadAll d M0 zero2 _ a _)
  isplitl [O0]
  · iexact O0
  iintro O0
  iapply (wp_loadAll d M1 zero2 _ b _)
  isplitl [O1]
  · iexact O1
  iintro O1
  iapply (wp_loadAll d M2 zero2 _ x _)
  isplitl [O2]
  · iexact O2
  iintro O2
  iapply (wp_loadAll d M3 zero2 _ z _)
  isplitl [O3]
  · iexact O3
  iintro O3
  iapply (wp_loadAll d M4 zero2 _ y _)
  isplitl [O4]
  · iexact O4
  iintro O4
  iapply (wp_storeAll d M4 zero2 _ y _ _)
  isplitl [O4]
  · iexact O4
  iintro O4
  iapply (le_wp_ret _ _ _ _ _)
  iframe

end Merge

end Cert.Proof.Scan

end
-- ==== Proof.BlockData.lean ====
/-
  The TensorCore call's proof data: what its staging buffers hold before and after each block, and the body's obligation to the pipeline.
-/
module

public import proofs.«01_k».proof.Proof.BlockBody
public import proofs.«01_k».proof.Proof.Gen.KernelIdeal.Launch
public import proofs.«01_k».proof.Proof.Gen.KernelIdeal.Points
public import Idealize.ShloMosaic.Lib.Pipeline.FrameBody

@[expose] public section

noncomputable section

namespace Cert.Proof.Scan

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- The vocabulary-major logits, the counts and the penalties the call reads. -/
abbrev vL (c : Dev nD) : S100000x128.Idx → F .f32 := V c main_v1
abbrev vT (c : Dev nD) : S100000x128.Idx → BitVec 32 := V c main_v2
abbrev vP (c : Dev nD) : Vec F S1x128 .f32 := V c main_v4

/-- The call's results. -/
def resV (c : Dev nD) : Vec F S1x128 .f32 := k1_pay1 (blkAcc (vL V c) (vT V c) (vP V c) 7).1
def resI (c : Dev nD) : Vec F S1x128 .i32 := k1_pay2 (blkAcc (vL V c) (vT V c) (vP V c) 7).1 (blkAcc (vL V c) (vT V c) (vP V c) 7).2

/-- The scoped buffers of the merging call, at anything. -/
def othersS (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f))

/-- The invariant before block `n`: the two scratch buffers hold the kept pair of the blocks before it. -/
def keptS (c : Dev nD) (n : ℕ) : sProp 𝕄 :=
  iprop((∃ s : Vec F S8x128 .f32 × Vec F S8x128 .i32, ⌜n = 0 ∨ s = blkAcc (vL V c) (vT V c) (vP V c) (n - 1)⌝
    ∗ owns (c : Thread nD τ) (Memref.whole cc1_scratch0) fullShare s.1 ∗ owns (c : Thread nD τ) (Memref.whole cc1_scratch1) fullShare s.2) ∗ othersS c)

/-- The pairs the TensorCore's waits have recorded by the time its calls run: the launch's own. -/
def seenT (c : Dev nD) : Set (SemLoc sig × HIx 1) := {p | (K (F := F)).lev (SparseCore.T c, p.1) p.2 ≤ 8}

/-- The call's proof data from the valuation `V`. -/
def dat1 (c : Dev nD) : Dat τ (Elt F) (HIx 1) ℕ UU ℕ cfg1 c where
  A w := V c (Pipeline.arrRef spec1 w)
  after w t := match w with
    | ⟨0, _⟩ => blkL (vL V c) t.val
    | ⟨1, _⟩ => blkT (F := F) (vT V c) t.val
    | ⟨2, _⟩ => vP V c
    | ⟨3, _⟩ => resV V c
    | ⟨4, _⟩ => resI V c
  Φ t := keptS V c t.val
  q _ := fullShare
  owed _ := 0
  recorded _ := seenT (F := F) c

theorem coords1_val (t : Fin grid1.N) : (grid1.coords t 0).val = t.val := by
  have h : ∀ t : Fin grid1.N, (grid1.coords t 0).val = t.val := by decide
  exact h t

theorem coords1_eq (t : Fin grid1.N) : grid1.coords t = coordsN t.val := by
  funext a
  apply Fin.ext
  have h : ∀ t : Fin grid1.N, t.val < 8 := by decide
  have ht := h t
  fin_cases a
  show (grid1.coords t 0).val = t.val % 8
  rw [coords1_val, Nat.mod_eq_of_lt ht]

/-- A block's rows all lie in the array: nothing is cut. -/
theorem inside0 : ∀ (t : Fin grid1.N) (a : Fin 2), (cc1_transform_0 (grid1.coords t) a + 1) * S8000x128.size a ≤ S100000x128.size a := by decide
theorem inside1 : ∀ (t : Fin grid1.N) (a : Fin 2), (cc1_transform_1 (grid1.coords t) a + 1) * S8000x128.size a ≤ S100000x128.size a := by decide

theorem moved0 (t : Fin grid1.N) (j) : win1_0.moved (grid1.coords t) j = true :=
  (win1_0.moved_iff _ j).mpr fun a => by
    have e : win1_0.clip (grid1.coords t) a = none := by
      show Pipeline.Clip.of _ _ _ = none
      unfold Pipeline.Clip.of; exact if_pos (inside0 t a)
    have := (j a).isLt; unfold Window.xsize; rw [e]; exact this

theorem moved1 (t : Fin grid1.N) (j) : win1_1.moved (grid1.coords t) j = true :=
  (win1_1.moved_iff _ j).mpr fun a => by
    have e : win1_1.clip (grid1.coords t) a = none := by
      show Pipeline.Clip.of _ _ _ = none
      unfold Pipeline.Clip.of; exact if_pos (inside1 t a)
    have := (j a).isLt; unfold Window.xsize; rw [e]; exact this

theorem start0 : ∀ t : Fin grid1.N, cc1_transform_0 (grid1.coords t) 0 = t.val ∧ cc1_transform_0 (grid1.coords t) 1 = 0 := by decide
theorem start1 : ∀ t : Fin grid1.N, cc1_transform_1 (grid1.coords t) 0 = t.val ∧ cc1_transform_1 (grid1.coords t) 1 = 0 := by decide

theorem lt8 (t : Fin cfg1.N) : t.val < 8 := by have h : t.val < grid1.N := t.isLt; rw [N_1] at h; exact h

theorem before0 (c : Dev nD) (t : Fin cfg1.N) (x) : (dat1 V c).before 0 t x = blkL (vL V c) t.val := by
  rw [Dat.before_fetched _ _ _ (fetch1_0 t)]
  funext j
  unfold Dat.fetched Window.fill
  rw [dif_pos (moved0 t j)]
  unfold Dat.blockOf
  refine congrArg (vL V c) (funext fun a => Fin.ext ?_)
  have h8 := lt8 t
  have hs := start0 t
  fin_cases a
  · have hj : (j 0).val < 8000 := (j 0).isLt
    show cc1_transform_0 (grid1.coords t) 0 * 8000 + 1 * (j 0).val = (8000 * t.val + (j 0).val) % 100000
    rw [hs.1, Nat.mod_eq_of_lt (by omega)]; omega
  · have hj : (j 1).val < 128 := (j 1).isLt
    show cc1_transform_0 (grid1.coords t) 1 * 128 + 1 * (j 1).val = (j 1).val % 128
    rw [hs.2, Nat.mod_eq_of_lt (by omega)]; omega

theorem before1 (c : Dev nD) (t : Fin cfg1.N) (x) : (dat1 V c).before 1 t x = blkT (F := F) (vT V c) t.val := by
  rw [Dat.before_fetched _ _ _ (fetch1_1 t)]
  funext j
  unfold Dat.fetched Window.fill
  rw [dif_pos (moved1 t j)]
  unfold Dat.blockOf
  refine congrArg (vT V c) (funext fun a => Fin.ext ?_)
  have h8 := lt8 t
  have hs := start1 t
  fin_cases a
  · have hj : (j 0).val < 8000 := (j 0).isLt
    show cc1_transform_1 (grid1.coords t) 0 * 8000 + 1 * (j 0).val = (8000 * t.val + (j 0).val) % 100000
    rw [hs.1, Nat.mod_eq_of_lt (by omega)]; omega
  · have hj : (j 1).val < 128 := (j 1).isLt
    show cc1_transform_1 (grid1.coords t) 1 * 128 + 1 * (j 1).val = (j 1).val % 128
    rw [hs.2, Nat.mod_eq_of_lt (by omega)]; omega

theorem whole2 (t : Fin cfg1.N) (c : Dev nD) : (dat1 V c).blockOf 2 t = vP V c := by
  unfold Dat.blockOf
  funext j
  refine congrArg (vP V c) (funext fun a => Fin.ext ?_)
  fin_cases a
  · show 0 * 1 + 1 * (j 0).val = (j 0).val
    omega
  · show 0 * 128 + 1 * (j 1).val = (j 1).val
    omega

theorem before2 (c : Dev nD) (t : Fin cfg1.N) (x) : (dat1 V c).before 2 t x = vP V c := by
  rw [Dat.before_in_eq_fetched (dat1 V c) 2 rfl (fun _ => rfl) (fun _ _ _ => rfl) (fun t => (whole2 V t c).symm) t x]
  exact whole2 V t c

theorem body1 (c : Dev nD) : BodyObligation (dat1 V c) (defs₀ (F := F)) 𝒱₀ none Set.univ := fun t => by
  rw [bigSep_W1, bigSep_W1]
  have h8 := lt8 t
  have hc := coords1_eq t
  have hstep : ∀ s : Vec F S8x128 .f32 × Vec F S8x128 .i32, (t.val = 0 ∨ s = blkAcc (vL V c) (vT V c) (vP V c) (t.val - 1)) →
      blkStep (grid1.coords t) (vP V c) (blkL (vL V c) t.val) (blkT (F := F) (vT V c) t.val) s = blkAcc (vL V c) (vT V c) (vP V c) t.val := by
    intro s hs
    rw [hc]
    rcases Nat.eq_zero_or_pos t.val with h | h
    · rw [h]; rfl
    · rcases hs with hs | hs
      · omega
      rw [hs]
      obtain ⟨n, hn⟩ : ∃ n, t.val = n + 1 := ⟨t.val - 1, by omega⟩
      rw [hn]; rfl
  show iprop(keptS V c t.val ∗ (dat1 V c).owesAt none t.castSucc ∗ (∃ x, owns (c : Thread nD τ) (st1_0 t) fullShare ((dat1 V c).before 0 t x))
      ∗ (∃ x, owns (c : Thread nD τ) (st1_1 t) fullShare ((dat1 V c).before 1 t x)) ∗ (∃ x, owns (c : Thread nD τ) (st1_2 t) fullShare ((dat1 V c).before 2 t x))
      ∗ (∃ x, owns (c : Thread nD τ) (st1_3 t) fullShare ((dat1 V c).before 3 t x)) ∗ (∃ x, owns (c : Thread nD τ) (st1_4 t) fullShare ((dat1 V c).before 4 t x)))
    ⊢ wp frame (wpE (defs₀ (F := F)) 𝒱₀ (c : Thread nD τ) none) Set.univ (bodyAt1 t) fun _ =>
      iprop(keptS V c (t.val + 1) ∗ (dat1 V c).owesAt none t.castSucc ∗ owns (c : Thread nD τ) (st1_0 t) fullShare (blkL (vL V c) t.val)
      ∗ owns (c : Thread nD τ) (st1_1 t) fullShare (blkT (F := F) (vT V c) t.val) ∗ owns (c : Thread nD τ) (st1_2 t) fullShare (vP V c)
      ∗ (dat1 V c).leavesExact 3 t ∗ (dat1 V c).leavesExact 4 t)
  iintro ⟨HK, HO, ⟨%x0, H0⟩, ⟨%x1, H1⟩, ⟨%x2, H2⟩, ⟨%x3, H3⟩, ⟨%x4, H4⟩⟩
  rw [before0, before1, before2]
  unfold keptS
  icases HK with ⟨⟨%s, %hs, HA, HB⟩, Hoth⟩
  iapply (wp_wand_r frame _ _)
  isplitl [H0 H1 H2 H3 H4 HA HB]
  · iapply (step_run c (grid1.coords t) _ _ _ _ _ _ _ _ _ _ _ _ _ _ (blkL (vL V c) t.val) (blkT (F := F) (vT V c) t.val) (vP V c) s
      ((dat1 V c).before 3 t x3, (dat1 V c).before 4 t x4))
    iframe
  rw [hstep s hs]
  iintro %_ ⟨H0, H1, H2, H3, H4, HA, HB⟩
  isplitl [HA HB Hoth]
  · isplitl [HA HB]
    · iexists (blkAcc (vL V c) (vT V c) (vP V c) t.val)
      isplitr
      · ipureintro
        exact Or.inr rfl
      iframe
    iexact Hoth
  isplitl [HO]
  · iexact HO
  isplitl [H0]
  · iexact H0
  isplitl [H1]
  · iexact H1
  isplitl [H2]
  · iexact H2
  by_cases h7 : t.val = 7
  · have e : resAfter (grid1.coords t) (blkAcc (vL V c) (vT V c) (vP V c) t.val) ((dat1 V c).before 3 t x3, (dat1 V c).before 4 t x4) = (resV V c, resI V c) := by
      unfold resAfter
      rw [if_pos ((coords1_val t).trans h7), h7]; rfl
    have hi : k1_cond3 (grid1.coords t) = 1#1 := (atLast_iff _).2 ((coords1_val t).trans h7)
    have i3 : cfg1.idle 3 (cfg1.grid.coords t) = false := by
      show (!(k1_cond3 (grid1.coords t) == 1#1)) = false
      rw [hi]; rfl
    have i4 : cfg1.idle 4 (cfg1.grid.coords t) = false := i3
    rw [e]
    unfold Dat.leavesExact
    rw [i3]
    isplitl [H3]
    · iexact H3
    iexact H4
  · have e : resAfter (grid1.coords t) (blkAcc (vL V c) (vT V c) (vP V c) t.val) ((dat1 V c).before 3 t x3, (dat1 V c).before 4 t x4) = ((dat1 V c).before 3 t x3, (dat1 V c).before 4 t x4) := by
      unfold resAfter
      rw [if_neg fun h => h7 ((coords1_val t).symm.trans h)]
    have hi : ¬ k1_cond3 (grid1.coords t) = 1#1 := fun h => h7 ((coords1_val t).symm.trans ((atLast_iff _).1 h))
    have i3 : cfg1.idle 3 (cfg1.grid.coords t) = true := by
      show (!(k1_cond3 (grid1.coords t) == 1#1)) = true
      rw [beq_eq_false_iff_ne.2 hi]; rfl
    have i4 : cfg1.idle 4 (cfg1.grid.coords t) = true := i3
    have f3 : (cfg1.win 3).flush t = false := Bool.eq_false_iff.2 fun h => by have := (flush1_3 t).1 h; omega
    have f4 : (cfg1.win 4).flush t = false := Bool.eq_false_iff.2 fun h => by have := (flush1_4 t).1 h; omega
    rw [e, Dat.leavesExact_idle _ _ _ i3 f3, Dat.leavesExact_idle _ _ _ i4 f4]
    isplitl [H3]
    · iexists x3
      iexact H3
    iexists x4
    iexact H4

/-! ## The two result arrays after the call -/

theorem flush_eq3 (c : Dev nD) (t : Fin cfg1.N) : (dat1 V c).flushed 3 t = View.read (Elt F) ((cfg1.win 3).blk t).view (resV V c) := by
  funext j
  refine congrArg (resV V c) (funext fun a => Fin.ext ?_)
  fin_cases a
  · show (j 0).val = 0 * 1 + 1 * (j 0).val
    omega
  · show (j 1).val = 0 * 128 + 1 * (j 1).val
    omega

theorem end3 (c : Dev nD) : (dat1 V c).arrAt 3 cfg1.N = resV V c :=
  (dat1 V c).arrAt_eq_of_cover 3 (resV V c) (fun t _ => flush_eq3 V c t) fun i =>
    ⟨t1_7, (flush1_3 t1_7).mpr rfl, by
      show i ∈ ((View.whole main_v6_0).slice (win1_3.rect t1_7)).set
      rw [View.set_slice_whole, Rect.mem_set_unit]
      intro a
      have h0 : (i 0 : Nat) < 1 := (i 0).isLt
      have h1 : (i 1 : Nat) < 128 := (i 1).isLt
      fin_cases a
      · show 0 * 1 ≤ (i 0 : Nat) ∧ (i 0 : Nat) < 0 * 1 + 1
        omega
      · show 0 * 128 ≤ (i 1 : Nat) ∧ (i 1 : Nat) < 0 * 128 + 128
        omega⟩

theorem flush_eq4 (c : Dev nD) (t : Fin cfg1.N) : (dat1 V c).flushed 4 t = View.read (Elt F) ((cfg1.win 4).blk t).view (resI V c) := by
  funext j
  refine congrArg (resI V c) (funext fun a => Fin.ext ?_)
  fin_cases a
  · show (j 0).val = 0 * 1 + 1 * (j 0).val
    omega
  · show (j 1).val = 0 * 128 + 1 * (j 1).val
    omega

theorem end4 (c : Dev nD) : (dat1 V c).arrAt 4 cfg1.N = resI V c :=
  (dat1 V c).arrAt_eq_of_cover 4 (resI V c) (fun t _ => flush_eq4 V c t) fun i =>
    ⟨t1_7, (flush1_4 t1_7).mpr rfl, by
      show i ∈ ((View.whole main_v6_1).slice (win1_4.rect t1_7)).set
      rw [View.set_slice_whole, Rect.mem_set_unit]
      intro a
      have h0 : (i 0 : Nat) < 1 := (i 0).isLt
      have h1 : (i 1 : Nat) < 128 := (i 1).isLt
      fin_cases a
      · show 0 * 1 ≤ (i 0 : Nat) ∧ (i 0 : Nat) < 0 * 1 + 1
        omega
      · show 0 * 128 ≤ (i 1 : Nat) ∧ (i 1 : Nat) < 0 * 128 + 128
        omega⟩

end Cert.Proof.Scan

end
-- ==== Proof.CallRegions.lean ====
/-
  The two TensorCore calls as regions over the thread state: the unscoped buffers at a valuation, left at the valuation updated at the results.
-/
module

public import proofs.«01_k».proof.Proof.BlockData
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof.Scan

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-! ## The merging call's proof data -/

/-- The merged index. -/
def mergeV (c : Dev nD) : Vec F S1x128 .i32 := k2_pay1 (V c main_v7) (V c main_v8) (V c main_v6_0) (V c main_v6_1)

/-- The merging call's proof data from the valuation `V`. -/
def dat2 (c : Dev nD) : Dat τ (Elt F) (HIx 1) ℕ UU ℕ cfg2 c where
  A w := V c (Pipeline.arrRef spec2 w)
  after w _ := match w with
    | ⟨0, _⟩ => V c main_v7
    | ⟨1, _⟩ => V c main_v8
    | ⟨2, _⟩ => V c main_v6_0
    | ⟨3, _⟩ => V c main_v6_1
    | ⟨4, _⟩ => mergeV V c
  Φ _ := Pipeline.scopedRest (Ix := HIx 1) (Name := ℕ) (U := UU) (Lvl := ℕ) (Val := Elt F) spec2 c
  q _ := fullShare
  owed _ := 0
  recorded _ := seenT (F := F) c

theorem found0 (c : Dev nD) (t : Fin cfg2.N) (x) : (dat2 V c).before 0 t x = V c main_v7 := by
  rw [Dat.before_fetched _ _ _ (fetch2_0 t)]
  show ((cfg2.win 0).blk t).view.read (Elt F) (V c main_v7) = V c main_v7
  funext j
  refine congrArg (V c main_v7) (funext fun a => Fin.ext ?_)
  show 0 * _ + 1 * (j a).val = (j a).val
  omega

theorem found1 (c : Dev nD) (t : Fin cfg2.N) (x) : (dat2 V c).before 1 t x = V c main_v8 := by
  rw [Dat.before_fetched _ _ _ (fetch2_1 t)]
  show ((cfg2.win 1).blk t).view.read (Elt F) (V c main_v8) = V c main_v8
  funext j
  refine congrArg (V c main_v8) (funext fun a => Fin.ext ?_)
  show 0 * _ + 1 * (j a).val = (j a).val
  omega

theorem found2 (c : Dev nD) (t : Fin cfg2.N) (x) : (dat2 V c).before 2 t x = V c main_v6_0 := by
  rw [Dat.before_fetched _ _ _ (fetch2_2 t)]
  show ((cfg2.win 2).blk t).view.read (Elt F) (V c main_v6_0) = V c main_v6_0
  funext j
  refine congrArg (V c main_v6_0) (funext fun a => Fin.ext ?_)
  show 0 * _ + 1 * (j a).val = (j a).val
  omega

theorem found3 (c : Dev nD) (t : Fin cfg2.N) (x) : (dat2 V c).before 3 t x = V c main_v6_1 := by
  rw [Dat.before_fetched _ _ _ (fetch2_3 t)]
  show ((cfg2.win 3).blk t).view.read (Elt F) (V c main_v6_1) = V c main_v6_1
  funext j
  refine congrArg (V c main_v6_1) (funext fun a => Fin.ext ?_)
  show 0 * _ + 1 * (j a).val = (j a).val
  omega

theorem body2 (c : Dev nD) : BodyObligation (dat2 V c) (defs₀ (F := F)) 𝒱₀ none Set.univ := fun t => by
  rw [bigSep_W2, bigSep_W2]
  show iprop((dat2 V c).Φ t.castSucc ∗ (dat2 V c).owesAt none t.castSucc ∗ (∃ x, owns (c : Thread nD τ) (st2_0 t) fullShare ((dat2 V c).before 0 t x))
      ∗ (∃ x, owns (c : Thread nD τ) (st2_1 t) fullShare ((dat2 V c).before 1 t x)) ∗ (∃ x, owns (c : Thread nD τ) (st2_2 t) fullShare ((dat2 V c).before 2 t x))
      ∗ (∃ x, owns (c : Thread nD τ) (st2_3 t) fullShare ((dat2 V c).before 3 t x)) ∗ (∃ x, owns (c : Thread nD τ) (st2_4 t) fullShare ((dat2 V c).before 4 t x)))
    ⊢ wp frame (wpE (defs₀ (F := F)) 𝒱₀ (c : Thread nD τ) none) Set.univ (bodyAt2 t) fun _ =>
      iprop((dat2 V c).Φ t.castSucc ∗ (dat2 V c).owesAt none t.castSucc ∗ owns (c : Thread nD τ) (st2_0 t) fullShare (V c main_v7)
      ∗ owns (c : Thread nD τ) (st2_1 t) fullShare (V c main_v8) ∗ owns (c : Thread nD τ) (st2_2 t) fullShare (V c main_v6_0)
      ∗ owns (c : Thread nD τ) (st2_3 t) fullShare (V c main_v6_1) ∗ owns (c : Thread nD τ) (st2_4 t) fullShare (mergeV V c))
  iintro ⟨HK, HO, ⟨%x0, H0⟩, ⟨%x1, H1⟩, ⟨%x2, H2⟩, ⟨%x3, H3⟩, ⟨%x4, H4⟩⟩
  rw [found0, found1, found2, found3]
  iapply (wp_wand_r frame _ _)
  isplitl [H0 H1 H2 H3 H4]
  · iapply (merge_run c _ _ _ _ _ _ _ _ _ _ (V c main_v7) (V c main_v8) (V c main_v6_0) (V c main_v6_1) ((dat2 V c).before 4 t x4))
    iframe
  iintro %_ ⟨H0, H1, H2, H3, H4⟩
  unfold mergeV
  iframe

theorem flushM (c : Dev nD) (t : Fin cfg2.N) : (dat2 V c).flushed 4 t = View.read (Elt F) ((cfg2.win 4).blk t).view (mergeV V c) := by
  funext j
  refine congrArg (mergeV V c) (funext fun a => Fin.ext ?_)
  show (j a).val = 0 * _ + 1 * (j a).val
  omega

theorem endM (c : Dev nD) : (dat2 V c).arrAt 4 cfg2.N = mergeV V c :=
  (dat2 V c).arrAt_eq_of_cover 4 (mergeV V c) (fun t _ => flushM V c t) fun i =>
    ⟨t2_0, flush2_4 t2_0, by
      show i ∈ ((View.whole main_v9).slice (win2_4.rect t2_0)).set
      rw [View.set_slice_whole, Rect.mem_set_unit]
      intro a
      have h0 : (i 0 : Nat) < 1 := (i 0).isLt
      have h1 : (i 1 : Nat) < 128 := (i 1).isLt
      fin_cases a
      · show 0 * 1 ≤ (i 0 : Nat) ∧ (i 0 : Nat) < 0 * 1 + 1
        omega
      · show 0 * 128 ≤ (i 1 : Nat) ∧ (i 1 : Nat) < 0 * 128 + 128
        omega⟩

/-! ## The regions -/

/-- No pipeline prefetches a table. -/
abbrev noTab : (p : Fin 2) → (pcfgs (F := F) p).Adm := fun p => (cfgs p).toPCfg_adm

/-- The two calls' proof data from one valuation. -/
def pdats : (p : Fin 2) → (c : Dev nD) → Dat τ (Elt F) (HIx 1) ℕ UU ℕ (Pipeline.pin (pcfgs (F := F)) noTab p) c
  | ⟨0, _⟩ => fun c => dat1 V c
  | ⟨1, _⟩ => fun c => dat2 V c

/-- What the TensorCore owes between its calls: nothing, its waits recorded so far within the launch's. -/
def owesT (c : Dev nD) : sProp 𝕄 :=
  iprop(∃ W, ⌜(K (F := F)).WBelow (SparseCore.T c) W 8⌝ ∗ owes (c : Thread nD τ) (0 : CellTallies nD τ sig (HIx 1)) W)

theorem owesT_enter {cfg : Cfg sig Λ₀} (c : Dev nD) (dat : Dat τ (Elt F) (HIx 1) ℕ UU ℕ cfg c) (t : Fin (cfg.N + 1)) (h0 : dat.owed t = 0)
    (h : dat.recorded t = seenT (F := F) c) : owesT (F := F) c ⊢ dat.owesAt none t := by
  unfold owesT Dat.owesAt Pipeline.owesWithin
  rw [h0]
  iintro ⟨%W, %hW, HO⟩
  iexists W
  isplitr
  · ipureintro
    intro p hp
    exact Or.inl (by rw [h]; exact hW p hp)
  iexact HO

theorem owesT_leave {cfg : Cfg sig Λ₀} (c : Dev nD) (dat : Dat τ (Elt F) (HIx 1) ℕ UU ℕ cfg c) (t : Fin (cfg.N + 1)) (h0 : dat.owed t = 0)
    (h : dat.recorded t = seenT (F := F) c) : dat.owesAt none t ⊢ owesT (F := F) c := by
  unfold owesT Dat.owesAt Pipeline.owesWithin
  rw [h0]
  iintro ⟨%W, %hW, HO⟩
  iexists W
  isplitr
  · ipureintro
    intro p hp
    rcases hW hp with hr | ⟨w, s, rfl⟩
    · rw [h] at hr; exact hr
    · exact Nat.zero_le _
  iexact HO

variable (Vp : (c : Dev nD) → (b : Ref sig .tc) → Buf (Elt F) ((c : Thread nD τ).loc b))

-- the launch lemmas are stated over the pinned configuration
set_option backward.isDefEq.respectTransparency.types false in
/-- The block call as a region: its two result arrays end holding the blocks' results. -/
def regBlocks (h0 : ∀ c, Vp c main_v6_0 = resV V c) (h1 : ∀ c, Vp c main_v6_1 = resI V c)
    (hne : ∀ c (b : Ref sig .tc), b ≠ main_v6_0 → b ≠ main_v6_1 → Vp c b = V c b) :
    Pipeline.RegionSeg (pcfgs (F := F)) noTab (pdats V) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ (K (F := F)).L (K (F := F)).lev 0 fun _ _ => rfl
  pre c := iprop(unscopedBufs c (V c) ∗ owesT (F := F) c)
  post c := iprop(unscopedBufs c (Vp c) ∗ owesT (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) noTab (pdats V) launch1.win launch1.arr_whole c
      ((pdats V 0 c).share_full fun _ => rfl) (V c) fun _ => rfl
    have ho := owesT_enter c (dat1 V c) 0 rfl rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ho; iexact HO
    isplitr; · iempintro
    iexact Hrest
  hin c := by
    show _ ⊢ keptS V c 0
    unfold keptS othersS
    rw [show (Pipeline.scopedRest (Ix := HIx 1) (Name := ℕ) (U := UU) (Lvl := ℕ) (Val := Elt F) (Pipeline.pin (pcfgs (F := F)) noTab 0).spec c : sProp 𝕄) = _ from scopedRest1_eq c]
    simp only [owns_whole_eq]
    iintro ⟨-, -, ⟨%f, HA⟩, ⟨%g, HB⟩, Hr⟩
    isplitr [Hr]
    · iexists (f, g)
      isplitr
      · ipureintro; first | exact Or.inl rfl | exact Or.inl trivial
      isplitl [HA]
      · iexists f
        isplitr
        · ipureintro; rfl
        iexact HA
      iexists g
      isplitr
      · ipureintro; rfl
      iexact HB
    iexact Hr
  hout c := by
    rw [Pipeline.ownSems0_none]
    show keptS V c 8 ⊢ _
    unfold keptS othersS
    rw [show (Pipeline.scopedRest (Ix := HIx 1) (Name := ℕ) (U := UU) (Lvl := ℕ) (Val := Elt F) (Pipeline.pin (pcfgs (F := F)) noTab 0).spec c : sProp 𝕄) = _ from scopedRest1_eq c]
    simp only [owns_whole_eq]
    iintro ⟨⟨%s, -, ⟨%f, -, HA⟩, ⟨%g, -, HB⟩⟩, Hr⟩
    isplitr; · iempintro
    isplitr; · iempintro
    isplitl [HA]
    · iexists f
      iexact HA
    isplitl [HB]
    · iexists g
      iexact HB
    iexact Hr
  hexit c := by
    have hjoin := Pipeline.unscopedBufs_of_arrays (p := 0) (pcfgs (F := F)) noTab (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v1 (by decide) (by decide)).symm
        · exact ((pdats V 0 c).arrAt_in 1 rfl _).trans (hne c main_v2 (by decide) (by decide)).symm
        · exact ((pdats V 0 c).arrAt_in 2 rfl _).trans (hne c main_v4 (by decide) (by decide)).symm
        · exact (end3 V c).trans (h0 c).symm
        · exact (end4 V c).trans (h1 c).symm)
      (fun b hb => hne c b (fun h => hb (h ▸ Finset.mem_image.mpr ⟨3, Finset.mem_univ _, rfl⟩)) (fun h => hb (h ▸ Finset.mem_image.mpr ⟨4, Finset.mem_univ _, rfl⟩)))
    have ho := owesT_leave c (dat1 V c) (Fin.last _) rfl rfl
    iintro ⟨Ha, HO, -, Hrest⟩
    imodintro
    isplitl [Ha Hrest]
    · iapply hjoin; isplitl [Ha] <;> iassumption
    iapply ho; iexact HO

set_option backward.isDefEq.respectTransparency.types false in
/-- The merging call as a region: its result array ends holding the merged index. -/
def regMerge (h0 : ∀ c, Vp c main_v9 = mergeV V c) (hne : ∀ c (b : Ref sig .tc), b ≠ main_v9 → Vp c b = V c b) :
    Pipeline.RegionSeg (pcfgs (F := F)) noTab (pdats V) none (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 V c).loose
  hwaits := Pipeline.hwaits_of_owed_zero _ _ _ _ (K (F := F)).L (K (F := F)).lev 1 fun _ _ => rfl
  pre c := iprop(unscopedBufs c (V c) ∗ owesT (F := F) c)
  post c := iprop(unscopedBufs c (Vp c) ∗ owesT (F := F) c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) noTab (pdats V) launch2.win launch2.arr_whole c
      ((pdats V 1 c).share_full fun _ => rfl) (V c) fun _ => rfl
    have ho := owesT_enter c (dat2 V c) 0 rfl rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply ho; iexact HO
    isplitr; · iempintro
    iexact Hrest
  hin c := by
    rw [show (pdats V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) noTab (Ix := HIx 1) (Name := ℕ) (U := UU) (Lvl := ℕ) launch2.win launch2.arr_whole c
      (pdats V) ((pdats V 1 c).share_full fun _ => rfl) (V c) (Vp c) ((pdats V 1 c).arrAt · cfg2.N)
      (fun w => by
        fin_cases w
        · exact ((pdats V 1 c).arrAt_in 0 rfl _).trans (hne c main_v7 (by decide)).symm
        · exact ((pdats V 1 c).arrAt_in 1 rfl _).trans (hne c main_v8 (by decide)).symm
        · exact ((pdats V 1 c).arrAt_in 2 rfl _).trans (hne c main_v6_0 (by decide)).symm
        · exact ((pdats V 1 c).arrAt_in 3 rfl _).trans (hne c main_v6_1 (by decide)).symm
        · exact (endM V c).trans (h0 c).symm)
      (fun b hb => hne c b (fun h => hb (h ▸ Finset.mem_image.mpr ⟨4, Finset.mem_univ _, rfl⟩)))
    have ho := owesT_leave c (dat2 V c) (Fin.last _) rfl rfl
    iintro ⟨Ha, HO, -, Hrest⟩
    imodintro
    isplitl [Ha Hrest]
    · iapply hjoin; isplitl [Ha] <;> iassumption
    iapply ho; iexact HO

end Cert.Proof.Scan

end
-- ==== Proof.LaunchMain.lean ====
/-
  The whole program's run: the host's layouts, the SparseCore call, the block call, the merging call, and what the buffers end holding.
-/
module

public import proofs.«01_k».proof.Proof.CallRegions
public import Idealize.ShloMosaic.Lib.StableHlo.Run

@[expose] public section

noncomputable section

namespace Cert.Proof.Scan

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)
open Idealize.ShloMosaic.Rounds
open Idealize.ShloMosaic.StableHlo (held held_sub_split held_congr wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The buffers' contents, stage by stage -/

/-- A reference of the TensorCore as a reference of the device. -/
abbrev dr (b : Ref sig .tc) : DevRef τ sig := Proc.devRef .tc b

abbrev opA : HloOp τ sig (Elt F) := StableHlo.reshape main_arg0 main_v0 (rfl : (.f32 : EltTy) = .f32) shapeCasts_S128x1x100000_S128x100000
abbrev opB : HloOp τ sig (Elt F) := StableHlo.unary main_v0 main_v1 ((transpose S100000x128 [1, 0] · transposes_S128x100000_S100000x128_1_0) : (⟨S128x100000, .f32⟩ : BufTy).Contents (Elt F) → (⟨S100000x128, .f32⟩ : BufTy).Contents (Elt F))
abbrev opC : HloOp τ sig (Elt F) := StableHlo.unary main_arg2 main_v2 ((transpose S100000x128 [1, 0] · transposes_S128x100000_S100000x128_1_0) : (⟨S128x100000, .i32⟩ : BufTy).Contents (Elt F) → (⟨S100000x128, .i32⟩ : BufTy).Contents (Elt F))
abbrev opD : HloOp τ sig (Elt F) := StableHlo.reshape main_arg1 main_v3 (rfl : (.f32 : EltTy) = .f32) shapeCasts_S128x1_S128
abbrev opE : HloOp τ sig (Elt F) := StableHlo.reshape main_arg1 main_v4 (rfl : (.f32 : EltTy) = .f32) shapeCasts_S128x1_S1x128
abbrev opG : HloOp τ sig (Elt F) := StableHlo.reshape main_v5_0 main_v7 (rfl : (.f32 : EltTy) = .f32) shapeCasts_S4096_S32x128
abbrev opH : HloOp τ sig (Elt F) := StableHlo.reshape main_v5_1 main_v8 (rfl : (.i32 : EltTy) = .i32) shapeCasts_S4096_S32x128
abbrev opI : HloOp τ sig (Elt F) := StableHlo.reshape main_v9 main_v10 (rfl : (.i32 : EltTy) = .i32) shapeCasts_S1x128_S128x1

/-- At the launch. -/
def at0 (d : Dev nD) : Valuation τ sig (Elt F) := fun b => m (d, b)
/-- After the host's layouts. -/
def at1 (d : Dev nD) : Valuation τ sig (Elt F) := opE.result (opD.result (opC.result (opB.result (opA.result (at0 m d)))))

/-- What the SparseCore call reads. -/
def scL (d : Dev nD) : S100000x128.Idx → F .f32 := at1 m d (dr main_v1)
def scT (d : Dev nD) : S100000x128.Idx → BitVec 32 := at1 m d (dr main_v2)
def scP (d : Dev nD) : S128.Idx → F .f32 := at1 m d (dr main_v3)

/-- After the SparseCore call. -/
def at2 (d : Dev nD) : Valuation τ sig (Elt F) :=
  Function.update (Function.update (at1 m d) (dr main_v5_0) (outV (scL m d) (scT m d) (scP m d) : S4096.Idx → F .f32)) (dr main_v5_1)
    (outI (scL m d) (scT m d) (scP m d) : S4096.Idx → BitVec 32)
/-- After the block call. -/
def at3 (d : Dev nD) : Valuation τ sig (Elt F) :=
  Function.update (Function.update (at2 m d) (dr main_v6_0) (resV (fun c b => at2 m c (dr b)) d)) (dr main_v6_1) (resI (fun c b => at2 m c (dr b)) d)
/-- After the host's two layouts of the SparseCore call's results. -/
def at4 (d : Dev nD) : Valuation τ sig (Elt F) := opH.result (opG.result (at3 m d))
/-- After the merging call. -/
def at5 (d : Dev nD) : Valuation τ sig (Elt F) := Function.update (at4 m d) (dr main_v9) (mergeV (fun c b => at4 m c (dr b)) d)
/-- At the end. -/
def at6 (d : Dev nD) : Valuation τ sig (Elt F) := opI.result (at5 m d)

/-- The TensorCore's unscoped buffers. -/
def ucs : Finset (DevRef τ sig) := (StableHlo.tcRefs τ sig).filter fun b => ¬ b.isScoped

omit [FloatOps F] [Named F] in
theorem unscoped_eq_held (c : Dev nD) (W : Valuation τ sig (Elt F)) : (unscopedBufs c (fun b => W (dr b)) : sProp 𝕄) = held (c : Thread nD τ) ucs W := by
  unfold unscopedBufs held ucs StableHlo.tcRefs
  rw [Finset.filter_map, bigSep_map]
  rfl

/-! ## The two calls on the TensorCore -/

omit [FloatOps F] [Named F] in
theorem cells_inj : Function.Injective (cellOf (nD := nD) (τ := τ) (Pipeline.pin (pcfgs (F := F)) noTab)) := cellOf_inj

theorem run_region [∀ e, Nonempty (Elt F e)] {V : (c : Dev nD) → (b : Ref sig .tc) → Buf (Elt F) ((c : Thread nD τ).loc b)} {p : Fin 2}
    (R : Pipeline.RegionSeg (pcfgs (F := F)) noTab (pdats V) none (defs₀ (F := F)) 𝒱₀ (K (F := F)).L (K (F := F)).lev p) (d : Dev nD) (Q : PUnit → sProp 𝕄) :
    iprop(((boundary (SparseCore.T d : Thread nD τ) ∗ R.post d) -∗ Q ⟨⟩) ∗ boundary (SparseCore.T d : Thread nD τ) ∗ R.pre d ∗ levAts (K (F := F)).L (K (F := F)).lev
        ∗ Pipeline.cellsGhost (Pipeline.pin (pcfgs (F := F)) noTab) EP p d ∗ Pipeline.toksInit (Pipeline.pin (pcfgs (F := F)) noTab) EP p d)
      ⊢ (wp frame (wpE ((K (F := F)).defs (D (F := F))) 𝒱 (SparseCore.T d) none) Set.univ (Prog.lift (.customCall (SparseCore.inner (Pipeline.entry p)) ())) Q : sProp 𝕄) := by
  have h := Pipeline.RegionSeg.wp (pcfgs (F := F)) noTab (pdats V) none cells_inj EP (defs₀ (F := F)) 𝒱₀ (K (F := F)).L (K (F := F)).lev R d none (fun _ h => nomatch h)
    (k := fun x => .ret x) (Q := Q)
  have hl := (K (F := F)).wp_liftProg (D (F := F)) 𝒱 (SparseCore.T d) Set.univ none (Prog.lift (.customCall (Pipeline.entry p) ())) Q
  iintro ⟨Hk, Hb, Hp, Hl, Hg, Ht⟩
  iapply hl
  iapply h
  isplitl [Hk]
  · iintro ⟨Hb, Hp⟩
    iapply (le_wp_ret _ _ _ _ _)
    iapply Hk
    isplitl [Hb]
    · iexact Hb
    iexact Hp
  isplitl [Hb]
  · iexact Hb
  isplitl [Hp]
  · iexact Hp
  isplitl [Hl]
  · iexact Hl
  isplitl [Hg]
  · iexact Hg
  iexact Ht

omit [FloatOps F] [Named F] in
theorem dr_ne {b b' : Ref sig .tc} (h : b ≠ b') : dr b ≠ dr b' := fun e => h (Proc.devRef_injective _ e)

/-- The block call, between the buffers' contents before it and after it. -/
def segBlocks [∀ e, Nonempty (Elt F e)] :=
  regBlocks (F := F) (fun c b => at2 m c (dr b)) (fun c b => at3 m c (dr b))
    (fun c => by unfold at3; rw [Function.update_of_ne (dr_ne (by decide)), Function.update_self])
    (fun c => by unfold at3; rw [Function.update_self])
    (fun c b h0 h1 => by unfold at3; rw [Function.update_of_ne (dr_ne h1), Function.update_of_ne (dr_ne h0)])

/-- The merging call, between the buffers' contents before it and after it. -/
def segMerge [∀ e, Nonempty (Elt F e)] :=
  regMerge (F := F) (fun c b => at4 m c (dr b)) (fun c b => at5 m c (dr b))
    (fun c => by unfold at5; rw [Function.update_self])
    (fun c b h => by unfold at5; rw [Function.update_of_ne (dr_ne h)])

/-! ## The SparseCore call's buffers out of the held ones, and back -/

/-- The five buffers the SparseCore call works on. -/
def five : Finset (DevRef τ sig) := {dr main_v1, dr main_v2, dr main_v3, dr main_v5_0, dr main_v5_1}

omit [FloatOps F] [Named F] in
theorem five_sub : five ⊆ ucs := by
  show ({dr main_v1, dr main_v2, dr main_v3, dr main_v5_0, dr main_v5_1} : Finset (DevRef τ sig)) ⊆ (StableHlo.tcRefs τ sig).filter fun b => ¬ b.isScoped
  decide

omit [FloatOps F] [Named F] in
theorem held_five (d : Dev nD) (W : Valuation τ sig (Elt F)) :
    (held (SparseCore.T d : Thread nD τ) five W : sProp 𝕄) = iprop((ltLoc d ↦{fullShare} (W (dr main_v1) : S100000x128.Idx → F .f32))
      ∗ (ttLoc d ↦{fullShare} (W (dr main_v2) : S100000x128.Idx → BitVec 32)) ∗ (pnLoc d ↦{fullShare} (W (dr main_v3) : S128.Idx → F .f32))
      ∗ (ovLoc d ↦{fullShare} (W (dr main_v5_0) : S4096.Idx → F .f32)) ∗ (oiLoc d ↦{fullShare} (W (dr main_v5_1) : S4096.Idx → BitVec 32))) := by
  unfold held five
  rw [SparseCore.bigSep_insert' (by decide), SparseCore.bigSep_insert' (by decide), SparseCore.bigSep_insert' (by decide),
    SparseCore.bigSep_insert' (by decide), bigSep_singleton]

/-- The tables and penalties the SparseCore call keeps back. -/
abbrev keepSc (d : Dev nD) : sProp 𝕄 :=
  iprop((ltLoc d ↦{Transfers.shareDrop fullShare 32} scL m d) ∗ (ttLoc d ↦{Transfers.shareDrop fullShare 32} scT m d) ∗ (pnLoc d ↦{Transfers.shareDrop fullShare 32} scP m d))

theorem held_deal (d : Dev nD) : held (SparseCore.T d : Thread nD τ) ucs (at1 m d)
    ⊢ (iprop(keepSc m d ∗ (bigSep Finset.univ fun c : Fin ((K (F := F)).nCore 0) => (P (scL m) (scT m) (scP m)).st 0 d c)
        ∗ held (SparseCore.T d : Thread nD τ) (ucs \ five) (at1 m d)) : sProp 𝕄) := by
  rw [held_sub_split _ five_sub, held_five]
  iintro ⟨⟨Hl, Ht, Hp, Hv, Hi⟩, Hr⟩
  have h := deal (d := d) (lt := scL m d) (tt := scT m d) (pen := scP m d)
  ihave H := h $$ [Hl Ht Hp Hv Hi]
  · isplitl [Hl]
    · iexact Hl
    isplitl [Ht]
    · iexact Ht
    isplitl [Hp]
    · iexact Hp
    isplitl [Hv]
    · iexists _; iexact Hv
    iexists _; iexact Hi
  icases H with ⟨Hk, Hd⟩
  isplitl [Hk]
  · iexact Hk
  isplitl [Hd]
  · iexact Hd
  iexact Hr

theorem held_gather (d : Dev nD) :
    iprop(keepSc m d ∗ (bigSep Finset.univ fun c : Fin ((K (F := F)).nCore 0) => (P (scL m) (scT m) (scP m)).dn 0 d c)
        ∗ held (SparseCore.T d : Thread nD τ) (ucs \ five) (at1 m d))
      ⊢ (held (SparseCore.T d : Thread nD τ) ucs (at2 m d) : sProp 𝕄) := by
  rw [held_sub_split _ five_sub (at2 m d), held_five,
    held_congr (SparseCore.T d : Thread nD τ) (S := ucs \ five) (V := at2 m d) (V' := at1 m d) fun b hb => by
      have hb := (Finset.mem_sdiff.mp hb).2
      have h0 : b ≠ dr main_v5_0 := fun e => hb (by rw [e]; show dr main_v5_0 ∈ ({dr main_v1, dr main_v2, dr main_v3, dr main_v5_0, dr main_v5_1} : Finset (DevRef τ sig)); decide)
      have h1 : b ≠ dr main_v5_1 := fun e => hb (by rw [e]; show dr main_v5_1 ∈ ({dr main_v1, dr main_v2, dr main_v3, dr main_v5_0, dr main_v5_1} : Finset (DevRef τ sig)); decide)
      unfold at2; rw [Function.update_of_ne h1, Function.update_of_ne h0]]
  have e1 : at2 m d (dr main_v1) = at1 m d (dr main_v1) := by unfold at2; rw [Function.update_of_ne (dr_ne (by decide)), Function.update_of_ne (dr_ne (by decide))]
  have e2 : at2 m d (dr main_v2) = at1 m d (dr main_v2) := by unfold at2; rw [Function.update_of_ne (dr_ne (by decide)), Function.update_of_ne (dr_ne (by decide))]
  have e3 : at2 m d (dr main_v3) = at1 m d (dr main_v3) := by unfold at2; rw [Function.update_of_ne (dr_ne (by decide)), Function.update_of_ne (dr_ne (by decide))]
  have e4 : at2 m d (dr main_v5_0) = (outV (scL m d) (scT m d) (scP m d) : S4096.Idx → F .f32) := by
    unfold at2; rw [Function.update_of_ne (dr_ne (by decide)), Function.update_self]
  have e5 : at2 m d (dr main_v5_1) = (outI (scL m d) (scT m d) (scP m d) : S4096.Idx → BitVec 32) := by
    unfold at2; rw [Function.update_self]
  rw [e1, e2, e3, e4, e5]
  iintro ⟨Hk, Hd, Hr⟩
  have h := gather (d := d) (lt := scL m d) (tt := scT m d) (pen := scP m d)
  ihave H := h $$ [Hk Hd]
  · isplitl [Hk]
    · iexact Hk
    iexact Hd
  isplitl [H]
  · iexact H
  iexact Hr

end Cert.Proof.Scan

end
-- ==== Proof.LaunchRun.lean ====
/-
  The launch: `@main` on the TensorCore from the launch's resources, and the whole program's run.
-/
module

public import proofs.«01_k».proof.Proof.LaunchMain
public import Idealize.ShloMosaic.Lib.SparseCore.Quiescent
public import Idealize.ShloMosaic.Lib.Pipeline.Kit

@[expose] public section

noncomputable section

namespace Cert.Proof.Scan

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation cellOf)
open Idealize.ShloMosaic.Rounds
open Idealize.ShloMosaic.StableHlo (held held_sub_split held_congr wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The launch's ghost state: the calls' semaphores', then the pipelines'. -/
def u₀ : UU := (initOf (K (F := F)).hsCells (K (F := F)).hsToks,
  (initOf (Pipeline.cells (Pipeline.pin (pcfgs (F := F)) noTab) cells_inj) (Pipeline.launchToks (Pipeline.pin (pcfgs (F := F)) noTab) cells_inj), (1 : Counters)))

/-- What device `d` takes of the pipelines' ghost state. -/
def G (d : Dev nD) : sProp 𝕄 :=
  iprop((bigSep Finset.univ fun p : Fin 2 => Pipeline.cellsGhost (Pipeline.pin (pcfgs (F := F)) noTab) EP p d)
    ∗ (bigSep Finset.univ fun p : Fin 2 => Pipeline.toksInit (Pipeline.pin (pcfgs (F := F)) noTab) EP p d))

omit [FloatOps F] [Named F] in
theorem bigSep_nothing {I : Type} (s : Finset I) : (bigSep s fun _ => iprop(emp)) = (iprop(emp) : sProp 𝕄) := bigSep_emp_const s

theorem ctx_lev (κ : GSem nD τ sig → ℕ) : (K (F := F)).ctx EH (P (scL m) (scT m) (scP m)) κ ⊢ (levAts (K (F := F)).L (K (F := F)).lev : sProp 𝕄) := by
  unfold SparseCore.Cfg.ctx
  iintro ⟨H, -⟩
  iexact H

theorem own_EP (x : UP) : (BI.own (((Emb.inl : Emb UP (UP × Counters)).trans (embR (A := UH) (B := UP × Counters))) x) : sProp 𝕄) ⊢ BI.own (EP (F := F) x) :=
  Entails.of_eq rfl

theorem launch_ghost : ownU (u₀ (F := F)) ⊢ |={Set.univ}=> (iprop(BI.own (EH (initOf (K (F := F)).hsCells (K (F := F)).hsToks))
    ∗ (bigSep Finset.univ fun d : Dev nD => G (F := F) d)
    ∗ bigSep Finset.univ fun thr : Thread nD τ => bigSep Finset.univ fun q : Fin 1 => (P (scL m) (scT m) (scP m)).x q thr) : sProp 𝕄) := by
  unfold u₀
  iintro Hu
  ihave H := (ownU_pair _ _) $$ Hu
  icases H with ⟨HH, HR⟩
  ihave H := (own_pair_emb _ _ _) $$ HR
  icases H with ⟨HP, -⟩
  ihave HP := (own_EP _) $$ HP
  imod (Pipeline.fund_ghost (cfgs := Pipeline.pin (pcfgs (F := F)) noTab) EP cells_inj) $$ HP with ⟨Hg, Ht⟩
  imodintro
  isplitl [HH]
  · iexact HH
  isplitl [Hg Ht]
  · unfold G
    rw [bigSep_sep']
    isplitl [Hg]
    · iexact Hg
    iexact Ht
  rw [show (bigSep Finset.univ fun thr : Thread nD τ => bigSep Finset.univ fun q : Fin 1 => (P (scL m) (scT m) (scP m)).x q thr) = bigSep Finset.univ fun _ => (iprop(emp) : sProp 𝕄) from
    bigSep_congr fun _ _ => bigSep_univ_of_subsingleton (0 : Fin 1), bigSep_nothing]
  iempintro

/-- What the TensorCore keeps of its state between the calls besides what it owes. -/
theorem tcSt_owes (d : Dev nD) : (K (F := F)).tcSt EH d 1 ⊢ (iprop(owesT (F := F) d ∗ (owesT (F := F) d -∗ (K (F := F)).tcSt EH d 1)) : sProp 𝕄) := by
  have h0 : (K (F := F)).Otc d 1 = 0 := by
    unfold SparseCore.Cfg.Otc
    exact Finset.sum_eq_zero fun q _ => if_neg (by have := q.isLt; omega)
  unfold SparseCore.Cfg.tcSt owesT
  rw [h0]
  iintro ⟨Ho, Hr⟩
  isplitl [Ho]
  · iexact Ho
  iintro Ho
  isplitl [Ho]
  · iexact Ho
  iexact Hr

theorem pre_blocks [∀ e, Nonempty (Elt F e)] (d : Dev nD) : (segBlocks m).pre d = iprop(unscopedBufs d (fun b => at2 m d (dr b)) ∗ owesT (F := F) d) := rfl
theorem post_blocks [∀ e, Nonempty (Elt F e)] (d : Dev nD) : (segBlocks m).post d = iprop(unscopedBufs d (fun b => at3 m d (dr b)) ∗ owesT (F := F) d) := rfl

theorem pre_merge [∀ e, Nonempty (Elt F e)] (d : Dev nD) : (segMerge m).pre d = iprop(unscopedBufs d (fun b => at4 m d (dr b)) ∗ owesT (F := F) d) := rfl
theorem post_merge [∀ e, Nonempty (Elt F e)] (d : Dev nD) : (segMerge m).post d = iprop(unscopedBufs d (fun b => at5 m d (dr b)) ∗ owesT (F := F) d) := rfl

/-- What device `d` ends with. -/
abbrev FIN (d : Dev nD) : sProp 𝕄 := held (SparseCore.T d : Thread nD τ) ucs (at6 m d)

omit [FloatOps F] [Named F] in
theorem fin2_eq (f : Fin 2 → sProp 𝕄) : bigSep Finset.univ f = iprop(f 0 ∗ f 1) := by
  rw [show (Finset.univ : Finset (Fin 2)) = {0, 1} by decide, SparseCore.bigSep_insert' (by decide), bigSep_singleton]

omit [FloatOps F] [Named F] in
theorem sub_of {s : Finset (DevRef τ sig)} (h : s ⊆ (StableHlo.tcRefs τ sig).filter fun b => ¬ b.isScoped) : s ⊆ ucs := h

omit [FloatOps F] [Named F] in
theorem sub_pair {x y : Ref sig .tc} (hx : x.isScoped = false) (hy : y.isScoped = false) : ({dr x} ∪ {dr y} : Finset (DevRef τ sig)) ⊆ ucs := by
  intro b hb
  rcases Finset.mem_union.mp hb with h | h <;> rw [Finset.mem_singleton.mp h] <;> refine Finset.mem_filter.mpr ⟨StableHlo.devRef_mem_tcRefs _, ?_⟩
  · exact fun h => by rw [show (dr x).isScoped = x.isScoped from rfl, hx] at h; cases h
  · exact fun h => by rw [show (dr y).isScoped = y.isScoped from rfl, hy] at h; cases h

set_option maxHeartbeats 1000000 in
/-- `@main` on device `d`'s TensorCore. -/
theorem hmain [∀ e, Nonempty (Elt F e)] (κ : GSem nD τ sig → ℕ) (d : Dev nD) :
    iprop((K (F := F)).ctx EH (P (scL m) (scT m) (scP m)) κ ∗ (K (F := F)).tcSt EH d 0 ∗ (K (F := F)).tcRes m ρ d ∗ G (F := F) d)
      ⊢ (wp frame (wpE ((K (F := F)).defs (D (F := F))) 𝒱 (SparseCore.T d) none) Set.univ (main d)
          fun _ => iprop((K (F := F)).tcSt EH d 1 ∗ FIN m d ∗ (K (F := F)).tcEnd d) : sProp 𝕄) := by
  unfold SparseCore.Cfg.tcRes SparseCore.Cfg.tcEnd G
  rw [fin2_eq, fin2_eq]
  simp only [main, wp_bind, wp_pure]
  iintro ⟨#Hctx, Hst, ⟨Hb, Hu, Hts, -⟩, ⟨Hg0, Hg1⟩, Ht0, Ht1⟩
  ihave Hh := (Entails.of_eq ((show (unscopedBufs d (fun b => m ((SparseCore.T d).loc b)) : sProp 𝕄) = unscopedBufs d fun b => at0 m d (dr b) from rfl).trans
    (unscoped_eq_held d (at0 m d)))) $$ Hu
  iapply (wp_hlo_within 𝒱 (SparseCore.T d) none Set.univ (op := opA) (S := ucs) (sub_pair (x := main_arg0) (y := main_v0) (by decide) (by decide)) (V := at0 m d)) $$ [Hb Hh]
  · isplitl [Hb] <;> iassumption
  iintro ⟨Hb, Hh⟩
  rw [wp_ret]; imodintro
  iapply (wp_hlo_within 𝒱 (SparseCore.T d) none Set.univ (op := opB) (S := ucs) (sub_pair (x := main_v0) (y := main_v1) (by decide) (by decide)) (V := opA.result (at0 m d))) $$ [Hb Hh]
  · isplitl [Hb] <;> iassumption
  iintro ⟨Hb, Hh⟩
  rw [wp_ret]; imodintro
  iapply (wp_hlo_within 𝒱 (SparseCore.T d) none Set.univ (op := opC) (S := ucs) (sub_pair (x := main_arg2) (y := main_v2) (by decide) (by decide)) (V := opB.result (opA.result (at0 m d)))) $$ [Hb Hh]
  · isplitl [Hb] <;> iassumption
  iintro ⟨Hb, Hh⟩
  rw [wp_ret]; imodintro
  iapply (wp_hlo_within 𝒱 (SparseCore.T d) none Set.univ (op := opD) (S := ucs) (sub_pair (x := main_arg1) (y := main_v3) (by decide) (by decide)) (V := opC.result (opB.result (opA.result (at0 m d))))) $$ [Hb Hh]
  · isplitl [Hb] <;> iassumption
  iintro ⟨Hb, Hh⟩
  rw [wp_ret]; imodintro
  iapply (wp_hlo_within 𝒱 (SparseCore.T d) none Set.univ (op := opE) (S := ucs) (sub_pair (x := main_arg1) (y := main_v4) (by decide) (by decide)) (V := opD.result (opC.result (opB.result (opA.result (at0 m d)))))) $$ [Hb Hh]
  · isplitl [Hb] <;> iassumption
  iintro ⟨Hb, Hh⟩
  rw [wp_ret]; imodintro
  -- the SparseCore call
  ihave Hh := (Entails.of_eq (show held (SparseCore.T d : Thread nD τ) ucs (opE.result (opD.result (opC.result (opB.result (opA.result (at0 m d))))))
    = (held (SparseCore.T d : Thread nD τ) ucs (at1 m d) : sProp 𝕄) from rfl)) $$ Hh
  ihave Hd := (held_deal m d) $$ Hh
  icases Hd with ⟨Hk, Hd, Hr⟩
  iapply ((K (F := F)).wp_run (D (F := F)) 𝒱 (EH := EH) (P := P (scL m) (scT m) (scP m)) κ d 0) $$ [Hst Hb Hts Hk Hd Hr Hg0 Hg1 Ht0 Ht1]
  isplitr
  · iexact Hctx
  isplitl [Hst]
  · iexact Hst
  isplitl [Hd]
  · iexact Hd
  iintro ⟨Hst, Hd⟩
  ihave Hh := (held_gather m d) $$ [Hk Hd Hr]
  · isplitl [Hk]
    · iexact Hk
    isplitl [Hd]
    · iexact Hd
    iexact Hr
  ihave Hst := (Entails.of_eq (show (K (F := F)).tcSt EH d ((0 : Fin 1).val + 1) = ((K (F := F)).tcSt EH d 1 : sProp 𝕄) from rfl)) $$ Hst
  ihave Hst := (tcSt_owes d) $$ Hst
  icases Hst with ⟨Ho, Hst⟩
  ihave Hlev := (ctx_lev m κ) $$ Hctx
  icases Hlev with #Hlev
  -- the block call
  iapply (run_region (segBlocks m) d _)
  rw [pre_blocks, post_blocks]
  isplitl [Hts Hg1 Ht1 Hst]
  · iintro ⟨Hb, Hu, Ho⟩
    ihave Hh := (Entails.of_eq (unscoped_eq_held d (at3 m d))) $$ Hu
    iapply (wp_hlo_within 𝒱 (SparseCore.T d) none Set.univ (op := opG) (S := ucs) (sub_pair (x := main_v5_0) (y := main_v7) (by decide) (by decide)) (V := at3 m d)) $$ [Hb Hh]
    · isplitl [Hb] <;> iassumption
    iintro ⟨Hb, Hh⟩
    rw [wp_ret]; imodintro
    iapply (wp_hlo_within 𝒱 (SparseCore.T d) none Set.univ (op := opH) (S := ucs) (sub_pair (x := main_v5_1) (y := main_v8) (by decide) (by decide)) (V := opG.result (at3 m d))) $$ [Hb Hh]
    · isplitl [Hb] <;> iassumption
    iintro ⟨Hb, Hh⟩
    rw [wp_ret]; imodintro
    iapply (run_region (segMerge m) d _)
    rw [pre_merge, post_merge]
    isplitl [Hts Hst]
    · iintro ⟨Hb, Hu, Ho⟩
      ihave Hh := (Entails.of_eq (unscoped_eq_held d (at5 m d))) $$ Hu
      iapply (wp_hlo_within 𝒱 (SparseCore.T d) none Set.univ (op := opI) (S := ucs) (sub_pair (x := main_v9) (y := main_v10) (by decide) (by decide)) (V := at5 m d)) $$ [Hb Hh]
      · isplitl [Hb] <;> iassumption
      iintro ⟨Hb, Hh⟩
      rw [wp_ret]; imodintro
      imodintro
      isplitl [Hst Ho]
      · iapply Hst; iexact Ho
      isplitl [Hh]
      · iexact Hh
      isplitl [Hb] <;> iassumption
    isplitl [Hb]
    · iexact Hb
    isplitl [Hh Ho]
    · isplitl [Hh]
      · iapply (Entails.of_eq (unscoped_eq_held d (at4 m d)).symm); iexact Hh
      iexact Ho
    isplitr
    · iexact Hlev
    isplitl [Hg1]
    · iexact Hg1
    iexact Ht1
  isplitl [Hb]
  · iexact Hb
  isplitl [Hh Ho]
  · isplitl [Hh]
    · iapply (Entails.of_eq (unscoped_eq_held d (at2 m d)).symm); iexact Hh
    iexact Ho
  isplitr
  · iexact Hlev
  isplitl [Hg0]
  · iexact Hg0
  iexact Ht0

/-! ## The program's run -/

/-- What is read off a device's memory at the end: the arguments and the result. -/
def fq (d : Dev nD) (s' : Phys nD τ sig (Elt F)) : Prop := ∀ b ∈ ({dr main_arg0, dr main_arg1, dr main_arg2, dr main_v10} : Finset (DevRef τ sig)), s'.mem.mem (d, b) = at6 m d b

theorem hfin (d : Dev nD) (s' : Phys nD τ sig (Elt F)) : iprop(FIN m d ∗ SI s') ⊢ (⌜fq m d s'⌝ : sProp 𝕄) := by
  have key : ∀ b ∈ ucs, iprop(FIN m d ∗ SI s') ⊢ (⌜s'.mem.mem (d, b) = at6 m d b⌝ : sProp 𝕄) := by
    intro b hb
    rw [show FIN m d = held (SparseCore.T d : Thread nD τ) ucs (at6 m d) from rfl, held_sub_split _ (Finset.singleton_subset_iff.mpr hb)]
    unfold held
    rw [bigSep_singleton]
    iintro ⟨⟨Hb, -⟩, HSI⟩
    ihave H := (SI_pointsTo_agree (st := s') (ℓ := ((d, b) : Loc nD τ sig)) (I := Finset.univ) (q := fullShare) (f := at6 m d b)) $$ [HSI Hb]
    · isplitl [HSI] <;> iassumption
    icases H with %h
    ipureintro; exact funext fun i => h i (Finset.mem_univ i)
  have hs : ({dr main_arg0, dr main_arg1, dr main_arg2, dr main_v10} : Finset (DevRef τ sig)) ⊆ ucs := sub_of (by decide)
  unfold fq
  have h4 : ∀ b ∈ ({dr main_arg0, dr main_arg1, dr main_arg2, dr main_v10} : Finset (DevRef τ sig)), iprop(FIN m d ∗ SI s') ⊢ (⌜s'.mem.mem (d, b) = at6 m d b⌝ : sProp 𝕄) :=
    fun b hb => key b (hs hb)
  intro r hr b hb
  exact h4 b hb r hr

theorem run_main [∀ e, Nonempty (Elt F e)] (Q : PUnit × MemSt nD τ sig (Elt F) → Prop)
    (hQ : ∀ s' : Phys nD τ sig (Elt F), (∀ d, fq m d s') → (s'.mem.sem = fun _ => 0) → Q (⟨⟩, s'.mem)) :
    θ_run (Cert.KernelIdeal.defs (F := F)) (Cert.KernelIdeal.threads (F := F)) ⟨m, fun _ => 0, ρ⟩ Q :=
  SparseCore.Cfg.θ_run_sc_quiescent (K := K (F := F)) (D := D (F := F)) (𝒱 := 𝒱) (EH := EH) (P := P (scL m) (scT m) (scP m)) (A := ∅) facts v₀
    (fun q hq => match q with | 0 => nomatch hq)
    (fun q _ => match q with | 0 => tileObl (scL m) (scT m) (scP m) facts)
    (fun q _ => match q with | 0 => SparseCore.Cfg.VecSplit.of_plain (vecSplit (scL m) (scT m) (scP m)))
    m ρ main (G (F := F)) (FIN m) (u₀ (F := F)) (sep_elim_left.trans (launch_ghost m)) (hmain m ρ) (fq m) (hfin m) Q hQ

end Cert.Proof.Scan

end
-- ==== Proof.Frames.lean ====
/-
  What the buffers end holding: the arguments as they were, the result the merging call's; and the kernel's two frames.
-/
module

public import proofs.«01_k».proof.Defs
public import proofs.«01_k».proof.Proof.Gen.Kernel
public import proofs.«01_k».proof.Proof.LaunchRun

@[expose] public section

noncomputable section

namespace Cert.Proof.Scan

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (result_of_writes_ne)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- A buffer none of the host's layouts before the SparseCore call writes. -/
theorem at1_keep (d : Dev nD) {b : Ref sig .tc} (h0 : b ≠ main_v0) (h1 : b ≠ main_v1) (h2 : b ≠ main_v2) (h3 : b ≠ main_v3) (h4 : b ≠ main_v4) :
    at1 m d (dr b) = at0 m d (dr b) := by
  unfold at1
  rw [result_of_writes_ne opE _ main_v4 b rfl h4, result_of_writes_ne opD _ main_v3 b rfl h3, result_of_writes_ne opC _ main_v2 b rfl h2,
    result_of_writes_ne opB _ main_v1 b rfl h1, result_of_writes_ne opA _ main_v0 b rfl h0]

theorem at2_keep (d : Dev nD) {b : Ref sig .tc} (h0 : b ≠ main_v5_0) (h1 : b ≠ main_v5_1) : at2 m d (dr b) = at1 m d (dr b) := by
  unfold at2; rw [Function.update_of_ne (dr_ne h1), Function.update_of_ne (dr_ne h0)]

theorem at3_keep (d : Dev nD) {b : Ref sig .tc} (h0 : b ≠ main_v6_0) (h1 : b ≠ main_v6_1) : at3 m d (dr b) = at2 m d (dr b) := by
  unfold at3; rw [Function.update_of_ne (dr_ne h1), Function.update_of_ne (dr_ne h0)]

theorem at4_keep (d : Dev nD) {b : Ref sig .tc} (h0 : b ≠ main_v7) (h1 : b ≠ main_v8) : at4 m d (dr b) = at3 m d (dr b) := by
  unfold at4; rw [result_of_writes_ne opH _ main_v8 b rfl h1, result_of_writes_ne opG _ main_v7 b rfl h0]

theorem at6_keep (d : Dev nD) {b : Ref sig .tc} (h0 : b ≠ main_v9) (h1 : b ≠ main_v10) : at6 m d (dr b) = at4 m d (dr b) := by
  unfold at6 at5; rw [result_of_writes_ne opI _ main_v10 b rfl h1, Function.update_of_ne (dr_ne h0)]

/-- The arguments end as they were. -/
theorem at6_arg0 (d : Dev nD) : at6 m d (dr main_arg0) = m ((SparseCore.T d).loc main_arg0) := by
  rw [at6_keep m d (by decide) (by decide), at4_keep m d (by decide) (by decide), at3_keep m d (by decide) (by decide), at2_keep m d (by decide) (by decide),
    at1_keep m d (by decide) (by decide) (by decide) (by decide) (by decide)]
  rfl
theorem at6_arg1 (d : Dev nD) : at6 m d (dr main_arg1) = m ((SparseCore.T d).loc main_arg1) := by
  rw [at6_keep m d (by decide) (by decide), at4_keep m d (by decide) (by decide), at3_keep m d (by decide) (by decide), at2_keep m d (by decide) (by decide),
    at1_keep m d (by decide) (by decide) (by decide) (by decide) (by decide)]
  rfl
theorem at6_arg2 (d : Dev nD) : at6 m d (dr main_arg2) = m ((SparseCore.T d).loc main_arg2) := by
  rw [at6_keep m d (by decide) (by decide), at4_keep m d (by decide) (by decide), at3_keep m d (by decide) (by decide), at2_keep m d (by decide) (by decide),
    at1_keep m d (by decide) (by decide) (by decide) (by decide) (by decide)]
  rfl

/-- The program runs; the arguments stay, the result is the last stage's, no semaphore is left up. -/
theorem run_ends [∀ e, Nonempty (Elt F e)] :
    θ_run (Cert.KernelIdeal.defs (F := F)) (Cert.KernelIdeal.threads (F := F)) ⟨m, fun _ => 0, ρ⟩ fun r =>
      (∀ c : Dev nD, (r.2.mem ((c.tc : Thread nD τ).loc main_v10) = at6 m c (dr main_v10)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)))
      ∧ r.2.sem = fun _ => 0 :=
  run_main m ρ _ fun s' h hz => ⟨fun c => ⟨h c _ (by simp), (h c (dr main_arg0) (by simp)).trans (at6_arg0 m c),
    (h c (dr main_arg1) (by simp)).trans (at6_arg1 m c), (h c (dr main_arg2) (by simp)).trans (at6_arg2 m c)⟩, hz⟩

end Cert.Proof.Scan

namespace Cert.Proof

open Idealize.ShloMosaic Idealize.SL.Sem

/-- The idealized kernel's frame. -/
theorem frame_ideal : Cert.quiescent_KernelIdeal := fun m ρ _ =>
  (θ_run (Cert.KernelIdeal.defs (F := Ideal)) _ _).mono (fun _ h => ⟨fun c => (h.1 c).2, h.2⟩) (Scan.run_ends (F := Ideal) m ρ)

section
/-- At the machine's floats the named constant is the printed one. -/
local instance named_bits : Named Bits := ⟨fun _ _ φ b => FloatOps.ofBits φ b⟩

/-- At the machine's floats the kernels' bodies are the idealized program's. -/
theorem bodies_eq : Cert.Kernel.defs₀ (F := Bits) = Cert.KernelIdeal.defs₀ (F := Bits) := by
  funext p l a
  match p, l, a with
  | .scVector c s, 0, _ => rfl
  | .tc, 1, (t, s) => rfl
  | .tc, 2, (t, s) => rfl
  | .tc, 0, _ => rfl
  | .scVector c s, 1, _ => rfl
  | .scVector c s, 2, _ => rfl
  | .scScalar c, 0, _ => rfl
  | .scScalar c, 1, _ => rfl
  | .scScalar c, 2, _ => rfl

/-- And so is the whole body table. -/
theorem defs_eq : Cert.Kernel.defs (F := Bits) = Cert.KernelIdeal.defs (F := Bits) := by
  unfold Cert.Kernel.defs Cert.KernelIdeal.defs
  rw [bodies_eq]
  rfl

/-- And the threads. -/
theorem threads_eq : Cert.Kernel.threads (F := Bits) = Cert.KernelIdeal.threads (F := Bits) := rfl

/-- The kernel's frame: at the machine's floats the two programs are one. -/
theorem frame_kernel : Cert.quiescent_Kernel := by
  intro m ρ _
  have h := (θ_run (Cert.KernelIdeal.defs (F := Bits)) (Cert.KernelIdeal.threads (F := Bits)) _).mono
    (fun r (h : (∀ c : Dev Cert.KernelIdeal.nD, _ ∧ _) ∧ r.2.sem = _) => (⟨fun c => (h.1 c).2, h.2⟩ : (∀ c : Dev Cert.KernelIdeal.nD, _) ∧ r.2.sem = _))
    (Scan.run_ends (F := Bits) m ρ)
  rw [defs_eq]
  exact h
end

/-- The one rewrite of the idealization: the large negative constant named, at the extended reals minus infinity. -/
theorem preserves : Cert.preserves_Kernel_KernelIdeal := ⟨rfl, fun _ => rfl, rfl⟩

end Cert.Proof

end
-- ==== Proof.RefRun.lean ====
/-
  The reference's run: a program of host operations only, its result as one term of its arguments.
-/
module

public import proofs.«01_k».proof.Defs
public import proofs.«01_k».proof.Proof.Gen.ReferenceIdeal
public import Idealize.ShloMosaic.Lib.Claim

@[expose] public section

namespace Cert.Proof.Ref

open Idealize.ShloMosaic Idealize.SL.Sem
open Cert.ReferenceIdeal
open Facts₀ Facts

/-- The penalized logits of the reference, one row a batch entry. -/
noncomputable def refPen (l : FVec Ideal S128x1x100000 .f32) (p : FVec Ideal S128x1 .f32) (t : IVec S128x100000 32) : FVec Ideal S128x100000 .f32 :=
  select (cmpi .sgt t (broadcastInDim S128x100000 ![] bcast_S_S128x100000 (constantI S_ 32 0#32)))
    (select (cmpf .ogt (shapeCast S128x100000 l shapeCasts_S128x1x100000_S128x100000) (broadcastInDim S128x100000 ![] bcast_S_S128x100000 (constant S_ .f32 0x00000000#32)))
      (mulf (shapeCast S128x100000 l shapeCasts_S128x1x100000_S128x100000)
        (broadcastInDim S128x100000 ![0, 1] bcast_S128x1_S128x100000_0_1 (Host.divf (broadcastInDim S128x1 ![] bcast_S_S128x1 (constant S_ .f32 0x3F800000#32)) p)))
      (mulf (shapeCast S128x100000 l shapeCasts_S128x1x100000_S128x100000) (broadcastInDim S128x100000 ![0, 1] bcast_S128x1_S128x100000_0_1 p)))
    (shapeCast S128x100000 l shapeCasts_S128x1x100000_S128x100000)

/-- The arg-max of an operand of one row a batch entry. -/
noncomputable def argOf (x : FVec Ideal S128x100000 .f32) : IVec S128x1 32 := fun j =>
  (Host.argReduce (reducer_argmax_f32_i32 (F := Ideal)) (broadcastInDim S128x1x100000 ![0, 2] bcast_S128x100000_S128x1x100000_0_2 x) (iotaInDim S128x1x100000 32 2)
    (constant S_ .f32 0xFF800000#32) (constantI S_ 32 0#32) reducesTo_S128x1x100000_S128x1_d2 h_S_ j).2

/-- What the reference returns of its arguments. -/
noncomputable def refOut (l : FVec Ideal S128x1x100000 .f32) (p : FVec Ideal S128x1 .f32) (t : IVec S128x100000 32) : IVec S128x1 32 :=
  argOf (refPen l p t)

/-- The reference runs; its arguments stay, and it ends with `refOut` of them. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run
  rfl

/-- The reference's frame: it runs, its arguments stay, no semaphore is left up. -/
theorem frame : Cert.quiescent_ReferenceIdeal := fun m ρ _ =>
  (θ_run (defs (F := Ideal)) _ _).mono (fun r h => ⟨fun c => (h c).2, Idealize.ShloMosaic.sem_eq_zero_of_no_sems (by decide) r.2⟩) (run_main m ρ)

end Cert.Proof.Ref

end
-- ==== Proof.Best.lean ====
/-
  What "the greatest value of a family at its first index" means, and how such pairs combine.
-/
module

public import Idealize.ShloMosaic.PureOps.Ideal.Laws

@[expose] public section

namespace Cert.Proof.Best

open Idealize.ShloMosaic

/-- A pair bounds the family over `A`; unless its value is the least one its index is the first of `A` at that value. -/
structure Weak (f : ℕ → EReal) (A : Set ℕ) (s : EReal × BitVec 32) : Prop where
  ub : ∀ v ∈ A, f v ≤ s.1
  lt : s.2.toNat < 100000
  at_ : s.1 ≠ ⊥ → s.2.toNat ∈ A ∧ f s.2.toNat = s.1 ∧ ∀ v ∈ A, f v = s.1 → s.2.toNat ≤ v

/-- A pair holds the family's greatest value over `A` and the first index of `A` that has it. -/
structure First (f : ℕ → EReal) (A : Set ℕ) (s : EReal × BitVec 32) : Prop where
  ub : ∀ v ∈ A, f v ≤ s.1
  lt : s.2.toNat < 100000
  mem : s.2.toNat ∈ A
  val : f s.2.toNat = s.1
  first : ∀ v ∈ A, f v = s.1 → s.2.toNat ≤ v

theorem First.weak {f : ℕ → EReal} {A : Set ℕ} {s : EReal × BitVec 32} (h : First f A s) : Weak f A s :=
  ⟨h.ub, h.lt, fun _ => ⟨h.mem, h.val, h.first⟩⟩

theorem Weak.first_of_ne {f : ℕ → EReal} {A : Set ℕ} {s : EReal × BitVec 32} (h : Weak f A s) (hs : s.1 ≠ ⊥) : First f A s :=
  ⟨h.ub, h.lt, (h.at_ hs).1, (h.at_ hs).2.1, (h.at_ hs).2.2⟩

/-- Two such pairs over one set have one index. -/
theorem First.unique {f : ℕ → EReal} {A : Set ℕ} {s s' : EReal × BitVec 32} (h : First f A s) (h' : First f A s') : s.2 = s'.2 := by
  have e : s.1 = s'.1 := le_antisymm (h.val ▸ h'.ub _ h.mem) (h'.val ▸ h.ub _ h'.mem)
  exact BitVec.eq_of_toNat_eq (le_antisymm (h.first _ h'.mem (h'.val.trans e.symm)) (h'.first _ h.mem (h.val.trans e)))

/-- A family that agrees on the set has the same pairs. -/
theorem First.congr {f g : ℕ → EReal} {A : Set ℕ} {s : EReal × BitVec 32} (h : First f A s) (e : ∀ v ∈ A, f v = g v) : First g A s :=
  ⟨fun v hv => e v hv ▸ h.ub v hv, h.lt, h.mem, (e _ h.mem).symm.trans h.val, fun v hv hg => h.first v hv ((e v hv).trans hg)⟩

/-- The least value at index zero, of no element yet. -/
theorem weak_empty (f : ℕ → EReal) : Weak f ∅ (⊥, 0#32) :=
  ⟨fun _ h => h.elim, by decide, fun h => (h rfl).elim⟩

/-- A new last element replaces the pair where strictly greater. -/
theorem Weak.step {f : ℕ → EReal} {A : Set ℕ} {s : EReal × BitVec 32} (h : Weak f A s) {v : ℕ} (hv : ∀ w ∈ A, w < v) (hl : v < 100000) :
    Weak f (insert v A) (if s.1 < f v then (f v, BitVec.ofNat 32 v) else s) := by
  have hn : (BitVec.ofNat 32 v).toNat = v := by rw [BitVec.toNat_ofNat]; exact Nat.mod_eq_of_lt (by omega)
  split
  · next c =>
    refine ⟨?_, by rw [hn]; exact hl, fun _ => ?_⟩
    · rintro w (rfl | hw)
      · exact le_rfl
      · exact (h.ub w hw).trans c.le
    · rw [hn]
      refine ⟨Or.inl rfl, rfl, ?_⟩
      rintro w (rfl | hw) e
      · exact le_rfl
      · exact absurd (e.symm.le.trans (h.ub w hw)) (not_le.2 c)
  · next c =>
    refine ⟨?_, h.lt, fun hb => ?_⟩
    · rintro w (rfl | hw)
      · exact not_lt.1 c
      · exact h.ub w hw
    · obtain ⟨h1, h2, h3⟩ := h.at_ hb
      refine ⟨Or.inr h1, h2, ?_⟩
      rintro w (rfl | hw) e
      · exact (hv _ h1).le
      · exact h3 w hw e

/-- Of two pairs the greater, at equal values the one of the lesser index, is the pair of the union. -/
theorem Weak.merge {f : ℕ → EReal} {A B : Set ℕ} {a b : EReal × BitVec 32} (ha : Weak f A a) (hb : Weak f B b) :
    Weak f (A ∪ B) (if a.1 < b.1 ∨ (b.1 = a.1 ∧ b.2.toNat < a.2.toNat) then b else a) := by
  split
  · next c =>
    have hle : a.1 ≤ b.1 := c.elim le_of_lt fun h => h.1.ge
    refine ⟨?_, hb.lt, fun hn => ?_⟩
    · rintro w (hw | hw)
      · exact (ha.ub w hw).trans hle
      · exact hb.ub w hw
    · obtain ⟨h1, h2, h3⟩ := hb.at_ hn
      refine ⟨Or.inr h1, h2, ?_⟩
      rintro w (hw | hw) e
      · rcases c with c | ⟨c, c'⟩
        · exact absurd (e ▸ ha.ub w hw) (not_le.2 c)
        · exact c'.le.trans ((ha.at_ (c ▸ hn)).2.2 w hw (e.trans c))
      · exact h3 w hw e
  · next c =>
    have c1 : b.1 ≤ a.1 := not_lt.1 fun h => c (Or.inl h)
    refine ⟨?_, ha.lt, fun hn => ?_⟩
    · rintro w (hw | hw)
      · exact ha.ub w hw
      · exact (hb.ub w hw).trans c1
    · obtain ⟨h1, h2, h3⟩ := ha.at_ hn
      refine ⟨Or.inl h1, h2, ?_⟩
      rintro w (hw | hw) e
      · exact h3 w hw e
      · have e' : b.1 = a.1 := le_antisymm c1 (e ▸ hb.ub w hw)
        exact (not_lt.1 fun h => c (Or.inr ⟨e', h⟩)).trans ((hb.at_ (e' ▸ hn)).2.2 w hw (e.trans e'.symm))

/-- A later set's pair replaces an earlier set's where strictly greater. -/
theorem First.later {f : ℕ → EReal} {A B : Set ℕ} {a b : EReal × BitVec 32} (ha : First f A a) (hb : First f B b) (hAB : ∀ v ∈ A, ∀ w ∈ B, v ≤ w) :
    First f (A ∪ B) (if a.1 < b.1 then b else a) := by
  split
  · next c =>
    refine ⟨?_, hb.lt, Or.inr hb.mem, hb.val, ?_⟩
    · rintro w (hw | hw)
      · exact (ha.ub w hw).trans c.le
      · exact hb.ub w hw
    · rintro w (hw | hw) e
      · exact absurd (e ▸ ha.ub w hw) (not_le.2 c)
      · exact hb.first w hw e
  · next c =>
    refine ⟨?_, ha.lt, Or.inl ha.mem, ha.val, ?_⟩
    · rintro w (hw | hw)
      · exact ha.ub w hw
      · exact (hb.ub w hw).trans (not_lt.1 c)
    · rintro w (hw | hw) e
      · exact ha.first w hw e
      · exact hAB _ ha.mem _ hw

/-- The greatest of a family of pairs' values, with the least of the indices that have it, is the pair of all the sets. -/
theorem pick {ι : Type} {f : ℕ → EReal} {A : ι → Set ℕ} {s : ι → EReal × BitVec 32} {M : EReal} {R : BitVec 32}
    (hub : ∀ i, ∀ v ∈ A i, f v ≤ (s i).1) (hs : ∀ i, (s i).1 = M → First f (A i) (s i))
    (hM : ∀ i, (s i).1 ≤ M) (hM' : ∃ i, (s i).1 = M)
    (hR : ∀ i, R.toNat ≤ (if (s i).1 = M then (s i).2 else 1073741824#32).toNat)
    (hR' : ∃ i, R = if (s i).1 = M then (s i).2 else 1073741824#32) : First f (⋃ i, A i) (M, R) := by
  obtain ⟨k, hk⟩ := hM'
  have hRk : R.toNat ≤ (s k).2.toNat := by have := hR k; rwa [if_pos hk] at this
  obtain ⟨i, hi⟩ := hR'
  by_cases c : (s i).1 = M
  · rw [if_pos c] at hi
    have h := hs i c
    refine ⟨?_, hi ▸ h.lt, Set.mem_iUnion.2 ⟨i, hi ▸ h.mem⟩, hi ▸ h.val.trans c, ?_⟩
    · intro v hv
      obtain ⟨j, hj⟩ := Set.mem_iUnion.1 hv
      exact (hub j v hj).trans (hM j)
    · intro v hv e
      obtain ⟨j, hj⟩ := Set.mem_iUnion.1 hv
      have cj : (s j).1 = M := le_antisymm (hM j) (e.symm.le.trans (hub j v hj))
      have := hR j
      rw [if_pos cj] at this
      exact this.trans ((hs j cj).first v hj (e.trans cj.symm))
  · rw [if_neg c] at hi
    have := (hs k hk).lt
    rw [hi] at hRk
    have e : (1073741824#32).toNat = 1073741824 := rfl
    omega

/-! ## The folds of a reduction -/

/-- A word below half the range reads the same signed. -/
theorem slt_small {a b : BitVec 32} (ha : a.toNat < 2147483648) (hb : b.toNat < 2147483648) : a.slt b = decide (a.toNat < b.toNat) := by
  rw [BitVec.slt_eq_decide, BitVec.toInt_eq_toNat_of_lt (by omega), BitVec.toInt_eq_toNat_of_lt (by omega)]
  simp

/-- The signed lesser of two words below half the range is the lesser. -/
theorem minsi_small {a b : BitVec 32} (ha : a.toNat < 2147483648) (hb : b.toNat < 2147483648) :
    IntOp.minsi a b = if a.toNat < b.toNat then a else b := by
  unfold IntOp.minsi
  rw [slt_small ha hb]
  simp

/-- A signed minimum from the greatest word: a lower bound, and attained. -/
theorem fold_minsi {ι : Type} [DecidableEq ι] (g : ι → BitVec 32) (S : Finset ι) (hg : ∀ i ∈ S, (g i).toNat < 2147483647) :
    (∀ i ∈ S, (S.fold IKind.minsi.op 2147483647#32 g).toNat ≤ (g i).toNat)
      ∧ (S.fold IKind.minsi.op 2147483647#32 g = 2147483647#32 ∨ ∃ i ∈ S, S.fold IKind.minsi.op 2147483647#32 g = g i) := by
  induction S using Finset.induction_on with
  | empty => exact ⟨fun i h => absurd h (Finset.notMem_empty i), Or.inl rfl⟩
  | insert a S ha ih =>
    obtain ⟨h1, h2⟩ := ih fun i hi => hg i (Finset.mem_insert_of_mem hi)
    have hga := hg a (Finset.mem_insert_self a S)
    rw [Finset.fold_insert ha]
    generalize Finset.fold IKind.minsi.op 2147483647#32 g S = m at h1 h2 ⊢
    have hm : m.toNat < 2147483648 := by
      rcases h2 with rfl | ⟨i, hi, rfl⟩
      · decide
      · have := hg i (Finset.mem_insert_of_mem hi); omega
    have e : IKind.minsi.op (g a) m = if (g a).toNat < m.toNat then g a else m := minsi_small (by omega) hm
    rw [e]
    split
    · next c =>
      refine ⟨fun i hi => ?_, Or.inr ⟨a, Finset.mem_insert_self a S, rfl⟩⟩
      rcases Finset.mem_insert.1 hi with rfl | hi
      · exact le_rfl
      · exact c.le.trans (h1 i hi)
    · next c =>
      refine ⟨fun i hi => ?_, h2.imp id fun ⟨i, hi, h⟩ => ⟨i, Finset.mem_insert_of_mem hi, h⟩⟩
      rcases Finset.mem_insert.1 hi with rfl | hi
      · exact not_lt.1 c
      · exact h1 i hi

/-- A signed minimum over a family with a member is attained. -/
theorem fold_minsi_univ {ι : Type} [DecidableEq ι] [Fintype ι] (k : ι) (g : ι → BitVec 32) (hg : ∀ i, (g i).toNat < 2147483647) :
    (∀ i, (Finset.univ.fold IKind.minsi.op 2147483647#32 g).toNat ≤ (g i).toNat) ∧ ∃ i, Finset.univ.fold IKind.minsi.op 2147483647#32 g = g i := by
  obtain ⟨h1, h2⟩ := fold_minsi g Finset.univ fun i _ => hg i
  refine ⟨fun i => h1 i (Finset.mem_univ i), h2.elim (fun h => ?_) fun ⟨i, _, h⟩ => ⟨i, h⟩⟩
  have := h1 k (Finset.mem_univ k)
  have := hg k
  rw [h] at *
  have e : (2147483647#32).toNat = 2147483647 := rfl
  omega

/-- A maximum from the least value: an upper bound, and attained. -/
theorem fold_max {ι : Type} [DecidableEq ι] (g : ι → EReal) (S : Finset ι) :
    (∀ i ∈ S, g i ≤ S.fold max ⊥ g) ∧ (S.fold max ⊥ g = ⊥ ∨ ∃ i ∈ S, S.fold max ⊥ g = g i) := by
  induction S using Finset.induction_on with
  | empty => exact ⟨fun i h => absurd h (Finset.notMem_empty i), Or.inl rfl⟩
  | insert a S ha ih =>
    obtain ⟨h1, h2⟩ := ih
    rw [Finset.fold_insert ha]
    refine ⟨fun i hi => ?_, ?_⟩
    · rcases Finset.mem_insert.1 hi with rfl | hi
      · exact le_max_left _ _
      · exact (h1 i hi).trans (le_max_right _ _)
    · rcases le_total (Finset.fold max ⊥ g S) (g a) with c | c
      · exact Or.inr ⟨a, Finset.mem_insert_self a S, max_eq_left c⟩
      · rw [max_eq_right c]
        exact h2.imp id fun ⟨i, hi, h⟩ => ⟨i, Finset.mem_insert_of_mem hi, h⟩

/-- A maximum over a family with a member is attained. -/
theorem fold_max_univ {ι : Type} [DecidableEq ι] [Fintype ι] (k : ι) (g : ι → EReal) :
    (∀ i, g i ≤ Finset.univ.fold max ⊥ g) ∧ ∃ i, g i = Finset.univ.fold max ⊥ g := by
  obtain ⟨h1, h2⟩ := fold_max g Finset.univ
  refine ⟨fun i => h1 i (Finset.mem_univ i), h2.elim (fun h => ⟨k, ?_⟩) fun ⟨i, _, h⟩ => ⟨i, h.symm⟩⟩
  rw [h]
  exact le_bot_iff.1 (h ▸ h1 k (Finset.mem_univ k))

end Cert.Proof.Best

end
-- ==== Proof.LaneBest.lean ====
/-
  What a tile's scan keeps of a column: the greatest penalized logit of its stripe at its first row.
-/
module

public import proofs.«01_k».proof.Proof.ScanSpec
public import proofs.«01_k».proof.Proof.Best

@[expose] public section

noncomputable section

namespace Cert.Proof.Scan

open Cert.KernelIdeal Cert.KernelIdeal.Gen
open Idealize.ShloMosaic
open Cert.Proof.Best

/-- A choice by a decided comparison. -/
theorem select_ofBool {α : Type} (p : Bool) (a b : α) : Scalar.select (BitVec.ofBool p) a b = if p = true then a else b := by
  cases p <;> rfl

theorem ogt_ideal (a b : EReal) : (FloatOps.cmpf (F := Ideal) (φ := .f32) .ogt a b : BitVec 1) = BitVec.ofBool (decide (b < a)) := rfl

theorem oeq_ideal (a b : EReal) : (FloatOps.cmpf (F := Ideal) (φ := .f32) .oeq a b : BitVec 1) = BitVec.ofBool (decide (a = b)) := rfl

theorem slt_cmpi (a b : BitVec 32) : IntOp.cmpi .slt a b = BitVec.ofBool (a.slt b) := rfl

/-- The scans' start is the least extended real at index zero. -/
theorem lane0_ideal : (lane0 (F := Ideal)) = ((⊥ : EReal), 0#32) := rfl

/-- One row keeps the greater pair. -/
theorem laneStep_ideal (l : EReal) (t idx : BitVec 32) (pen rp : EReal) (s : EReal × BitVec 32) :
    laneStep (F := Ideal) l t idx pen rp s = if s.1 < lanePen (F := Ideal) l t pen rp then (lanePen (F := Ideal) l t pen rp, idx) else s := by
  unfold laneStep
  rw [ogt_ideal, select_ofBool, select_ofBool]
  by_cases c : s.1 < lanePen (F := Ideal) l t pen rp <;> simp [c]

/-- A merge keeps the greater pair, at equal values the one of the lesser index. -/
theorem laneMerge_ideal {a b : EReal × BitVec 32} (ha : a.2.toNat < 100000) (hb : b.2.toNat < 100000) :
    laneMerge (F := Ideal) a b = if a.1 < b.1 ∨ (b.1 = a.1 ∧ b.2.toNat < a.2.toNat) then b else a := by
  unfold laneMerge
  rw [ogt_ideal, oeq_ideal, slt_cmpi, slt_small (by omega) (by omega)]
  by_cases c1 : a.1 < b.1 <;> by_cases c2 : b.1 = a.1 <;> by_cases c3 : b.2.toNat < a.2.toNat <;> simp [c1, c2, c3, Scalar.select] <;>
    exact Prod.ext c2.symm rfl

section

variable (lt : S100000x128.Idx → EReal) (tt : S100000x128.Idx → BitVec 32) (pen : S128.Idx → EReal)

/-- The penalized logit of a vocabulary entry in a column. -/
def penOf (col v : ℕ) : EReal := lanePen (F := Ideal) (lt (ix2 v col)) (tt (ix2 v col)) (pen (ix1 col)) (recip (F := Ideal) (pen (ix1 col)))

/-- The rows quarter `q` of the stripe from row `off` has read after `n` steps. -/
def rowsOf (off q n : ℕ) : Set ℕ := {v | ∃ k, k < n ∧ v = rowAt off q k}

theorem rowsOf_succ (off q n : ℕ) : rowsOf off q (n + 1) = insert (rowAt off q n) (rowsOf off q n) := by
  ext v
  constructor
  · rintro ⟨k, hk, rfl⟩
    rcases Nat.lt_succ_iff_lt_or_eq.1 hk with h | rfl
    · exact Or.inr ⟨k, h, rfl⟩
    · exact Or.inl rfl
  · rintro (rfl | ⟨k, hk, rfl⟩)
    · exact ⟨n, Nat.lt_succ_self n, rfl⟩
    · exact ⟨k, Nat.lt_succ_of_lt hk, rfl⟩

/-- A quarter's scan keeps the greatest penalized logit of its rows at its first. -/
theorem laneAcc_weak {off q : ℕ} (col : ℕ) (ho : off ≤ 98800) (hq : q < 4) : ∀ n, n ≤ 300 →
    Weak (penOf lt tt pen col) (rowsOf off q n) (laneAcc (F := Ideal) lt tt pen off q col n)
  | 0, _ => by
    have e : rowsOf off q 0 = ∅ := Set.eq_empty_iff_forall_notMem.2 fun v ⟨k, hk, _⟩ => absurd hk (Nat.not_lt_zero k)
    rw [e]; exact weak_empty _
  | n + 1, hn => by
    rw [rowsOf_succ]
    have ih := laneAcc_weak col ho hq n (by omega)
    have e : laneAcc (F := Ideal) lt tt pen off q col (n + 1)
        = if (laneAcc (F := Ideal) lt tt pen off q col n).1 < penOf lt tt pen col (rowAt off q n)
          then (penOf lt tt pen col (rowAt off q n), BitVec.ofNat 32 (rowAt off q n)) else laneAcc (F := Ideal) lt tt pen off q col n :=
      laneStep_ideal _ _ _ _ _ _
    rw [e]
    refine ih.step ?_ ?_
    · rintro w ⟨k, hk, rfl⟩
      unfold rowAt
      omega
    · unfold rowAt
      omega

/-- The four quarters' rows are the stripe's. -/
theorem rowsOf_union (off : ℕ) : rowsOf off 0 300 ∪ rowsOf off 1 300 ∪ rowsOf off 2 300 ∪ rowsOf off 3 300 = {v | off ≤ v ∧ v < off + 1200} := by
  ext v
  constructor
  · rintro (((⟨k, hk, rfl⟩ | ⟨k, hk, rfl⟩) | ⟨k, hk, rfl⟩) | ⟨k, hk, rfl⟩) <;>
    · show _ ≤ _ ∧ _ < _
      unfold rowAt
      omega
  · rintro ⟨h1, h2⟩
    have key : ∀ q, q = (v - off) % 200 / 50 → v ∈ rowsOf off q 300 := fun q hq =>
      ⟨50 * ((v - off) / 200) + (v - off) % 50, by omega, by unfold rowAt; omega⟩
    have hq : (v - off) % 200 / 50 < 4 := by omega
    rcases (by omega : (v - off) % 200 / 50 = 0 ∨ (v - off) % 200 / 50 = 1 ∨ (v - off) % 200 / 50 = 2 ∨ (v - off) % 200 / 50 = 3) with h | h | h | h
    · exact Or.inl (Or.inl (Or.inl (key 0 h.symm)))
    · exact Or.inl (Or.inl (Or.inr (key 1 h.symm)))
    · exact Or.inl (Or.inr (key 2 h.symm))
    · exact Or.inr (key 3 h.symm)

/-- A tile returns the greatest penalized logit of its stripe at its first row. -/
theorem laneOut_weak {off : ℕ} (col : ℕ) (ho : off ≤ 98800) :
    Weak (penOf lt tt pen col) {v | off ≤ v ∧ v < off + 1200} (laneOut (F := Ideal) lt tt pen off col) := by
  have h0 := laneAcc_weak lt tt pen col ho (q := 0) (by decide) 300 le_rfl
  have h1 := laneAcc_weak lt tt pen col ho (q := 1) (by decide) 300 le_rfl
  have h2 := laneAcc_weak lt tt pen col ho (q := 2) (by decide) 300 le_rfl
  have h3 := laneAcc_weak lt tt pen col ho (q := 3) (by decide) 300 le_rfl
  have h01 := h0.merge h1
  rw [← laneMerge_ideal h0.lt h1.lt] at h01
  have h012 := h01.merge h2
  rw [← laneMerge_ideal h01.lt h2.lt] at h012
  have h0123 := h012.merge h3
  rw [← laneMerge_ideal h012.lt h3.lt, rowsOf_union] at h0123
  exact h0123

/-- The stripes start between the block scan's end and the last stripe's start. -/
theorem offOf_bounds {w : ℕ} (hw : w < 32) : 64000 ≤ offOf w ∧ offOf w ≤ 98800 := by
  unfold offOf; omega

/-- The stripes cover the vocabulary from the block scan's end. -/
theorem stripes_cover : (⋃ w : Fin 32, {v : ℕ | offOf w.val ≤ v ∧ v < offOf w.val + 1200}) = {v | 64000 ≤ v ∧ v < 100000} := by
  ext v
  rw [Set.mem_iUnion]
  constructor
  · rintro ⟨w, h1, h2⟩
    have := offOf_bounds w.isLt
    exact ⟨by omega, by omega⟩
  · rintro ⟨h1, h2⟩
    by_cases c : (v - 64000) * 31 / 34800 < 32
    · refine ⟨⟨(v - 64000) * 31 / 34800, c⟩, ?_⟩
      unfold offOf
      show 64000 + (v - 64000) * 31 / 34800 * 4350 / 31 * 8 ≤ v ∧ v < 64000 + (v - 64000) * 31 / 34800 * 4350 / 31 * 8 + 1200
      omega
    · refine ⟨⟨31, by decide⟩, ?_⟩
      unfold offOf
      show 64000 + 31 * 4350 / 31 * 8 ≤ v ∧ v < 64000 + 31 * 4350 / 31 * 8 + 1200
      omega

end

end Cert.Proof.Scan

end
-- ==== Proof.BlockBest.lean ====
/-
  What the block scan keeps of a column: the greatest penalized logit of the blocks at its first row.
-/
module

public import proofs.«01_k».proof.Proof.BlockData
public import proofs.«01_k».proof.Proof.LaneBest
public import Idealize.ShloMosaic.Lib.Pipeline.Value

@[expose] public section

noncomputable section

namespace Cert.Proof.Scan

open Cert.KernelIdeal Cert.KernelIdeal.Gen
open Idealize.ShloMosaic
open Cert.Proof.Best

/-- The index of column `c` of a row of 128 elements. -/
def ixRow (c : ℕ) : S1x128.Idx := fun a => ⟨c % S1x128.size a, Nat.mod_lt _ (by revert a; decide)⟩

/-- The start of a maximum is the least extended real. -/
theorem negInf_ideal : (FloatOps.ofBits (F := Ideal) .f32 0xFF800000#32 : EReal) = ⊥ := by
  show Ideal.ofBits .f32 0xFF800000#32 = ⊥
  simp [Ideal.ofBits, Ideal.ieee]

/-- The word of an index below the vocabulary's size reads back. -/
theorem toNat_word {v : ℕ} (h : v < 100000) : (BitVec.ofNat 32 v).toNat = v := by
  rw [BitVec.toNat_ofNat]; exact Nat.mod_eq_of_lt (by omega)

/-- One element's pair is its own set's. -/
theorem first_single (f : ℕ → EReal) {v : ℕ} (h : v < 100000) : First f {v} (f v, BitVec.ofNat 32 v) where
  ub := by rintro w rfl; exact le_rfl
  lt := by rw [toNat_word h]; exact h
  mem := toNat_word h
  val := by rw [toNat_word h]
  first := by rintro w rfl _; exact (toNat_word h).le

/-- A candidate of a merge is below the start of a minimum. -/
theorem cand_lt {p : Prop} [Decidable p] {b : BitVec 32} (h : b.toNat < 100000) : (if p then b else 1073741824#32).toNat < 2147483647 := by
  split
  · omega
  · decide

/-- A signed minimum over one axis is the fold over that axis's coordinates. -/
theorem minsi_single {s t : Shape} {a : Fin s.rank} (src : IVec s 32) (acc : BitVec 32) (h : s.Reduces [a] t) (hacc : acc = IKind.minsi.neutral) (j : t.Idx) :
    multiReductionI .minsi [a] t src acc h hacc j = (Finset.univ : Finset (Fin (s.size a))).fold IKind.minsi.op acc fun k => src (h.lift j k) := by
  classical
  rw [multiReductionI_eq_fold]
  exact h.fold_filter_drop_single _ _ src j

/-- A choice by a decided proposition, whichever way it is decided. -/
theorem select_dec {α : Type} {q : Prop} {i₁ i₂ : Decidable q} (a b : α) : Scalar.select (BitVec.ofBool (@decide q i₁)) a b = @ite α q i₂ a b := by
  by_cases h : q <;> simp [h, Scalar.select]

/-- A choice by an elementwise comparison for greater, at an index. -/
theorem select_ogt_apply {α : Type} {s : Shape} (W V : s.Idx → EReal) (a b : s.Idx → α) (j : s.Idx) :
    select (cmpf (F := Ideal) (φ := .f32) .ogt W V) a b j = if V j < W j then a j else b j := by
  unfold select cmpf
  rw [ogt_ideal]
  exact select_dec _ _

/-- A choice by an elementwise comparison for equality, at an index. -/
theorem select_oeq_apply {α : Type} {s : Shape} (W V : s.Idx → EReal) (a b : s.Idx → α) (j : s.Idx) :
    select (cmpf (F := Ideal) (φ := .f32) .oeq W V) a b j = if W j = V j then a j else b j := by
  unfold select cmpf
  rw [oeq_ideal]
  exact select_dec _ _

/-- A maximum over one axis is the fold over that axis's coordinates from the least extended real. -/
theorem max_single {s t : Shape} {a : Fin s.rank} (src : FVec Ideal s .f32) (h : s.Reduces [a] t) (hφ : FKind.Formats .f32)
    (hacc : 0xFF800000#32 = FKind.maximumf.neutral .f32 hφ) (j : t.Idx) :
    multiReduction .maximumf [a] t src 0xFF800000#32 h hφ hacc j = (Finset.univ : Finset (Fin (s.size a))).fold max (⊥ : EReal) fun k => src (h.lift j k) := by
  refine (Ideal.multiReduction_maximumf_single src _ h hφ hacc j).trans ?_
  rw [negInf_ideal]
  rfl

section

variable (p : Vec Ideal S1x128 .f32) (l : Vec Ideal S8000x128 .f32) (t : Vec Ideal S8000x128 .i32)

theorem k1_pay6_eq : k1_pay6 (F := Ideal) p l t = k1_pay4 (F := Ideal) p l t := by
  unfold k1_pay6; exact shapeCast_self _ _

theorem k1_pay7_eq (i : grid1.Coords) : k1_pay7 (F := Ideal) i p l t = k1_pay5 (F := Ideal) i p l t := by
  unfold k1_pay7; exact shapeCast_self _ _

/-- The kept value after a block: the block's where strictly greater. -/
theorem k1_pay9_apply (V : Vec Ideal S8x128 .f32) (j : S8x128.Idx) :
    k1_pay9 (F := Ideal) p l t V j = if (show EReal from V j) < k1_pay4 (F := Ideal) p l t j then k1_pay4 (F := Ideal) p l t j else V j := by
  have e : k1_pay9 (F := Ideal) p l t V = select (k1_pay8 (F := Ideal) p l t V) (k1_pay4 (F := Ideal) p l t) V := by
    unfold k1_pay9; exact shapeCast_self _ _
  rw [e]
  unfold k1_pay8
  exact select_ogt_apply _ _ _ _ j

/-- The kept index after a block: the block's where its value is strictly greater. -/
theorem k1_pay10_apply (i : grid1.Coords) (V : Vec Ideal S8x128 .f32) (I : Vec Ideal S8x128 .i32) (j : S8x128.Idx) :
    k1_pay10 (F := Ideal) i p l t V I j = if (show EReal from V j) < k1_pay4 (F := Ideal) p l t j then k1_pay5 (F := Ideal) i p l t j else I j := by
  have e : k1_pay10 (F := Ideal) i p l t V I = select (k1_pay8 (F := Ideal) p l t V) (k1_pay5 (F := Ideal) i p l t) I := by
    unfold k1_pay10; exact shapeCast_self _ _
  rw [e]
  unfold k1_pay8
  exact select_ogt_apply _ _ _ _ j

end

section

variable (lt : S100000x128.Idx → EReal) (tt : S100000x128.Idx → BitVec 32) (pen : S128.Idx → EReal) (p : S1x128.Idx → EReal)

/-- The row of a block an index of its three-axis view reads. -/
def ixBlk (x : S1000x8x128.Idx) : S8000x128.Idx := fun a => match a with
  | ⟨0, _⟩ => ⟨8 * (x 0).val + (x 1).val, by
      have h0 : (x 0).val < 1000 := (x 0).isLt
      have h1 : (x 1).val < 8 := (x 1).isLt
      show _ < 8000
      omega⟩
  | ⟨1, _⟩ => ⟨(x 2).val, (x 2).isLt⟩

/-- The penalized block at an index. -/
theorem k1_pay3_apply (hp : ∀ c, p (ixRow c) = pen (ix1 c)) (t : ℕ) (x : S1000x8x128.Idx) :
    k1_pay3 (F := Ideal) p (blkL (F := Ideal) lt t) (blkT (F := Ideal) tt t) x = penOf lt tt pen (x 2).val (8000 * t + (8 * (x 0).val + (x 1).val)) := by
  have h0 : (x 0).val < 1000 := (x 0).isLt
  have h1 : (x 1).val < 8 := (x 1).isLt
  have h2 : (x 2).val < 128 := (x 2).isLt
  unfold k1_pay3
  refine (shapeCast_apply _ _ x (ixBlk x) ?_).trans ?_
  · rw [Shape.rowMajor_val_two, Shape.rowMajor_val_three]
    show (8 * (x 0).val + (x 1).val) * 128 + (x 2).val = ((x 0).val * 8 + (x 1).val) * 128 + (x 2).val
    omega
  · have hb : ∀ (q : S1x128.Idx → EReal), broadcastTo S8000x128 q broadcasts_S1x128_S8000x128 (ixBlk x) = q (ixRow (x 2).val) := fun q => by
      refine broadcastTo_apply q _ _ (ixRow (x 2).val) fun a => ?_
      match a with
      | ⟨0, _⟩ => exact Nat.mod_one _
      | ⟨1, _⟩ => exact Nat.mod_eq_of_lt h2
    simp only [shapeCast_self]
    show Scalar.select _ (FloatOps.minimumf (F := Ideal) (φ := .f32) (FloatOps.mulf (F := Ideal) (φ := .f32) _ (broadcastTo S8000x128 _ _ (ixBlk x)))
      (FloatOps.mulf (F := Ideal) (φ := .f32) _ (broadcastTo S8000x128 _ _ (ixBlk x)))) _ = _
    rw [hb, hb]
    show Scalar.select _ (FloatOps.minimumf (F := Ideal) (φ := .f32) (FloatOps.mulf (F := Ideal) (φ := .f32) _ (recip (F := Ideal) (p (ixRow (x 2).val))))
      (FloatOps.mulf (F := Ideal) (φ := .f32) _ (p (ixRow (x 2).val)))) _ = _
    rw [hp]
    rfl

/-- A block's greatest penalized logits of one residue, at the first row. -/
theorem blk_first (hp : ∀ c, p (ixRow c) = pen (ix1 c)) {t : ℕ} (ht : t < 8) (i : grid1.Coords) (hi : (i 0).val = t) (j : S8x128.Idx) :
    First (penOf lt tt pen (j 1).val) {v | 8000 * t ≤ v ∧ v < 8000 * (t + 1) ∧ v % 8 = (j 0).val}
      (k1_pay4 (F := Ideal) p (blkL (F := Ideal) lt t) (blkT (F := Ideal) tt t) j,
        k1_pay5 (F := Ideal) i p (blkL (F := Ideal) lt t) (blkT (F := Ideal) tt t) j) := by
  classical
  have hj0 : (j 0).val < 8 := (j 0).isLt
  have hj1 : (j 1).val < 128 := (j 1).isLt
  set f := penOf lt tt pen (j 1).val with hf
  have hset : {v | 8000 * t ≤ v ∧ v < 8000 * (t + 1) ∧ v % 8 = (j 0).val} = ⋃ k : Fin 1000, {8000 * t + (8 * k.val + (j 0).val)} := by
    ext v
    rw [Set.mem_iUnion]
    constructor
    · rintro ⟨a, b, c⟩
      refine ⟨⟨(v - 8000 * t) / 8, by omega⟩, ?_⟩
      show v = 8000 * t + (8 * ((v - 8000 * t) / 8) + (j 0).val)
      omega
    · rintro ⟨k, rfl⟩
      have := k.isLt
      show _ ≤ _ ∧ _ < _ ∧ _ = _
      omega
  have hlift : ∀ k : Fin 1000, (k1_pay3 (F := Ideal) p (blkL (F := Ideal) lt t) (blkT (F := Ideal) tt t)) (reduces_S1000x8x128_S8x128.lift j k)
      = f (8000 * t + (8 * k.val + (j 0).val)) := fun k => k1_pay3_apply lt tt pen p hp t _
  have hM : k1_pay4 (F := Ideal) p (blkL (F := Ideal) lt t) (blkT (F := Ideal) tt t) j
      = Finset.univ.fold max ⊥ (fun k : Fin 1000 => f (8000 * t + (8 * k.val + (j 0).val))) := by
    refine (max_single _ reduces_S1000x8x128_S8x128 (.inl rfl) rfl j).trans ?_
    exact congrArg (Finset.fold max ⊥ · Finset.univ) (funext hlift)
  have hR : k1_pay5 (F := Ideal) i p (blkL (F := Ideal) lt t) (blkT (F := Ideal) tt t) j
      = Finset.univ.fold IKind.minsi.op 2147483647#32 (fun k : Fin 1000 =>
        if f (8000 * t + (8 * k.val + (j 0).val)) = k1_pay4 (F := Ideal) p (blkL (F := Ideal) lt t) (blkT (F := Ideal) tt t) j
        then BitVec.ofNat 32 (8000 * t + (8 * k.val + (j 0).val)) else 1073741824#32) := by
    refine (minsi_single _ _ reduces_S1000x8x128_S8x128 rfl j).trans ?_
    refine congrArg (Finset.fold IKind.minsi.op 2147483647#32 · Finset.univ) (funext fun k : Fin 1000 => ?_)
    have hk := k.isLt
    have e1 : broadcastTo S1000x8x128 (shapeCast S1x8x128 (k1_pay4 (F := Ideal) p (blkL (F := Ideal) lt t) (blkT (F := Ideal) tt t)) shapeCasts_S8x128_S1x8x128)
        broadcasts_S1x8x128_S1000x8x128 (reduces_S1000x8x128_S8x128.lift j k) = k1_pay4 (F := Ideal) p (blkL (F := Ideal) lt t) (blkT (F := Ideal) tt t) j := by
      refine (broadcastTo_apply _ _ _ (fun a => match a with | ⟨0, _⟩ => ⟨0, Nat.one_pos⟩ | ⟨1, _⟩ => ⟨(j 0).val, hj0⟩ | ⟨2, _⟩ => ⟨(j 1).val, hj1⟩) fun a => ?_).trans ?_
      · match a with
        | ⟨0, _⟩ => rfl
        | ⟨1, _⟩ => rfl
        | ⟨2, _⟩ => rfl
      · refine shapeCast_apply _ _ _ j ?_
        rw [Shape.rowMajor_val_two, Shape.rowMajor_val_three]
        show (j 0).val * 128 + (j 1).val = (0 * 8 + (j 0).val) * 128 + (j 1).val
        omega
    show Scalar.select (BitVec.ofBool (decide (k1_pay3 (F := Ideal) p (blkL (F := Ideal) lt t) (blkT (F := Ideal) tt t) (reduces_S1000x8x128_S8x128.lift j k)
        = broadcastTo S1000x8x128 _ _ (reduces_S1000x8x128_S8x128.lift j k))))
      (BitVec.ofNat 32 (i 0).val * 8000#32 + iota .tc S1000x8x128 32 [0] _ (reduces_S1000x8x128_S8x128.lift j k) * 8#32 + iota .tc S1000x8x128 32 [1] _ (reduces_S1000x8x128_S8x128.lift j k)) 1073741824#32 = _
    rw [select_ofBool, e1, hlift, iota_single_apply, iota_single_apply, hi]
    have e2 : BitVec.ofNat 32 t * 8000#32 + BitVec.ofNat 32 k.val * 8#32 + BitVec.ofNat 32 (j 0).val = BitVec.ofNat 32 (8000 * t + (8 * k.val + (j 0).val)) := by
      apply BitVec.eq_of_toNat_eq
      simp only [BitVec.toNat_add, BitVec.toNat_mul, BitVec.toNat_ofNat]
      omega
    simp only [decide_eq_true_eq]
    exact ite_congr rfl (fun _ => e2) fun _ => rfl
  rw [hset]
  have m := fold_max_univ (⟨0, by decide⟩ : Fin 1000) (fun k : Fin 1000 => f (8000 * t + (8 * k.val + (j 0).val)))
  rw [← hM] at m
  have r := fold_minsi_univ (⟨0, by decide⟩ : Fin 1000) (fun k : Fin 1000 =>
        if f (8000 * t + (8 * k.val + (j 0).val)) = k1_pay4 (F := Ideal) p (blkL (F := Ideal) lt t) (blkT (F := Ideal) tt t) j
        then BitVec.ofNat 32 (8000 * t + (8 * k.val + (j 0).val)) else 1073741824#32) fun k => cand_lt (by
          have := k.isLt
          rw [toNat_word (by omega)]; omega)
  rw [← hR] at r
  have hs : ∀ k : Fin 1000, First f {8000 * t + (8 * k.val + (j 0).val)} (f (8000 * t + (8 * k.val + (j 0).val)), BitVec.ofNat 32 (8000 * t + (8 * k.val + (j 0).val))) :=
    fun k => first_single f (by have := k.isLt; omega)
  exact pick (s := fun k : Fin 1000 => (f (8000 * t + (8 * k.val + (j 0).val)), BitVec.ofNat 32 (8000 * t + (8 * k.val + (j 0).val))))
    (fun k => (hs k).ub) (fun k _ => hs k) m.1 m.2 r.1 r.2

/-- What is kept after `n + 1` blocks. -/
theorem blkAcc_first (hp : ∀ c, p (ixRow c) = pen (ix1 c)) (j : S8x128.Idx) : ∀ n, n < 8 →
    First (penOf lt tt pen (j 1).val) {v | v < 8000 * (n + 1) ∧ v % 8 = (j 0).val}
      ((blkAcc (F := Ideal) lt tt p n).1 j, (blkAcc (F := Ideal) lt tt p n).2 j)
  | 0, _ => by
    have h := blk_first lt tt pen p hp (t := 0) (by decide) (coordsN 0) rfl j
    have e : {v | 8000 * 0 ≤ v ∧ v < 8000 * (0 + 1) ∧ v % 8 = (j 0).val} = {v | v < 8000 * (0 + 1) ∧ v % 8 = (j 0).val} := by
      ext v; simp
    rw [e] at h
    have e0 : blkAcc (F := Ideal) lt tt p 0 = (k1_pay6 (F := Ideal) p (blkL (F := Ideal) lt 0) (blkT (F := Ideal) tt 0),
      k1_pay7 (F := Ideal) (coordsN 0) p (blkL (F := Ideal) lt 0) (blkT (F := Ideal) tt 0)) := rfl
    rw [e0, k1_pay6_eq, k1_pay7_eq]
    dsimp only
    exact h
  | n + 1, hn => by
    have ih := blkAcc_first hp j n (by omega)
    have hc : ((coordsN (n + 1)) 0).val = n + 1 := Nat.mod_eq_of_lt hn
    have h := ih.later (blk_first lt tt pen p hp hn (coordsN (n + 1)) hc j) (by
      rintro v ⟨hv, _⟩ w ⟨hw, _⟩
      omega)
    have e : {v | v < 8000 * (n + 1) ∧ v % 8 = (j 0).val} ∪ {v | 8000 * (n + 1) ≤ v ∧ v < 8000 * (n + 1 + 1) ∧ v % 8 = (j 0).val}
        = {v | v < 8000 * (n + 1 + 1) ∧ v % 8 = (j 0).val} := by
      ext v
      show (_ ∧ _ ∨ _ ∧ _ ∧ _) ↔ _ ∧ _
      omega
    rw [e] at h
    have e2 : blkAcc (F := Ideal) lt tt p (n + 1)
        = (k1_pay9 (F := Ideal) p (blkL (F := Ideal) lt (n + 1)) (blkT (F := Ideal) tt (n + 1)) (blkAcc (F := Ideal) lt tt p n).1,
          k1_pay10 (F := Ideal) (coordsN (n + 1)) p (blkL (F := Ideal) lt (n + 1)) (blkT (F := Ideal) tt (n + 1)) (blkAcc (F := Ideal) lt tt p n).1 (blkAcc (F := Ideal) lt tt p n).2) :=
      if_neg (by rw [hc]; omega)
    rw [e2]
    generalize blkAcc (F := Ideal) lt tt p n = s at h ⊢
    dsimp only
    rw [k1_pay9_apply, k1_pay10_apply]
    split at h
    · next c => rw [if_pos c, if_pos c]; exact h
    · next c => rw [if_neg c, if_neg c]; exact h

/-- What the block scan returns of a column: the greatest penalized logit of the first 64000 entries at its first. -/
theorem res_first (hp : ∀ c, p (ixRow c) = pen (ix1 c)) (j : S1x128.Idx) :
    First (penOf lt tt pen (j 1).val) {v | v < 64000}
      (k1_pay1 (F := Ideal) (blkAcc (F := Ideal) lt tt p 7).1 j, k1_pay2 (F := Ideal) (blkAcc (F := Ideal) lt tt p 7).1 (blkAcc (F := Ideal) lt tt p 7).2 j) := by
  have hj0 : (j 0).val < 1 := (j 0).isLt
  have hj1 : (j 1).val < 128 := (j 1).isLt
  have hs : ∀ k : Fin 8, First (penOf lt tt pen (j 1).val) {v | v < 64000 ∧ v % 8 = k.val}
      ((blkAcc (F := Ideal) lt tt p 7).1 (reduces_S8x128_S128.lift (ix1 (j 1).val) k), (blkAcc (F := Ideal) lt tt p 7).2 (reduces_S8x128_S128.lift (ix1 (j 1).val) k)) := fun k => by
    have h := blkAcc_first lt tt pen p hp (reduces_S8x128_S128.lift (ix1 (j 1).val) k) 7 (by decide)
    have e : (reduces_S8x128_S128.lift (ix1 (j 1).val) k 1).val = (j 1).val := Nat.mod_eq_of_lt hj1
    rw [e] at h
    exact h
  generalize (blkAcc (F := Ideal) lt tt p 7).1 = V at hs ⊢
  generalize (blkAcc (F := Ideal) lt tt p 7).2 = I at hs ⊢
  have hset : {v | v < 64000} = ⋃ k : Fin 8, {v | v < 64000 ∧ v % 8 = k.val} := by
    ext v
    rw [Set.mem_iUnion]
    exact ⟨fun h => ⟨⟨v % 8, Nat.mod_lt _ (by decide)⟩, h, rfl⟩, fun ⟨_, h, _⟩ => h⟩
  have hcast : ∀ {α : Type} (q : S128.Idx → α), shapeCast S1x128 q shapeCasts_S128_S1x128 j = q (ix1 (j 1).val) := fun q => by
    refine shapeCast_apply _ _ j (ix1 (j 1).val) ?_
    rw [Shape.rowMajor_val_one, Shape.rowMajor_val_two]
    show (j 1).val % 128 = (j 0).val * 128 + (j 1).val
    omega
  have hM : k1_pay1 (F := Ideal) V j = Finset.univ.fold max (⊥ : EReal) (fun k : Fin 8 => V (reduces_S8x128_S128.lift (ix1 (j 1).val) k)) :=
    (hcast _).trans (max_single V reduces_S8x128_S128 (.inl rfl) rfl _)
  have hR : k1_pay2 (F := Ideal) V I j = Finset.univ.fold IKind.minsi.op 2147483647#32 (fun k : Fin 8 =>
      if V (reduces_S8x128_S128.lift (ix1 (j 1).val) k) = k1_pay1 (F := Ideal) V j then I (reduces_S8x128_S128.lift (ix1 (j 1).val) k) else 1073741824#32) := by
    refine (hcast _).trans ((minsi_single _ _ reduces_S8x128_S128 rfl _).trans ?_)
    refine congrArg (Finset.fold IKind.minsi.op 2147483647#32 · Finset.univ) (funext fun k : Fin 8 => ?_)
    have e1 : broadcastTo S8x128 (k1_pay1 (F := Ideal) V) broadcasts_S1x128_S8x128 (reduces_S8x128_S128.lift (ix1 (j 1).val) k) = k1_pay1 (F := Ideal) V j := by
      refine broadcastTo_apply _ _ _ j fun a => ?_
      match a with
      | ⟨0, _⟩ => show (j 0).val = 0; omega
      | ⟨1, _⟩ => exact (Nat.mod_eq_of_lt hj1).symm
    refine (select_oeq_apply _ _ _ _ _).trans ?_
    rw [e1]
    rfl
  rw [hset]
  have m := fold_max_univ (⟨0, by decide⟩ : Fin 8) (fun k : Fin 8 => V (reduces_S8x128_S128.lift (ix1 (j 1).val) k))
  rw [← hM] at m
  have r := fold_minsi_univ (⟨0, by decide⟩ : Fin 8) (fun k : Fin 8 =>
      if V (reduces_S8x128_S128.lift (ix1 (j 1).val) k) = k1_pay1 (F := Ideal) V j then I (reduces_S8x128_S128.lift (ix1 (j 1).val) k) else 1073741824#32)
    fun k => cand_lt (hs k).lt
  rw [← hR] at r
  exact pick (s := fun k : Fin 8 => (V (reduces_S8x128_S128.lift (ix1 (j 1).val) k), I (reduces_S8x128_S128.lift (ix1 (j 1).val) k)))
    (fun k => (hs k).ub) (fun k _ => hs k) m.1 m.2 r.1 r.2

end

end Cert.Proof.Scan

end
-- ==== Proof.MergeBest.lean ====
/-
  What the merging call returns of a column: the first index of the greatest penalized logit of the whole vocabulary.
-/
module

public import proofs.«01_k».proof.Proof.BlockBest

@[expose] public section

noncomputable section

namespace Cert.Proof.Scan

open Cert.KernelIdeal Cert.KernelIdeal.Gen
open Idealize.ShloMosaic
open Cert.Proof.Best

/-- The stripes' pairs and the block scan's pair, merged, are the whole vocabulary's: where every value is the least one
the block scan's index is zero and no index is less. -/
theorem merge_pairs {f : ℕ → EReal} {s : Fin 32 → EReal × BitVec 32} {T : EReal × BitVec 32}
    (hs : ∀ w : Fin 32, Weak f {v | offOf w.val ≤ v ∧ v < offOf w.val + 1200} (s w)) (hT : First f {v | v < 64000} T) {M : EReal} {R : BitVec 32}
    (hM1 : ∀ w, (s w).1 ≤ M) (hM2 : T.1 ≤ M) (hM' : (∃ w, (s w).1 = M) ∨ T.1 = M)
    (hR1 : ∀ w, R.toNat ≤ (if (s w).1 = M then (s w).2 else 1073741824#32).toNat)
    (hR2 : R.toNat ≤ (if T.1 = M then T.2 else 1073741824#32).toNat)
    (hR' : (∃ w, R = if (s w).1 = M then (s w).2 else 1073741824#32) ∨ R = if T.1 = M then T.2 else 1073741824#32) :
    First f {v | v < 100000} (M, R) := by
  have hset : {v | v < 100000} = {v | v < 64000} ∪ ⋃ w : Fin 32, {v : ℕ | offOf w.val ≤ v ∧ v < offOf w.val + 1200} := by
    rw [stripes_cover]
    ext v
    show v < 100000 ↔ v < 64000 ∨ 64000 ≤ v ∧ v < 100000
    omega
  have hub : ∀ v, v < 100000 → f v ≤ M := fun v hv => by
    have hv' : v ∈ {v | v < 100000} := hv
    rw [hset] at hv'
    rcases hv' with h | h
    · exact (hT.ub v h).trans hM2
    · obtain ⟨w, hw⟩ := Set.mem_iUnion.1 h
      exact ((hs w).ub v hw).trans (hM1 w)
  by_cases hb : M = ⊥
  · subst hb
    have hf : ∀ v, v < 100000 → f v = ⊥ := fun v hv => le_bot_iff.1 (hub v hv)
    have hT1 : T.1 = ⊥ := le_bot_iff.1 hM2
    have h0 : T.2.toNat ≤ 0 := hT.first 0 (show 0 < 64000 by decide) ((hf 0 (by decide)).trans hT1.symm)
    rw [if_pos hT1] at hR2
    have hR0 : R.toNat = 0 := by omega
    refine ⟨hub, by show R.toNat < 100000; omega, by show R.toNat < 100000; omega, ?_, fun v _ _ => by show R.toNat ≤ v; omega⟩
    show f R.toNat = ⊥
    rw [hR0]; exact hf 0 (by decide)
  · have hA : {v | v < 100000} = ⋃ o : Option (Fin 32), o.elim {v | v < 64000} fun w => {v : ℕ | offOf w.val ≤ v ∧ v < offOf w.val + 1200} := by
      rw [hset]
      ext v
      rw [Set.mem_iUnion]
      constructor
      · rintro (h | h)
        · exact ⟨none, h⟩
        · obtain ⟨w, hw⟩ := Set.mem_iUnion.1 h
          exact ⟨some w, hw⟩
      · rintro ⟨_ | w, h⟩
        · exact Or.inl h
        · exact Or.inr (Set.mem_iUnion.2 ⟨w, h⟩)
    rw [hA]
    refine pick (s := fun o : Option (Fin 32) => o.elim T s) ?_ ?_ ?_ ?_ ?_ ?_
    · rintro (_ | w)
      · exact hT.ub
      · exact (hs w).ub
    · rintro (_ | w) h
      · exact hT
      · exact (hs w).first_of_ne fun e => hb (h.symm.trans e)
    · rintro (_ | w)
      · exact hM2
      · exact hM1 w
    · rcases hM' with ⟨w, h⟩ | h
      · exact ⟨some w, h⟩
      · exact ⟨none, h⟩
    · rintro (_ | w)
      · exact hR2
      · exact hR1 w
    · rcases hR' with ⟨w, h⟩ | h
      · exact ⟨some w, h⟩
      · exact ⟨none, h⟩

section

variable (V : Vec Ideal S32x128 .f32) (I : Vec Ideal S32x128 .i32) (T : Vec Ideal S1x128 .f32) (J : Vec Ideal S1x128 .i32)

/-- The merging call's greatest value of a column. -/
def topOf (j : S1x128.Idx) : EReal := max ((Finset.univ : Finset (Fin 32)).fold max (⊥ : EReal) fun w => V (reduces_S32x128_S128.lift (ix1 (j 1).val) w)) (T j)

/-- The least index of the stripes' pairs whose value is `M`. -/
def lowOf (M : EReal) (j : S1x128.Idx) : BitVec 32 := (Finset.univ : Finset (Fin 32)).fold IKind.minsi.op 2147483647#32 fun w =>
  if (show EReal from V (reduces_S32x128_S128.lift (ix1 (j 1).val) w)) = M then I (reduces_S32x128_S128.lift (ix1 (j 1).val) w) else 1073741824#32

/-- The block scan's index where its value is `M`. -/
def candOf (M : EReal) (j : S1x128.Idx) : BitVec 32 := if (show EReal from T j) = M then J j else 1073741824#32

/-- The merging call's index of a column, as the lesser of two minima of candidates. -/
theorem k2_pay1_apply (j : S1x128.Idx) :
    k2_pay1 (F := Ideal) V I T J j = IntOp.minsi (lowOf V I (topOf V T j) j) (candOf T J (topOf V T j) j) := by
  have hj0 : (j 0).val < 1 := (j 0).isLt
  have hj1 : (j 1).val < 128 := (j 1).isLt
  have hcast : ∀ {α : Type} (q : S128.Idx → α), shapeCast S1x128 q shapeCasts_S128_S1x128 j = q (ix1 (j 1).val) := fun q => by
    refine shapeCast_apply _ _ j (ix1 (j 1).val) ?_
    rw [Shape.rowMajor_val_one, Shape.rowMajor_val_two]
    show (j 1).val % 128 = (j 0).val * 128 + (j 1).val
    omega
  unfold k2_pay1
  simp only [shapeCast_self]
  have hM : (maximumf (shapeCast S1x128 (multiReduction (F := Ideal) .maximumf [0] S128 V 0xFF800000#32 reduces_S32x128_S128 (.inl rfl) rfl) shapeCasts_S128_S1x128) T) j = topOf V T j := by
    show max (shapeCast S1x128 _ shapeCasts_S128_S1x128 j) (T j) = _
    rw [hcast, max_single V reduces_S32x128_S128 (.inl rfl) rfl]
    rfl
  generalize (maximumf (shapeCast S1x128 (multiReduction (F := Ideal) .maximumf [0] S128 V 0xFF800000#32 reduces_S32x128_S128 (.inl rfl) rfl) shapeCasts_S128_S1x128) T) = W at hM ⊢
  unfold minsi
  rw [hcast]
  refine congrArg₂ IntOp.minsi ((minsi_single _ _ reduces_S32x128_S128 rfl _).trans <| congrArg (Finset.fold IKind.minsi.op 2147483647#32 · Finset.univ) (funext fun w : Fin 32 => ?_)) ?_
  · have e1 : broadcastTo S32x128 W broadcasts_S1x128_S32x128 (reduces_S32x128_S128.lift (ix1 (j 1).val) w) = W j := by
      refine broadcastTo_apply _ _ _ j fun a => ?_
      match a with
      | ⟨0, _⟩ => show (j 0).val = 0; omega
      | ⟨1, _⟩ => exact (Nat.mod_eq_of_lt hj1).symm
    have e2 : cmpf (F := Ideal) .oeq V (broadcastTo S32x128 W broadcasts_S1x128_S32x128) (reduces_S32x128_S128.lift (ix1 (j 1).val) w)
        = BitVec.ofBool (decide ((show EReal from V (reduces_S32x128_S128.lift (ix1 (j 1).val) w)) = topOf V T j)) := by
      unfold cmpf
      rw [e1, hM]
      exact oeq_ideal _ _
    unfold select
    rw [e2]
    exact select_dec _ _
  · unfold candOf
    have e2 : cmpf (F := Ideal) .oeq T W j = BitVec.ofBool (decide ((show EReal from T j) = topOf V T j)) := by
      unfold cmpf
      rw [hM]
      exact oeq_ideal _ _
    unfold select
    rw [e2]
    exact select_dec _ _

/-- The merging call returns the first index of the greatest value, of stripes' pairs and the block scan's. -/
theorem merge_first {f : ℕ → EReal} (j : S1x128.Idx)
    (hs : ∀ w : Fin 32, Weak f {v | offOf w.val ≤ v ∧ v < offOf w.val + 1200}
      (V (reduces_S32x128_S128.lift (ix1 (j 1).val) w), I (reduces_S32x128_S128.lift (ix1 (j 1).val) w)))
    (hT : First f {v | v < 64000} (T j, J j)) : First f {v | v < 100000} (topOf V T j, k2_pay1 (F := Ideal) V I T J j) := by
  rw [k2_pay1_apply]
  have m := fold_max_univ (⟨0, by decide⟩ : Fin 32) (fun w : Fin 32 => (V (reduces_S32x128_S128.lift (ix1 (j 1).val) w) : EReal))
  have hM1 : ∀ w : Fin 32, V (reduces_S32x128_S128.lift (ix1 (j 1).val) w) ≤ topOf V T j := fun w => (m.1 w).trans (le_max_left _ _)
  have hM2 : T j ≤ topOf V T j := le_max_right _ _
  have hM' : (∃ w : Fin 32, V (reduces_S32x128_S128.lift (ix1 (j 1).val) w) = topOf V T j) ∨ T j = topOf V T j := by
    obtain ⟨w, hw⟩ := m.2
    rcases le_total (Finset.univ.fold max (⊥ : EReal) fun w : Fin 32 => V (reduces_S32x128_S128.lift (ix1 (j 1).val) w)) (T j) with c | c
    · exact Or.inr (max_eq_right c).symm
    · exact Or.inl ⟨w, hw.trans (max_eq_left c).symm⟩
  generalize topOf V T j = M at *
  have r : (∀ w : Fin 32, (lowOf V I M j).toNat ≤ (if (show EReal from V (reduces_S32x128_S128.lift (ix1 (j 1).val) w)) = M then I (reduces_S32x128_S128.lift (ix1 (j 1).val) w) else 1073741824#32).toNat)
      ∧ ∃ w : Fin 32, lowOf V I M j = if (show EReal from V (reduces_S32x128_S128.lift (ix1 (j 1).val) w)) = M then I (reduces_S32x128_S128.lift (ix1 (j 1).val) w) else 1073741824#32 :=
    fold_minsi_univ (⟨0, by decide⟩ : Fin 32) _ fun w => cand_lt (hs w).lt
  have c1 : (lowOf V I M j).toNat < 2147483647 := by
    obtain ⟨w, hw⟩ := r.2
    rw [hw]; exact cand_lt (hs w).lt
  have c2 : (candOf T J M j).toNat < 2147483647 := cand_lt hT.lt
  rw [minsi_small (c1.trans (by decide)) (c2.trans (by decide))]
  refine merge_pairs hs hT hM1 hM2 hM' ?_ ?_ ?_
  · intro w
    split
    · exact r.1 w
    · next c => exact (not_lt.1 c).trans (r.1 w)
  · show _ ≤ (candOf T J M j).toNat
    split
    · next c => exact c.le
    · exact le_rfl
  · split
    · exact Or.inl r.2
    · exact Or.inr rfl

end

end Cert.Proof.Scan

end
-- ==== Proof.RefBest.lean ====
/-
  What the reference returns of a row: the first index of the row's greatest penalized logit.
-/
module

public import proofs.«01_k».proof.Proof.RefRun
public import proofs.«01_k».proof.Proof.Best
public import Idealize.ShloMosaic.Lib.Pipeline.Value

@[expose] public section

noncomputable section

namespace Cert.Proof.Ref

open Idealize.ShloMosaic
open Cert.ReferenceIdeal
open Facts₀ Facts
open Cert.Proof.Best

/-- The reducer keeps the greater pair, at equal values the one of the lesser index. -/
theorem reducer_ideal {a b : EReal × BitVec 32} (ha : a.2.toNat < 100000) (hb : b.2.toNat < 100000) :
    reducer_argmax_f32_i32 (F := Ideal) a b = if b.1 < a.1 ∨ (a.1 = b.1 ∧ a.2.toNat < b.2.toNat) then a else b := by
  have e1 : (FloatOps.cmpf (F := Ideal) (φ := .f32) .ogt a.1 b.1 : BitVec 1) = BitVec.ofBool (decide (b.1 < a.1)) := rfl
  have e2 : (FloatOps.cmpf (F := Ideal) (φ := .f32) .oeq a.1 b.1 : BitVec 1) = BitVec.ofBool (decide (a.1 = b.1)) := rfl
  have e3 : (FloatOps.cmpf (F := Ideal) (φ := .f32) .une a.1 a.1 : BitVec 1) = BitVec.ofBool (decide (a.1 ≠ a.1)) := rfl
  have e4 : IntOp.cmpi .slt a.2 b.2 = BitVec.ofBool (a.2.slt b.2) := rfl
  unfold reducer_argmax_f32_i32
  rw [slt_small (by omega) (by omega)] at e4
  simp only [e1, e2, e3, e4]
  by_cases c1 : b.1 < a.1 <;> by_cases c2 : a.1 = b.1 <;> by_cases c3 : a.2.toNat < b.2.toNat <;>
    simp [c1, c2, c3, Scalar.select, IntOp.ori, IntOp.andi] <;>
    exact Prod.ext c2.symm rfl

/-- The reducer's fold over pairs of a family is the family's pair over their indices, at index zero where every value is the least. -/
theorem fold_reducer (f : ℕ → EReal) (L : List (EReal × BitVec 32)) (hL : ∀ q ∈ L, ∃ v, v < 100000 ∧ q = (f v, BitVec.ofNat 32 v)) :
    Weak f {v | v < 100000 ∧ (f v, BitVec.ofNat 32 v) ∈ L} (L.foldl (reducer_argmax_f32_i32 (F := Ideal)) ((⊥ : EReal), 0#32))
      ∧ ((L.foldl (reducer_argmax_f32_i32 (F := Ideal)) ((⊥ : EReal), 0#32)).1 = (⊥ : EReal) →
        (L.foldl (reducer_argmax_f32_i32 (F := Ideal)) ((⊥ : EReal), 0#32)).2 = 0#32) := by
  induction L using List.reverseRecOn with
  | nil =>
    refine ⟨?_, fun _ => rfl⟩
    have e : {v | v < 100000 ∧ (f v, BitVec.ofNat 32 v) ∈ ([] : List (EReal × BitVec 32))} = ∅ :=
      Set.eq_empty_iff_forall_notMem.2 fun v h => absurd h.2 List.not_mem_nil
    rw [e]; exact weak_empty f
  | append_singleton L q ih =>
    obtain ⟨h1, h2⟩ := ih fun q' hq' => hL q' (List.mem_append_left _ hq')
    obtain ⟨w, hw, rfl⟩ := hL q (List.mem_append_right _ (List.mem_singleton_self _))
    have hn : ∀ {v : ℕ}, v < 100000 → (BitVec.ofNat 32 v).toNat = v := fun {v} h => by
      rw [BitVec.toNat_ofNat]; exact Nat.mod_eq_of_lt (by omega)
    have hset : {v | v < 100000 ∧ (f v, BitVec.ofNat 32 v) ∈ L ++ [(f w, BitVec.ofNat 32 w)]} = {w} ∪ {v | v < 100000 ∧ (f v, BitVec.ofNat 32 v) ∈ L} := by
      ext v
      constructor
      · rintro ⟨hv, h⟩
        rcases List.mem_append.1 h with h | h
        · exact Or.inr ⟨hv, h⟩
        · have := congrArg (fun q : EReal × BitVec 32 => q.2.toNat) (List.mem_singleton.1 h)
          simp only [hn hv, hn hw] at this
          exact Or.inl this
      · rintro (rfl | ⟨hv, h⟩)
        · exact ⟨hw, List.mem_append_right _ (List.mem_singleton_self _)⟩
        · exact ⟨hv, List.mem_append_left _ h⟩
    rw [List.foldl_append, List.foldl_cons, List.foldl_nil, hset]
    generalize L.foldl (reducer_argmax_f32_i32 (F := Ideal)) ((⊥ : EReal), 0#32) = a at h1 h2 ⊢
    have hb : Weak f {w} (f w, BitVec.ofNat 32 w) :=
      ⟨by rintro v rfl; exact le_rfl, by rw [hn hw]; exact hw, fun _ => ⟨hn hw, by rw [hn hw], by rintro v rfl _; exact (hn hw).le⟩⟩
    rw [reducer_ideal h1.lt hb.lt]
    refine ⟨hb.merge h1, fun h => ?_⟩
    split at h
    · next c => rw [if_pos c]; exact h2 h
    · next c =>
      rw [if_neg c]
      have h' : f w = ⊥ := h
      have ha : a.1 = ⊥ := le_bot_iff.1 (h' ▸ not_lt.1 fun k => c (Or.inl k))
      have h0 := h2 ha
      have : ¬ a.2.toNat < (BitVec.ofNat 32 w).toNat := fun k => c (Or.inr ⟨ha.trans h'.symm, k⟩)
      rw [h0, hn hw] at this
      have e0 : (0#32).toNat = 0 := rfl
      have : w = 0 := by omega
      rw [this]

/-- The pairs an arg-max folds over at an index are the operands' at the indices that drop to it. -/
theorem mem_fiber {s t : Shape} {axes : List (Fin s.rank)} {α β : Type} (x : s.Idx → α) (y : s.Idx → β) (h : s.ReducesTo axes t) (j : t.Idx) (q : α × β) :
    q ∈ Host.argReduceFiber x y h j ↔ ∃ i, h.drop i = j ∧ (x i, y i) = q := by
  unfold Host.argReduceFiber
  rw [List.mem_map]
  constructor
  · rintro ⟨n, hn, rfl⟩
    rw [List.mem_filter] at hn
    exact ⟨_, of_decide_eq_true hn.2, rfl⟩
  · rintro ⟨i, hi, rfl⟩
    refine ⟨s.rowMajor i, ?_, ?_⟩
    · rw [List.mem_filter]
      refine ⟨List.mem_finRange _, decide_eq_true ?_⟩
      rw [Equiv.symm_apply_apply]; exact hi
    · rw [Equiv.symm_apply_apply]

/-- The same of a drop of one axis: the operands' pairs along it. -/
theorem mem_fiber_single {s t : Shape} {a : Fin s.rank} {α β : Type} (x : s.Idx → α) (y : s.Idx → β) (h' : s.ReducesTo [a] t) (h : s.Reduces [a] t) (j : t.Idx) (q : α × β) :
    q ∈ Host.argReduceFiber x y h' j ↔ ∃ k : Fin (s.size a), (x (h.lift j k), y (h.lift j k)) = q := by
  rw [mem_fiber, Shape.ReducesTo.drop_eq_drop h' h]
  constructor
  · rintro ⟨i, rfl, rfl⟩
    exact ⟨i a, by rw [h.lift_drop]⟩
  · rintro ⟨k, rfl⟩
    exact ⟨_, h.drop_lift j k, rfl⟩

/-- A fold of the reducer over a list of just a family's pairs ends at the family's first greatest. -/
theorem fold_first (f : ℕ → EReal) (L : List (EReal × BitVec 32)) (hL : ∀ q, q ∈ L ↔ ∃ v, v < 100000 ∧ q = (f v, BitVec.ofNat 32 v)) :
    ∃ M : EReal, First f {v | v < 100000} (M, (L.foldl (reducer_argmax_f32_i32 (F := Ideal)) ((⊥ : EReal), 0#32)).2) := by
  obtain ⟨h1, h2⟩ := fold_reducer f L fun q hq => (hL q).1 hq
  have hset : {v | v < 100000 ∧ (f v, BitVec.ofNat 32 v) ∈ L} = {v | v < 100000} := by
    ext v; exact ⟨fun h => h.1, fun h => ⟨h, (hL _).2 ⟨v, h, rfl⟩⟩⟩
  rw [hset] at h1
  generalize L.foldl (reducer_argmax_f32_i32 (F := Ideal)) ((⊥ : EReal), 0#32) = r at h1 h2 ⊢
  refine ⟨r.1, ?_⟩
  by_cases c : r.1 = ⊥
  · have h0 := h2 c
    have e0 : r.2.toNat = 0 := by rw [h0]; rfl
    refine ⟨h1.ub, h1.lt, h1.lt, ?_, fun v _ _ => ?_⟩
    · show f r.2.toNat = r.1
      rw [e0, c]
      exact le_bot_iff.1 (c ▸ h1.ub 0 (show 0 < 100000 by decide))
    · show r.2.toNat ≤ v
      omega
  · exact h1.first_of_ne c

/-- The index of row `r` and entry `v` of the reference's logits. -/
def ixR (r v : ℕ) : S128x100000.Idx := fun a => ⟨(if a.val = 0 then r else v) % S128x100000.size a, Nat.mod_lt _ (by revert a; decide)⟩

/-- The arg-max's operand along a row. -/
theorem operand_apply (x : FVec Ideal S128x100000 .f32) (hR : S128x1x100000.Reduces [2] S128x1) (j : S128x1.Idx) (k : Fin (S128x1x100000.size 2)) :
    broadcastInDim S128x1x100000 ![0, 2] bcast_S128x100000_S128x1x100000_0_2 x (hR.lift j k) = x (ixR (j 0).val k.val) := by
  have hj0 : (j 0).val < 128 := (j 0).isLt
  have hk : k.val < 100000 := k.isLt
  refine broadcastInDim_apply _ _ _ _ (ixR (j 0).val k.val) fun a => ?_
  match a with
  | ⟨0, _⟩ => exact Nat.mod_eq_of_lt hj0
  | ⟨1, _⟩ => exact Nat.mod_eq_of_lt hk

/-- An arg-max over one axis of pairs of a family and its indices is the family's first greatest. -/
theorem argReduce_first {s t : Shape} {a : Fin s.rank} (x : FVec Ideal s .f32) (y : IVec s 32) (cf : FVec Ideal S_ .f32) (ci : IVec S_ 32) (h' : s.ReducesTo [a] t)
    (h : s.Reduces [a] t) (hu : 0 < S_.numel) (g : t.Idx → BitVec 32)
    (hg : g = fun j => (Host.argReduce (reducer_argmax_f32_i32 (F := Ideal)) x y cf ci h' hu j).2) (j : t.Idx) (f : ℕ → EReal) (hc : cf = fun _ => (⊥ : EReal)) (hi : ci = fun _ => 0#32)
    (hf : ∀ k : Fin (s.size a), k.val < 100000 ∧ (x (h.lift j k) : EReal) = f k.val ∧ y (h.lift j k) = BitVec.ofNat 32 k.val) (ha : 100000 ≤ s.size a) :
    ∃ M : EReal, First f {v | v < 100000} (M, g j) := by
  subst hc hi hg
  dsimp only
  rw [Ideal.argReduce_eq_reduce2, Host.reduce2_eq_foldl_fiber]
  refine fold_first f _ fun q => (mem_fiber_single _ _ h' h j q).trans ?_
  constructor
  · rintro ⟨k, rfl⟩
    exact ⟨k.val, (hf k).1, Prod.ext (hf k).2.1 (hf k).2.2⟩
  · rintro ⟨v, hv, rfl⟩
    have := hf ⟨v, hv.trans_le ha⟩
    exact ⟨⟨v, hv.trans_le ha⟩, Prod.ext this.2.1 this.2.2⟩

/-- The arg-max of an operand of one row a batch entry is the first index of the row's greatest value. -/
theorem argmax_first (x : FVec Ideal S128x100000 .f32) (j : S128x1.Idx) :
    ∃ M : EReal, First (fun v => x (ixR (j 0).val v)) {v | v < 100000} (M, argOf x j) := by
  have hR : S128x1x100000.Reduces [2] S128x1 := by decide
  refine argReduce_first _ _ _ _ reducesTo_S128x1x100000_S128x1_d2 hR h_S_ (argOf x) rfl j (fun v => x (ixR (j 0).val v)) ?_ rfl ?_ ?_
  · funext i
    show Ideal.ofBits .f32 0xFF800000#32 = ⊥
    simp [Ideal.ofBits, Ideal.ieee]
  · intro k
    exact ⟨k.isLt, operand_apply x hR j k, rfl⟩
  · exact le_refl 100000

/-- The reference returns the first index of the row's greatest penalized logit. -/
theorem refOut_first (l : FVec Ideal S128x1x100000 .f32) (p : FVec Ideal S128x1 .f32) (t : IVec S128x100000 32) (j : S128x1.Idx) :
    ∃ M : EReal, First (fun v => refPen l p t (ixR (j 0).val v)) {v | v < 100000} (M, refOut l p t j) := by
  unfold refOut
  exact argmax_first (refPen l p t) j

end Cert.Proof.Ref

end
-- ==== Proof.ElemEq.lean ====
/-
  One penalized logit, of the kernel's and of the reference's: the lesser of the two products is the one the reference takes by
  the logit's sign where the penalty is at least one; and what the precondition says of the penalties.
-/
module

public import proofs.«01_k».proof.Proof.LaneBest
public import proofs.«01_k».proof.Proof.RefBest
public import proofs.«01_k».proof.Proof.Gen.Pre_penalty_at_least_one
public import Idealize.ShloMosaic.Lib.ReduceAll

@[expose] public section

noncomputable section

namespace Cert.Proof

open Idealize.ShloMosaic

/-- One, printed. -/
theorem one_ideal : Ideal.ofBits .f32 0x3F800000#32 = (1 : EReal) := by
  simp [Ideal.ofBits, Ideal.ieee]
  rw [← EReal.coe_mul]
  norm_num

/-- The reciprocal of a penalty of at least one lies between zero and one. -/
theorem recip_bounds {p : EReal} (hp : 1 ≤ p) : 0 ≤ Ideal.div 1 p ∧ Ideal.div 1 p ≤ 1 := by
  have h0 : p ≠ 0 := fun h => by rw [h] at hp; exact absurd hp (by norm_num)
  have hpos : 0 ≤ p := zero_le_one.trans hp
  unfold Ideal.div
  rw [if_neg h0, one_mul]
  refine ⟨EReal.inv_nonneg_of_nonneg hpos, ?_⟩
  induction p with
  | bot => exact absurd hpos (not_le.2 EReal.bot_lt_zero)
  | top => simp
  | coe x =>
    have hx : (1 : ℝ) ≤ x := by exact_mod_cast hp
    rw [← EReal.coe_inv]
    exact_mod_cast inv_le_one_of_one_le₀ hx

/-- The lesser of a logit's products with the penalty and its reciprocal is the one of the logit's sign. -/
theorem min_penalty {l p : EReal} (hp : 1 ≤ p) : min (l * Ideal.div 1 p) (l * p) = if 0 < l then l * Ideal.div 1 p else l * p := by
  obtain ⟨_, h1⟩ := recip_bounds hp
  have hrp : Ideal.div 1 p ≤ p := h1.trans hp
  split
  · next c => exact min_eq_left (mul_le_mul_of_nonneg_left hrp c.le)
  · next c =>
    refine min_eq_right ?_
    have hn : 0 ≤ -l := by simpa using EReal.neg_le_neg_iff.2 (not_lt.1 c)
    have := mul_le_mul_of_nonneg_left hrp hn
    rw [EReal.neg_mul, EReal.neg_mul] at this
    exact EReal.neg_le_neg_iff.1 this

/-- The kernel's penalized logit at a penalty of at least one. -/
theorem lanePen_ideal (l : EReal) (t : BitVec 32) {p : EReal} (hp : 1 ≤ p) :
    Scan.lanePen (F := Ideal) l t p (Scan.recip (F := Ideal) p)
      = Scalar.select (IntOp.cmpi .sgt t 0#32) (if 0 < l then l * Ideal.div 1 p else l * p) l := by
  have e : Scan.recip (F := Ideal) p = Ideal.div 1 p := by
    unfold Scan.recip
    show Ideal.div (Ideal.ofBits .f32 0x3F800000#32) p = _
    rw [one_ideal]
  rw [e, ← min_penalty hp]
  rfl

end Cert.Proof

namespace Cert.Proof.Ref

open Idealize.ShloMosaic
open Cert.ReferenceIdeal
open Facts₀ Facts

/-- The index of row `r` of the reference's logits, entry `v`, as its argument is shaped. -/
def ixL (r v : ℕ) : S128x1x100000.Idx := fun a => ⟨(match a with | ⟨0, _⟩ => r | ⟨1, _⟩ => 0 | ⟨_ + 2, _⟩ => v) % S128x1x100000.size a, Nat.mod_lt _ (by revert a; decide)⟩

/-- The index of row `r` of the penalties. -/
def ixP (r : ℕ) : S128x1.Idx := fun a => ⟨(match a with | ⟨0, _⟩ => r | ⟨_ + 1, _⟩ => 0) % S128x1.size a, Nat.mod_lt _ (by revert a; decide)⟩

theorem cast_apply (l : FVec Ideal S128x1x100000 .f32) {r v : ℕ} (hr : r < 128) (hv : v < 100000) :
    shapeCast S128x100000 l shapeCasts_S128x1x100000_S128x100000 (ixR r v) = l (ixL r v) := by
  refine shapeCast_apply _ _ _ (ixL r v) ?_
  rw [Shape.rowMajor_val_two, Shape.rowMajor_val_three]
  show ((r % 128) * 1 + 0 % 1) * 100000 + v % 100000 = (r % 128) * 100000 + v % 100000
  omega

theorem row_apply (q : FVec Ideal S128x1 .f32) {r v : ℕ} (hr : r < 128) :
    broadcastInDim S128x100000 ![0, 1] bcast_S128x1_S128x100000_0_1 q (ixR r v) = q (ixP r) := by
  refine broadcastInDim_apply _ _ _ _ (ixP r) fun a => ?_
  match a with
  | ⟨0, _⟩ => rfl
  | ⟨1, _⟩ => rfl

/-- A choice by an elementwise comparison for greater than a constant, at an index. -/
theorem pen_apply {s : Shape} (t c : IVec s 32) (L Z A B : FVec Ideal s .f32) (i : s.Idx) :
    select (cmpi .sgt t c) (select (cmpf .ogt L Z) A B) L i
      = Scalar.select (IntOp.cmpi .sgt (t i) (c i)) (if Z i < L i then A i else B i) (L i) := by
  have e : select (cmpf .ogt L Z) A B i = if (show EReal from Z i) < L i then A i else B i := by
    show Scalar.select (BitVec.ofBool (decide ((show EReal from Z i) < L i))) (A i) (B i) = _
    rw [Scan.select_ofBool]
    simp
  show Scalar.select (IntOp.cmpi .sgt (t i) (c i)) (select (cmpf .ogt L Z) A B i) (L i) = _
  rw [e]

/-- The reference's penalized logit. -/
theorem refPen_apply (l : FVec Ideal S128x1x100000 .f32) (p : FVec Ideal S128x1 .f32) (t : IVec S128x100000 32) {r v : ℕ} (hr : r < 128) (hv : v < 100000) :
    refPen l p t (ixR r v) = Scalar.select (IntOp.cmpi .sgt (t (ixR r v)) 0#32)
      (if (0 : EReal) < l (ixL r v) then (show EReal from l (ixL r v)) * Ideal.div 1 (p (ixP r)) else (show EReal from l (ixL r v)) * p (ixP r)) (l (ixL r v)) := by
  unfold refPen
  refine (pen_apply _ _ _ _ _ _ _).trans ?_
  have e1 : ∀ (x y : FVec Ideal S128x100000 .f32), mulf x y (ixR r v) = (show EReal from x (ixR r v)) * y (ixR r v) := fun _ _ => rfl
  have e2 : (broadcastInDim S128x100000 ![] bcast_S_S128x100000 (constant (F := Ideal) S_ .f32 0x00000000#32)) (ixR r v) = (0 : EReal) := by
    show Ideal.ofBits .f32 0x00000000#32 = 0
    simp
  have e3 : Host.divf (broadcastInDim S128x1 ![] bcast_S_S128x1 (constant (F := Ideal) S_ .f32 0x3F800000#32)) p (ixP r) = Ideal.div 1 (p (ixP r)) := by
    show Ideal.div (Ideal.ofBits .f32 0x3F800000#32) (p (ixP r)) = _
    rw [one_ideal]
  rw [e1, e1, e2, row_apply _ hr, row_apply _ hr, e3, cast_apply l hr hv]
  rfl

end Cert.Proof.Ref

namespace Cert.Proof

open Idealize.ShloMosaic

/-- The precondition says that every penalty is at least one. -/
theorem pre_apply (l : FVec Ideal Cert.Pre_penalty_at_least_one.S128x1x100000 .f32) (p : FVec Ideal Cert.Pre_penalty_at_least_one.S128x1 .f32)
    (t : IVec Cert.Pre_penalty_at_least_one.S128x100000 32) (h : Cert.Pre_penalty_at_least_one.fn (F := Ideal) l p t = fun _ => 1#1)
    (i : Cert.Pre_penalty_at_least_one.S128x1.Idx) : (1 : EReal) ≤ p i := by
  haveI : Subsingleton Cert.Pre_penalty_at_least_one.S_.Idx := ⟨fun a b => funext fun x => x.elim0⟩
  have h1 := Host.reduce_andi_all _ _ _ _ (fun a => a.elim0) (congrFun h fun a => a.elim0) i
  have h2 : BitVec.ofBool (decide ((Ideal.ofBits .f32 0x3F800000#32 : EReal) ≤ p i)) = 1#1 := h1
  rw [one_ideal] at h2
  by_contra c
  rw [decide_eq_false c] at h2
  exact absurd h2 (by decide)

end Cert.Proof

end
-- ==== Proof.ValueEq.lean ====
/-
  The kernel's result is the reference's: what the stages' buffers hold, read at an index, and the two first indices of one
  family's greatest value.
-/
module

public import proofs.«01_k».proof.Proof.MergeBest
public import proofs.«01_k».proof.Proof.Frames
public import proofs.«01_k».proof.Proof.ElemEq

@[expose] public section

noncomputable section

namespace Cert.Proof.Scan

open Cert.KernelIdeal Cert.KernelIdeal.Gen
open Idealize.ShloMosaic Idealize.ShloMosaic.TcCoe
open Idealize.ShloMosaic.StableHlo (result_of_writes_ne)
open Cert.Proof.Best

/-! ## The merging call over arrays -/

section

variable (lt : S100000x128.Idx → EReal) (tt : S100000x128.Idx → BitVec 32) (pen : S128.Idx → EReal) (p : S1x128.Idx → EReal)

/-- The word of the SparseCore call's results that worker `w` leaves for column `c`. -/
def ixOut (w c : ℕ) : S4096.Idx := fun a => ⟨(128 * w + c) % S4096.size a, Nat.mod_lt _ (by revert a; decide)⟩

/-- The SparseCore call's results as the merging call reads them, at worker `w` and column `c`. -/
theorem rows_apply {α : Type} (x : S4096.Idx → α) {c : ℕ} (hc : c < 128) (w : Fin (S32x128.size 0)) :
    shapeCast S32x128 x shapeCasts_S4096_S32x128 (reduces_S32x128_S128.lift (ix1 c) w) = x (ixOut w.val c) := by
  have hw : w.val < 32 := w.isLt
  refine shapeCast_apply _ _ _ (ixOut w.val c) ?_
  rw [Shape.rowMajor_val_two, Shape.rowMajor_val_one]
  show (128 * w.val + c) % 4096 = w.val * 128 + c % 128
  omega

theorem outV_apply {c w : ℕ} (hc : c < 128) (hw : w < 32) : outV (F := Ideal) lt tt pen (ixOut w c) = (laneOut (F := Ideal) lt tt pen (offOf w) c).1 := by
  have e : ((ixOut w c) 0).val = 128 * w + c := Nat.mod_eq_of_lt (show 128 * w + c < 4096 by omega)
  unfold outV
  rw [e, show (128 * w + c) / 128 = w by omega, show (128 * w + c) % 128 = c by omega]

theorem outI_apply {c w : ℕ} (hc : c < 128) (hw : w < 32) : outI (F := Ideal) lt tt pen (ixOut w c) = (laneOut (F := Ideal) lt tt pen (offOf w) c).2 := by
  have e : ((ixOut w c) 0).val = 128 * w + c := Nat.mod_eq_of_lt (show 128 * w + c < 4096 by omega)
  unfold outI
  rw [e, show (128 * w + c) / 128 = w by omega, show (128 * w + c) % 128 = c by omega]

/-- The merged index of a column, of the SparseCore call's and the block call's results. -/
theorem cols_first (hp : ∀ c, p (ixRow c) = pen (ix1 c)) (V : Vec Ideal S32x128 .f32) (I : Vec Ideal S32x128 .i32) (T : Vec Ideal S1x128 .f32) (J : Vec Ideal S1x128 .i32)
    (hV : V = shapeCast S32x128 (outV (F := Ideal) lt tt pen) shapeCasts_S4096_S32x128) (hI : I = shapeCast S32x128 (outI (F := Ideal) lt tt pen) shapeCasts_S4096_S32x128)
    (hT : T = k1_pay1 (F := Ideal) (blkAcc (F := Ideal) lt tt p 7).1) (hJ : J = k1_pay2 (F := Ideal) (blkAcc (F := Ideal) lt tt p 7).1 (blkAcc (F := Ideal) lt tt p 7).2)
    {r : ℕ} (hr : r < 128) : First (penOf lt tt pen r) {v | v < 100000} (topOf V T (ixRow r), k2_pay1 (F := Ideal) V I T J (ixRow r)) := by
  have e1 : ((ixRow r) 1).val = r := Nat.mod_eq_of_lt hr
  have h1 := res_first lt tt pen p hp (ixRow r)
  rw [← hJ, ← hT, e1] at h1
  refine merge_first V I T J (ixRow r) (fun w => ?_) h1
  have hw : w.val < 32 := w.isLt
  rw [e1]
  have eV : V (reduces_S32x128_S128.lift (ix1 r) w) = (laneOut (F := Ideal) lt tt pen (offOf w.val) r).1 := by
    rw [hV, rows_apply _ hr w, outV_apply lt tt pen hr hw]
  have eI : I (reduces_S32x128_S128.lift (ix1 r) w) = (laneOut (F := Ideal) lt tt pen (offOf w.val) r).2 := by
    rw [hI, rows_apply _ hr w, outI_apply lt tt pen hr hw]
  rw [eV, eI]
  exact laneOut_weak lt tt pen r (offOf_bounds hw).2

end

/-! ## The buffers -/

section

variable (m : (ℓ : Loc nD τ sig) → Buf (Elt Ideal) ℓ) (d : Dev nD)

/-- The three arguments. -/
abbrev arg0 : FVec Ideal S128x1x100000 .f32 := m ((d.tc : Thread nD τ).loc main_arg0)
abbrev arg1 : FVec Ideal S128x1 .f32 := m ((d.tc : Thread nD τ).loc main_arg1)
abbrev arg2 : IVec S128x100000 32 := m ((d.tc : Thread nD τ).loc main_arg2)

theorem scL_eq : scL m d = transpose S100000x128 [1, 0] (shapeCast S128x100000 (arg0 m d) shapeCasts_S128x1x100000_S128x100000) transposes_S128x100000_S100000x128_1_0 := by
  unfold scL at1
  rw [result_of_writes_ne opE _ main_v4 main_v1 rfl (by decide), result_of_writes_ne opD _ main_v3 main_v1 rfl (by decide), result_of_writes_ne opC _ main_v2 main_v1 rfl (by decide)]
  rw [StableHlo.unary_result, StableHlo.reshape_result]
  rfl

theorem scT_eq : scT m d = transpose S100000x128 [1, 0] (arg2 m d) transposes_S128x100000_S100000x128_1_0 := by
  unfold scT at1
  rw [result_of_writes_ne opE _ main_v4 main_v2 rfl (by decide), result_of_writes_ne opD _ main_v3 main_v2 rfl (by decide)]
  rw [StableHlo.unary_result, result_of_writes_ne opB _ main_v1 main_arg2 rfl (by decide), result_of_writes_ne opA _ main_v0 main_arg2 rfl (by decide)]
  rfl

theorem scP_eq : scP m d = shapeCast S128 (arg1 m d) shapeCasts_S128x1_S128 := by
  unfold scP at1
  rw [result_of_writes_ne opE _ main_v4 main_v3 rfl (by decide)]
  rw [StableHlo.reshape_result, result_of_writes_ne opC _ main_v2 main_arg1 rfl (by decide), result_of_writes_ne opB _ main_v1 main_arg1 rfl (by decide),
    result_of_writes_ne opA _ main_v0 main_arg1 rfl (by decide)]
  rfl

theorem row_eq : (at1 m d (dr main_v4) : S1x128.Idx → EReal) = shapeCast S1x128 (arg1 m d) shapeCasts_S128x1_S1x128 := by
  unfold at1
  rw [StableHlo.reshape_result, result_of_writes_ne opD _ main_v3 main_arg1 rfl (by decide), result_of_writes_ne opC _ main_v2 main_arg1 rfl (by decide),
    result_of_writes_ne opB _ main_v1 main_arg1 rfl (by decide), result_of_writes_ne opA _ main_v0 main_arg1 rfl (by decide)]
  rfl

/-- The vocabulary-major arrays and the penalties, read. -/
theorem scL_apply {r v : ℕ} (hr : r < 128) (hv : v < 100000) : scL m d (ix2 v r) = arg0 m d (Ref.ixL r v) := by
  rw [scL_eq]
  refine (transpose_apply _ _ _ _ (Ref.ixR r v) fun b => ?_).trans (Ref.cast_apply _ hr hv)
  match b with
  | ⟨0, _⟩ => rfl
  | ⟨1, _⟩ => rfl

theorem scT_apply (r v : ℕ) : scT m d (ix2 v r) = arg2 m d (Ref.ixR r v) := by
  rw [scT_eq]
  refine transpose_apply _ _ _ _ (Ref.ixR r v) fun b => ?_
  match b with
  | ⟨0, _⟩ => rfl
  | ⟨1, _⟩ => rfl

theorem scP_apply (r : ℕ) : scP m d (ix1 r) = arg1 m d (Ref.ixP r) := by
  rw [scP_eq]
  refine shapeCast_apply _ _ _ (Ref.ixP r) ?_
  rw [Shape.rowMajor_val_two, Shape.rowMajor_val_one]
  show (r % 128) * 1 + 0 % 1 = r % 128
  omega

theorem row_apply (r : ℕ) : (at1 m d (dr main_v4) : S1x128.Idx → EReal) (ixRow r) = scP m d (ix1 r) := by
  rw [row_eq, scP_apply]
  refine shapeCast_apply _ _ _ (Ref.ixP r) ?_
  rw [Shape.rowMajor_val_two, Shape.rowMajor_val_two]
  show (r % 128) * 1 + 0 % 1 = (r % 1) * 128 + r % 128
  omega

theorem v7_eq : (at4 m d (dr main_v7) : S32x128.Idx → EReal) = shapeCast S32x128 (outV (F := Ideal) (scL m d) (scT m d) (scP m d)) shapeCasts_S4096_S32x128 := by
  unfold at4
  rw [result_of_writes_ne opH _ main_v8 main_v7 rfl (by decide), StableHlo.reshape_result]
  rw [at3_keep m d (b := main_v5_0) (by decide) (by decide)]
  unfold at2
  rw [Function.update_of_ne (dr_ne (by decide)), Function.update_self]
  rfl

theorem v8_eq : (at4 m d (dr main_v8) : S32x128.Idx → BitVec 32) = shapeCast S32x128 (outI (F := Ideal) (scL m d) (scT m d) (scP m d)) shapeCasts_S4096_S32x128 := by
  unfold at4
  rw [StableHlo.reshape_result, result_of_writes_ne opG _ main_v7 main_v5_1 rfl (by decide)]
  rw [at3_keep m d (b := main_v5_1) (by decide) (by decide)]
  unfold at2
  rw [Function.update_self]
  rfl

theorem v6_0_eq : (at4 m d (dr main_v6_0) : S1x128.Idx → EReal)
    = k1_pay1 (F := Ideal) (blkAcc (F := Ideal) (scL m d) (scT m d) (at1 m d (dr main_v4) : S1x128.Idx → EReal) 7).1 := by
  rw [at4_keep m d (by decide) (by decide)]
  unfold at3
  rw [Function.update_of_ne (dr_ne (by decide)), Function.update_self]
  unfold resV vL vT vP
  dsimp only
  rw [at2_keep m d (b := main_v1) (by decide) (by decide), at2_keep m d (b := main_v2) (by decide) (by decide), at2_keep m d (b := main_v4) (by decide) (by decide)]
  unfold scL scT
  rfl

theorem v6_1_eq : (at4 m d (dr main_v6_1) : S1x128.Idx → BitVec 32)
    = k1_pay2 (F := Ideal) (blkAcc (F := Ideal) (scL m d) (scT m d) (at1 m d (dr main_v4) : S1x128.Idx → EReal) 7).1
      (blkAcc (F := Ideal) (scL m d) (scT m d) (at1 m d (dr main_v4) : S1x128.Idx → EReal) 7).2 := by
  rw [at4_keep m d (by decide) (by decide)]
  unfold at3
  rw [Function.update_self]
  unfold resI vL vT vP
  dsimp only
  rw [at2_keep m d (b := main_v1) (by decide) (by decide), at2_keep m d (b := main_v2) (by decide) (by decide), at2_keep m d (b := main_v4) (by decide) (by decide)]
  unfold scL scT
  rfl

/-- What the kernel returns. -/
def kOut : IVec S128x1 32 := at6 m d (dr main_v10)

theorem kOut_eq : kOut m d = shapeCast S128x1 (k2_pay1 (F := Ideal) (at4 m d (dr main_v7)) (at4 m d (dr main_v8)) (at4 m d (dr main_v6_0)) (at4 m d (dr main_v6_1))) shapeCasts_S1x128_S128x1 := by
  unfold kOut at6
  rw [StableHlo.reshape_result]
  unfold at5
  rw [Function.update_self]
  unfold mergeV
  rfl

theorem back_apply (x : IVec S1x128 32) (j : S128x1.Idx) : shapeCast S128x1 x shapeCasts_S1x128_S128x1 j = x (ixRow (j 0).val) := by
  have h0 : (j 0).val < 128 := (j 0).isLt
  have h1 : (j 1).val < 1 := (j 1).isLt
  refine shapeCast_apply _ _ _ (ixRow (j 0).val) ?_
  rw [Shape.rowMajor_val_two, Shape.rowMajor_val_two]
  show ((j 0).val % 1) * 128 + (j 0).val % 128 = (j 0).val * 1 + (j 1).val
  omega

/-- The kernel returns the first index of the row's greatest penalized logit. -/
theorem kOut_first (j : S128x1.Idx) : ∃ M : EReal, First (penOf (scL m d) (scT m d) (scP m d) (j 0).val) {v | v < 100000} (M, kOut m d j) := by
  have h := cols_first (scL m d) (scT m d) (scP m d) (at1 m d (dr main_v4)) (row_apply m d) (at4 m d (dr main_v7)) (at4 m d (dr main_v8)) (at4 m d (dr main_v6_0)) (at4 m d (dr main_v6_1))
    (v7_eq m d) (v8_eq m d) (v6_0_eq m d) (v6_1_eq m d) (r := (j 0).val) (j 0).isLt
  refine ⟨topOf (at4 m d (dr main_v7)) (at4 m d (dr main_v6_0)) (ixRow (j 0).val), ?_⟩
  rw [kOut_eq, back_apply]
  exact h

/-- The two penalized logits are one where the penalty is at least one. -/
theorem penOf_eq {r v : ℕ} (hr : r < 128) (hv : v < 100000) (hp : (1 : EReal) ≤ arg1 m d (Ref.ixP r)) :
    penOf (scL m d) (scT m d) (scP m d) r v = Ref.refPen (arg0 m d) (arg1 m d) (arg2 m d) (Ref.ixR r v) := by
  unfold penOf
  rw [Ref.refPen_apply _ _ _ hr hv, scL_apply m d hr hv, scT_apply, scP_apply]
  exact lanePen_ideal _ _ hp

/-- The kernel returns what the reference does. -/
theorem kOut_eq_refOut (hp : ∀ i : S128x1.Idx, (1 : EReal) ≤ arg1 m d i) : kOut m d = Ref.refOut (arg0 m d) (arg1 m d) (arg2 m d) := by
  funext j
  obtain ⟨M, h⟩ := kOut_first m d j
  obtain ⟨M', h'⟩ := Ref.refOut_first (arg0 m d) (arg1 m d) (arg2 m d) j
  have hr : (j 0).val < 128 := (j 0).isLt
  have e : ∀ v ∈ {v | v < 100000}, penOf (scL m d) (scT m d) (scP m d) (j 0).val v = Ref.refPen (arg0 m d) (arg1 m d) (arg2 m d) (Ref.ixR (j 0).val v) := by
    intro v hv
    exact penOf_eq m d hr hv (hp (Ref.ixP (j 0).val))
  have u := (h.congr e).unique h'
  dsimp only at u
  exact u

end

end Cert.Proof.Scan

namespace Cert.Proof

open Idealize.ShloMosaic Idealize.SL.Sem

/-- The idealized kernel computes the idealized reference's result where every penalty is at least one. -/
theorem algebraic : Cert.algebraic_KernelIdeal_ReferenceIdeal_pre_penalty_at_least_one := by
  intro m g m' g' hpre harg
  refine ⟨fun c => Scan.kOut m c, ?_, ?_⟩
  · exact (θ_run (Cert.KernelIdeal.defs (F := Ideal)) _ _).mono (fun _ h => h.1) (Scan.run_ends (F := Ideal) m g)
  · refine (θ_run (Cert.ReferenceIdeal.defs (F := Ideal)) _ _).mono (fun r h c => ⟨?_, (h c).2⟩) (Ref.run_main m' g')
    rw [(h c).1, (harg c).1, (harg c).2.1, (harg c).2.2]
    exact (Scan.kOut_eq_refOut m c fun i => pre_apply _ _ _ (hpre c) i).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_penalty_at_least_one
public import proofs.«01_k».proof.Proof.Frames
public import proofs.«01_k».proof.Proof.RefRun
public import proofs.«01_k».proof.Proof.ValueEq
public import Idealize.ShloMosaic.Adequacy
public import Idealize.ShloMosaic.Init

@[expose] public section

noncomputable section

namespace Cert.Proof

open Idealize.ShloMosaic Idealize.SL.Sem Cert.Kernel

/-- The certified claim: the frames of the kernel, of its idealization and of the idealized reference, that the
idealization preserves the kernel, and that the idealized kernel computes the idealized reference's result where every
penalty is at least one. -/
theorem claim : Cert.Claim := ⟨Cert.Kernel.Gen.facts, Cert.KernelIdeal.Gen.facts, Cert.ReferenceIdeal.Gen.facts, Cert.Pre_penalty_at_least_one.Gen.facts,
  frame_kernel, frame_ideal, fun m g _ => frame_ideal m g trivial, Ref.frame, fun m g _ => Ref.frame m g trivial, preserves, algebraic⟩

end Cert.Proof

end
